-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_v192) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_v196) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_v40) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_v41) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v72) = v2 c
          ∧ r.2.mem ((c.tc : Thread Cert.Reference3Ideal.nD Cert.Reference3Ideal.τ).loc Cert.Reference3Ideal.main_v73) = v3 c
          ∧ r.2.mem ((c.tc : Thread Cert.Reference3Ideal.nD Cert.Reference3Ideal.τ).loc Cert.Reference3Ideal.main_v46) = v4 c
          ∧ r.2.mem ((c.tc : Thread Cert.Reference3Ideal.nD Cert.Reference3Ideal.τ).loc Cert.Reference3Ideal.main_v53) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)) (v2 : (c : Dev Cert.Kernel4Ideal.nD) → Buf (Elt Ideal) ((c.tc : Thread Cert.Kernel4Ideal.nD Cert.Kernel4Ideal.τ).loc Cert.Kernel4Ideal.main_v24_2)) (v3 : (c : Dev Cert.Kernel4Ideal.nD) → Buf (Elt Ideal) ((c.tc : Thread Cert.Kernel4Ideal.nD Cert.Kernel4Ideal.τ).loc Cert.Kernel4Ideal.main_v24_3)) (v4 : (c : Dev Cert.Kernel4Ideal.nD) → Buf (Elt Ideal) ((c.tc : Thread Cert.Kernel4Ideal.nD Cert.Kernel4Ideal.τ).loc Cert.Kernel4Ideal.main_v24_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_v24_2) = v2 c
          ∧ r.2.mem ((c.tc : Thread Cert.Kernel4Ideal.nD Cert.Kernel4Ideal.τ).loc Cert.Kernel4Ideal.main_v24_3) = v3 c
          ∧ r.2.mem ((c.tc : Thread Cert.Kernel4Ideal.nD Cert.Kernel4Ideal.τ).loc Cert.Kernel4Ideal.main_v24_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v123) = v0 c
          ∧ r.2.mem ((c.tc : Thread Cert.Reference4Ideal.nD Cert.Reference4Ideal.τ).loc Cert.Reference4Ideal.main_v126) = v1 c
          ∧ r.2.mem ((c.tc : Thread Cert.Reference4Ideal.nD Cert.Reference4Ideal.τ).loc Cert.Reference4Ideal.main_v106) = v2 c
          ∧ r.2.mem ((c.tc : Thread Cert.Reference4Ideal.nD Cert.Reference4Ideal.τ).loc Cert.Reference4Ideal.main_v98) = v3 c
          ∧ r.2.mem ((c.tc : Thread Cert.Reference4Ideal.nD Cert.Reference4Ideal.τ).loc Cert.Reference4Ideal.main_v76) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S8192x1024 : Shape := ⟨2, ![8192, 1024]⟩
abbrev S1024x2816 : Shape := ⟨2, ![1024, 2816]⟩
abbrev S2816x1024 : Shape := ⟨2, ![2816, 1024]⟩
abbrev S3x2816 : Shape := ⟨2, ![3, 2816]⟩
abbrev S1x2816 : Shape := ⟨2, ![1, 2816]⟩
abbrev S_ : Shape := ⟨0, ![]⟩

class Facts : Prop where
  bcast_S_S8192x1024 : S_.BroadcastsInDim S8192x1024 (![] : Fin 0 → Fin S8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S3x2816 .f32) (main_arg5 : FVec F S1x2816 .f32) (main_arg6 : FVec F S8192x1024 .f32) : IVec S8192x1024 1 × IVec S1024x2816 1 × IVec S2816x1024 1 × IVec S8192x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S1024x2816 .f32 := subf main_arg2 main_arg2
  let main_cst_0 : FVec F S_ .f32 := constant S_ .f32 0x00000000#32
  let main_v4 : FVec F S1024x2816 .f32 := broadcastInDim S1024x2816 ![] bcast_S_S1024x2816 main_cst_0
  let main_v5 : IVec S1024x2816 1 := cmpf .oeq main_v3 main_v4
  let main_v6 : FVec F S2816x1024 .f32 := subf main_arg3 main_arg3
  let main_cst_1 : FVec F S_ .f32 := constant S_ .f32 0x00000000#32
  let main_v7 : FVec F S2816x1024 .f32 := broadcastInDim S2816x1024 ![] bcast_S_S2816x1024 main_cst_1
  let main_v8 : IVec S2816x1024 1 := cmpf .oeq main_v6 main_v7
  let main_v9 : FVec F S8192x1024 .f32 := subf main_arg6 main_arg6
  let main_cst_2 : FVec F S_ .f32 := constant S_ .f32 0x00000000#32
  let main_v10 : FVec F S8192x1024 .f32 := broadcastInDim S8192x1024 ![] bcast_S_S8192x1024 main_cst_2
  let main_v11 : IVec S8192x1024 1 := cmpf .oeq main_v9 main_v10
  (main_v2, main_v5, main_v8, main_v11)
-- ==== Pre_finite3.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn {F : FTy → Type} [FloatOps F] (main_arg0 : FVec F S8192x1024 .f32) (main_arg1 : FVec F S8192x256 .f32) (main_arg2 : FVec F S8192x1024 .f32) (main_arg3 : FVec F S1x1024 .f32) (main_arg4 : FVec F S1024x1024 .f32) (main_arg5 : FVec F S256x1024 .f32) : IVec S8192x1024 1 × IVec S8192x256 1 × IVec S8192x1024 1 × IVec S1x1024 1 × IVec S1024x1024 1 × IVec S256x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S8192x256 .f32 := subf main_arg1 main_arg1
  let main_cst_0 : FVec F S_ .f32 := constant S_ .f32 0x00000000#32
  let main_v4 : FVec F S8192x256 .f32 := broadcastInDim S8192x256 ![] bcast_S_S8192x256 main_cst_0
  let main_v5 : IVec S8192x256 1 := cmpf .oeq main_v3 main_v4
  let main_v6 : FVec F S8192x1024 .f32 := subf main_arg2 main_arg2
  let main_cst_1 : FVec F S_ .f32 := constant S_ .f32 0x00000000#32
  let main_v7 : FVec F S8192x1024 .f32 := broadcastInDim S8192x1024 ![] bcast_S_S8192x1024 main_cst_1
  let main_v8 : IVec S8192x1024 1 := cmpf .oeq main_v6 main_v7
  let main_v9 : FVec F S1x1024 .f32 := subf main_arg3 main_arg3
  let main_cst_2 : FVec F S_ .f32 := constant S_ .f32 0x00000000#32
  let main_v10 : FVec F S1x1024 .f32 := broadcastInDim S1x1024 ![] bcast_S_S1x1024 main_cst_2
  let main_v11 : IVec S1x1024 1 := cmpf .oeq main_v9 main_v10
  let main_v12 : FVec F S1024x1024 .f32 := subf main_arg4 main_arg4
  let main_cst_3 : FVec F S_ .f32 := constant S_ .f32 0x00000000#32
  let main_v13 : FVec F S1024x1024 .f32 := broadcastInDim S1024x1024 ![] bcast_S_S1024x1024 main_cst_3
  let main_v14 : IVec S1024x1024 1 := cmpf .oeq main_v12 main_v13
  let main_v15 : FVec F S256x1024 .f32 := subf main_arg5 main_arg5
  let main_cst_4 : FVec F S_ .f32 := constant S_ .f32 0x00000000#32
  let main_v16 : FVec F S256x1024 .f32 := broadcastInDim S256x1024 ![] bcast_S_S256x1024 main_cst_4
  let main_v17 : IVec S256x1024 1 := cmpf .oeq main_v15 main_v16
  (main_v2, main_v5, main_v8, main_v11, main_v14, main_v17)
-- ==== Pre_finite4.lean ====
abbrev S8192x1024 : Shape := ⟨2, ![8192, 1024]⟩
abbrev S1x1024 : Shape := ⟨2, ![1, 1024]⟩
abbrev S1024x3072 : Shape := ⟨2, ![1024, 3072]⟩
abbrev S1x512 : Shape := ⟨2, ![1, 512]⟩
abbrev S8192x1536 : Shape := ⟨2, ![8192, 1536]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x3072 : S_.BroadcastsInDim S1024x3072 (![] : Fin 0 → Fin S1024x3072.rank)
  bcast_S_S1x512 : S_.BroadcastsInDim S1x512 (![] : Fin 0 → Fin S1x512.rank)
  bcast_S_S8192x1536 : S_.BroadcastsInDim S8192x1536 (![] : Fin 0 → Fin S8192x1536.rank)
  bcast_S_S8192x512 : S_.BroadcastsInDim S8192x512 (![] : Fin 0 → Fin S8192x512.rank)

variable [Facts]

def fn_part1 {F : FTy → Type} [FloatOps F] (main_arg7 : FVec F S8192x512 .f32) (main_arg8 : FVec F S8192x512 .f32) (main_arg9 : FVec F S8192x512 .f32) (main_v2 : IVec S8192x1024 1) (main_v5 : IVec S1x1024 1) (main_v8 : IVec S1024x3072 1) (main_v11 : IVec S1x512 1) (main_v14 : IVec S1x512 1) (main_v17 : IVec S8192x1536 1) : IVec S8192x1024 1 × IVec S1x1024 1 × IVec S1024x3072 1 × IVec S1x512 1 × IVec S1x512 1 × IVec S8192x1536 1 × IVec S8192x512 1 × IVec S8192x512 1 × IVec S8192x512 1 :=
  let main_v18 : FVec F S8192x512 .f32 := subf main_arg7 main_arg7
  let main_cst_5 : FVec F S_ .f32 := constant S_ .f32 0x00000000#32
  let main_v19 : FVec F S8192x512 .f32 := broadcastInDim S8192x512 ![] bcast_S_S8192x512 main_cst_5
  let main_v20 : IVec S8192x512 1 := cmpf .oeq main_v18 main_v19
  let main_v21 : FVec F S8192x512 .f32 := subf main_arg8 main_arg8
  let main_cst_6 : FVec F S_ .f32 := constant S_ .f32 0x00000000#32
  let main_v22 : FVec F S8192x512 .f32 := broadcastInDim S8192x512 ![] bcast_S_S8192x512 main_cst_6
  let main_v23 : IVec S8192x512 1 := cmpf .oeq main_v21 main_v22
  let main_v24 : FVec F S8192x512 .f32 := subf main_arg9 main_arg9
  let main_cst_7 : FVec F S_ .f32 := constant S_ .f32 0x00000000#32
  let main_v25 : FVec F S8192x512 .f32 := broadcastInDim S8192x512 ![] bcast_S_S8192x512 main_cst_7
  let main_v26 : IVec S8192x512 1 := cmpf .oeq main_v24 main_v25
  (main_v2, main_v5, main_v8, main_v11, main_v14, main_v17, main_v20, main_v23, main_v26)

def fn {F : FTy → Type} [FloatOps F] (main_arg0 : FVec F S8192x1024 .f32) (main_arg1 : FVec F S1x1024 .f32) (main_arg2 : FVec F S1024x3072 .f32) (main_arg3 : FVec F S1x512 .f32) (main_arg4 : FVec F S1x512 .f32) (main_arg5 : FVec F S8192x1024 .f32) (main_arg6 : FVec F S8192x1536 .f32) (main_arg7 : FVec F S8192x512 .f32) (main_arg8 : FVec F S8192x512 .f32) (main_arg9 : FVec F S8192x512 .f32) : IVec S8192x1024 1 × IVec S1x1024 1 × IVec S1024x3072 1 × IVec S1x512 1 × IVec S1x512 1 × IVec S8192x1536 1 × IVec S8192x512 1 × IVec S8192x512 1 × IVec S8192x512 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S1x1024 .f32 := subf main_arg1 main_arg1
  let main_cst_0 : FVec F S_ .f32 := constant S_ .f32 0x00000000#32
  let main_v4 : FVec F S1x1024 .f32 := broadcastInDim S1x1024 ![] bcast_S_S1x1024 main_cst_0
  let main_v5 : IVec S1x1024 1 := cmpf .oeq main_v3 main_v4
  let main_v6 : FVec F S1024x3072 .f32 := subf main_arg2 main_arg2
  let main_cst_1 : FVec F S_ .f32 := constant S_ .f32 0x00000000#32
  let main_v7 : FVec F S1024x3072 .f32 := broadcastInDim S1024x3072 ![] bcast_S_S1024x3072 main_cst_1
  let main_v8 : IVec S1024x3072 1 := cmpf .oeq main_v6 main_v7
  let main_v9 : FVec F S1x512 .f32 := subf main_arg3 main_arg3
  let main_cst_2 : FVec F S_ .f32 := constant S_ .f32 0x00000000#32
  let main_v10 : FVec F S1x512 .f32 := broadcastInDim S1x512 ![] bcast_S_S1x512 main_cst_2
  let main_v11 : IVec S1x512 1 := cmpf .oeq main_v9 main_v10
  let main_v12 : FVec F S1x512 .f32 := subf main_arg4 main_arg4
  let main_cst_3 : FVec F S_ .f32 := constant S_ .f32 0x00000000#32
  let main_v13 : FVec F S1x512 .f32 := broadcastInDim S1x512 ![] bcast_S_S1x512 main_cst_3
  let main_v14 : IVec S1x512 1 := cmpf .oeq main_v12 main_v13
  let main_v15 : FVec F S8192x1536 .f32 := subf main_arg6 main_arg6
  let main_cst_4 : FVec F S_ .f32 := constant S_ .f32 0x00000000#32
  let main_v16 : FVec F S8192x1536 .f32 := broadcastInDim S8192x1536 ![] bcast_S_S8192x1536 main_cst_4
  let main_v17 : IVec S8192x1536 1 := cmpf .oeq main_v15 main_v16
  fn_part1 (F := F) main_arg7 main_arg8 main_arg9 main_v2 main_v5 main_v8 main_v11 main_v14 main_v17
-- ==== Kernel.lean ====
abbrev S8192x1024 : Shape := ⟨2, ![8192, 1024]⟩
abbrev S1024x2816 : Shape := ⟨2, ![1024, 2816]⟩
abbrev S2816x1024 : Shape := ⟨2, ![2816, 1024]⟩
abbrev S3x2816 : Shape := ⟨2, ![3, 2816]⟩
abbrev S1x2816 : Shape := ⟨2, ![1, 2816]⟩
abbrev S8192x2816 : Shape := ⟨2, ![8192, 2816]⟩
abbrev S2x8192x1024 : Shape := ⟨3, ![2, 8192, 1024]⟩
abbrev S512x1024 : Shape := ⟨2, ![512, 1024]⟩
abbrev S512x1408 : Shape := ⟨2, ![512, 1408]⟩
abbrev S16x1408 : Shape := ⟨2, ![16, 1408]⟩
abbrev S1408x1024 : Shape := ⟨2, ![1408, 1024]⟩
abbrev S3x1408 : Shape := ⟨2, ![3, 1408]⟩
abbrev S1x1408 : Shape := ⟨2, ![1, 1408]⟩
abbrev S1x512x1024 : Shape := ⟨3, ![1, 512, 1024]⟩
abbrev S8x1408 : Shape := ⟨2, ![8, 1408]⟩
abbrev S1024x1408 : Shape := ⟨2, ![1024, 1408]⟩
abbrev S_ : Shape := ⟨0, ![]⟩
abbrev S504x1408 : Shape := ⟨2, ![504, 1408]⟩
abbrev S1408 : Shape := ⟨1, ![1408]⟩

abbrev nBuf : Space → Nat
  | .hbm => 24
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S3x2816, .f32⟩
  | .hbm, ⟨5, _⟩ => ⟨S1x2816, .f32⟩
  | .hbm, ⟨6, _⟩ => ⟨S8192x1024, .f32⟩
  | .hbm, ⟨7, _⟩ => ⟨S8192x2816, .f32⟩
  | .hbm, ⟨8, _⟩ => ⟨S8192x2816, .f32⟩
  | .hbm, ⟨9, _⟩ => ⟨S8192x1024, .bf16⟩
  | .hbm, ⟨10, _⟩ => ⟨S8192x1024, .bf16⟩
  | .hbm, ⟨11, _⟩ => ⟨S8192x2816, .bf16⟩
  | .hbm, ⟨12, _⟩ => ⟨S8192x2816, .bf16⟩
  | .hbm, ⟨13, _⟩ => ⟨S2816x1024, .f32⟩
  | .hbm, ⟨14, _⟩ => ⟨S2816x1024, .bf16⟩
  | .hbm, ⟨15, _⟩ => ⟨S2816x1024, .f32⟩
  | .hbm, ⟨16, _⟩ => ⟨S2816x1024, .bf16⟩
  | .hbm, ⟨17, _⟩ => ⟨S2816x1024, .bf16⟩
  | .hbm, ⟨18, _⟩ => ⟨S2x8192x1024, .bf16⟩
  | .hbm, ⟨19, _⟩ => ⟨S2816x1024, .bf16⟩
  | .hbm, ⟨20, _⟩ => ⟨S2816x1024, .bf16⟩
  | .hbm, ⟨21, _⟩ => ⟨S2816x1024, .bf16⟩
  | .hbm, ⟨22, _⟩ => ⟨S3x2816, .f32⟩
  | .hbm, ⟨23, _⟩ => ⟨S1x2816, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1408, .bf16⟩
  | .local _ .vmem, ⟨5, _⟩ => ⟨S512x1408, .bf16⟩
  | .local _ .vmem, ⟨6, _⟩ => ⟨S16x1408, .bf16⟩
  | .local _ .vmem, ⟨7, _⟩ => ⟨S16x1408, .bf16⟩
  | .local _ .vmem, ⟨8, _⟩ => ⟨S512x1408, .bf16⟩
  | .local _ .vmem, ⟨9, _⟩ => ⟨S512x1408, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S3x1408, .f32⟩
  | .local _ .vmem, ⟨14, _⟩ => ⟨S3x1408, .f32⟩
  | .local _ .vmem, ⟨15, _⟩ => ⟨S1x1408, .f32⟩
  | .local _ .vmem, ⟨16, _⟩ => ⟨S1x1408, .f32⟩
  | .local _ .vmem, ⟨17, _⟩ => ⟨S1x512x1024, .bf16⟩
  | .local _ .vmem, ⟨18, _⟩ => ⟨S1x512x1024, .bf16⟩
  | .local _ .vmem, ⟨19, _⟩ => ⟨S3x1408, .f32⟩
  | .local _ .vmem, ⟨20, _⟩ => ⟨S3x1408, .f32⟩
  | .local _ .vmem, ⟨21, _⟩ => ⟨S1x1408, .f32⟩
  | .local _ .vmem, ⟨22, _⟩ => ⟨S1x1408, .f32⟩
  | .local _ .vmem, ⟨23, _⟩ => ⟨S8x1408, .f32⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S1408x1024, .f32⟩
  | .local _ .vmem, ⟨28, _⟩ => ⟨S1024x1408, .f32⟩
  | .local _ .vmem, ⟨29, _⟩ => ⟨S1024x1408, .f32⟩
  | .local _ .vmem, ⟨30, _⟩ => ⟨S1408x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32_97 : BitVec 32 := 15#32
  let v201 : BitVec 1 := Scalar.cmpi .eq arg1 c15_i32_97
  let v202 : BitVec 32 := Scalar.extui v201
  let c0_i32_98 : BitVec 32 := 0#32
  let v203 : BitVec 1 := Scalar.cmpi .ne v202 c0_i32_98
  v203

def k0_mult1 (i : grid0.Coords) : BitVec 32 :=
  let arg0 : BitVec 32 := BitVec.ofNat 32 (i 0).val
  let c1408_i32 : BitVec 32 := 1408#32
  let v204 : BitVec 32 := Scalar.muli arg0 c1408_i32
  v204
def k0_off1 (i : grid0.Coords) : Fin 2 → Nat :=
  let arg0 : BitVec 32 := BitVec.ofNat 32 (i 0).val
  let c1408_i32 : BitVec 32 := 1408#32
  let v204 : BitVec 32 := Scalar.muli arg0 c1408_i32
  let v205 : BitVec 32 := v204
  let c0_i32_103 : BitVec 32 := 0#32
  ![v205.toNat, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1408x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x1024 : Shape := ⟨2, ![8192, 1024]⟩
abbrev S1024x2816 : Shape := ⟨2, ![1024, 2816]⟩
abbrev S2816x1024 : Shape := ⟨2, ![2816, 1024]⟩
abbrev S3x2816 : Shape := ⟨2, ![3, 2816]⟩
abbrev S1x2816 : Shape := ⟨2, ![1, 2816]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S2816 : Shape := ⟨1, ![2816]⟩
abbrev S1024x1408 : Shape := ⟨2, ![1024, 1408]⟩
abbrev S1408x1024 : Shape := ⟨2, ![1408, 1024]⟩
abbrev S3x1408 : Shape := ⟨2, ![3, 1408]⟩
abbrev S1x1408 : Shape := ⟨2, ![1, 1408]⟩
abbrev S8192x1408 : Shape := ⟨2, ![8192, 1408]⟩
abbrev S2x1408 : Shape := ⟨2, ![2, 1408]⟩
abbrev S8194x1408 : Shape := ⟨2, ![8194, 1408]⟩
abbrev S1408 : Shape := ⟨1, ![1408]⟩
abbrev S1x8192x1024 : Shape := ⟨3, ![1, 8192, 1024]⟩
abbrev S2x8192x1024 : Shape := ⟨3, ![2, 8192, 1024]⟩

abbrev nBuf : Space → Nat
  | .hbm => 274
  | .vmem => 0
  | .smem => 0
  | _ => 0

abbrev hbmTy0_0 (i : Nat) : BufTy := match i % 128 with
  | 0 => ⟨S8192x1024, .f32⟩
  | 1 => ⟨S1024x2816, .f32⟩
  | 2 => ⟨S1024x2816, .f32⟩
  | 3 => ⟨S2816x1024, .f32⟩
  | 4 => ⟨S3x2816, .f32⟩
  | 5 => ⟨S1x2816, .f32⟩
  | 6 => ⟨S8192x1024, .f32⟩
  | 7 => ⟨S8192x2816, .f32⟩
  | 8 => ⟨S_, .f32⟩
  | 9 => ⟨S2x2816, .f32⟩
  | 10 => ⟨S8194x2816, .f32⟩
  | 11 => ⟨S_, .f32⟩
  | 12 => ⟨S2x2816, .f32⟩
  | 13 => ⟨S8192x2816, .f32⟩
  | 14 => ⟨S1x2816, .f32⟩
  | 15 => ⟨S2816, .f32⟩
  | 16 => ⟨S1x2816, .f32⟩
  | 17 => ⟨S8192x2816, .f32⟩
  | 18 => ⟨S8192x2816, .f32⟩
  | 19 => ⟨S8192x2816, .f32⟩
  | 20 => ⟨S1x2816, .f32⟩
  | 21 => ⟨S2816, .f32⟩
  | 22 => ⟨S1x2816, .f32⟩
  | 23 => ⟨S8192x2816, .f32⟩
  | 24 => ⟨S8192x2816, .f32⟩
  | 25 => ⟨S8192x2816, .f32⟩
  | 26 => ⟨S8192x2816, .f32⟩
  | 27 => ⟨S1x2816, .f32⟩
  | 28 => ⟨S2816, .f32⟩
  | 29 => ⟨S1x2816, .f32⟩
  | 30 => ⟨S8192x2816, .f32⟩
  | 31 => ⟨S8192x2816, .f32⟩
  | 32 => ⟨S8192x2816, .f32⟩
  | 33 => ⟨S8192x2816, .f32⟩
  | 34 => ⟨S8192x2816, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S_, .f32⟩
  | 41 => ⟨S8192x2816, .f32⟩
  | 42 => ⟨S8192x2816, .f32⟩
  | 43 => ⟨S_, .f32⟩
  | 44 => ⟨S8192x2816, .f32⟩
  | 45 => ⟨S8192x2816, .f32⟩
  | 46 => ⟨S8192x2816, .f32⟩
  | 47 => ⟨S8192x2816, .f32⟩
  | 48 => ⟨S8192x2816, .f32⟩
  | 49 => ⟨S8192x2816, .f32⟩
  | 50 => ⟨S8192x1024, .f32⟩
  | 51 => ⟨S1024x2816, .f32⟩
  | 52 => ⟨S2816x1024, .f32⟩
  | 53 => ⟨S8192x2816, .f32⟩
  | 54 => ⟨S8192x2816, .f32⟩
  | 55 => ⟨S8192x2816, .f32⟩
  | 56 => ⟨S2816x1024, .f32⟩
  | 57 => ⟨S1024x2816, .f32⟩
  | 58 => ⟨S8192x1024, .f32⟩
  | 59 => ⟨S8192x2816, .f32⟩
  | 60 => ⟨S8192x2816, .f32⟩
  | 61 => ⟨S8192x2816, .f32⟩
  | 62 => ⟨S8192x2816, .f32⟩
  | 63 => ⟨S_, .f32⟩
  | 64 => ⟨S2816, .f32⟩
  | 65 => ⟨S1x2816, .f32⟩
  | 66 => ⟨S8192x2816, .f32⟩
  | 67 => ⟨S_, .f32⟩
  | 68 => ⟨S2816, .f32⟩
  | 69 => ⟨S1x2816, .f32⟩
  | 70 => ⟨S8192x2816, .f32⟩
  | 71 => ⟨S8192x2816, .f32⟩
  | 72 => ⟨S_, .f32⟩
  | 73 => ⟨S2816, .f32⟩
  | 74 => ⟨S1x2816, .f32⟩
  | 75 => ⟨S_, .f32⟩
  | 76 => ⟨S3x2816, .f32⟩
  | 77 => ⟨S_, .f32⟩
  | 78 => ⟨S8194x2816, .f32⟩
  | 79 => ⟨S8192x2816, .f32⟩
  | 80 => ⟨S_, .f32⟩
  | 81 => ⟨S2816, .f32⟩
  | 82 => ⟨S1x2816, .f32⟩
  | 83 => ⟨S8192x2816, .f32⟩
  | 84 => ⟨S8192x2816, .f32⟩
  | 85 => ⟨S_, .f32⟩
  | 86 => ⟨S2816, .f32⟩
  | 87 => ⟨S1x2816, .f32⟩
  | 88 => ⟨S_, .f32⟩
  | 89 => ⟨S3x2816, .f32⟩
  | 90 => ⟨S3x2816, .f32⟩
  | 91 => ⟨S_, .f32⟩
  | 92 => ⟨S8194x2816, .f32⟩
  | 93 => ⟨S8194x2816, .f32⟩
  | 94 => ⟨S8192x2816, .f32⟩
  | 95 => ⟨S_, .f32⟩
  | 96 => ⟨S2816, .f32⟩
  | 97 => ⟨S1x2816, .f32⟩
  | 98 => ⟨S8192x2816, .f32⟩
  | 99 => ⟨S8192x2816, .f32⟩
  | 100 => ⟨S_, .f32⟩
  | 101 => ⟨S2816, .f32⟩
  | 102 => ⟨S1x2816, .f32⟩
  | 103 => ⟨S_, .f32⟩
  | 104 => ⟨S3x2816, .f32⟩
  | 105 => ⟨S3x2816, .f32⟩
  | 106 => ⟨S_, .f32⟩
  | 107 => ⟨S8194x2816, .f32⟩
  | 108 => ⟨S8194x2816, .f32⟩
  | 109 => ⟨S2x2816, .f32⟩
  | 110 => ⟨S8192x2816, .f32⟩
  | 111 => ⟨S2816x1024, .f32⟩
  | 112 => ⟨S1024x2816, .f32⟩
  | 113 => ⟨S8192x1024, .f32⟩
  | 114 => ⟨S8192x1024, .f32⟩
  | 115 => ⟨S1024x1408, .f32⟩
  | 116 => ⟨S1024x1408, .f32⟩
  | 117 => ⟨S1408x1024, .f32⟩
  | 118 => ⟨S3x1408, .f32⟩
  | 119 => ⟨S1x1408, .f32⟩
  | 120 => ⟨S8192x1408, .f32⟩
  | 121 => ⟨S_, .f32⟩
  | 122 => ⟨S2x1408, .f32⟩
  | 123 => ⟨S8194x1408, .f32⟩
  | 124 => ⟨S_, .f32⟩
  | 125 => ⟨S2x1408, .f32⟩
  | 126 => ⟨S8192x1408, .f32⟩
  | 127 => ⟨S1x1408, .f32⟩
  | _ => ⟨S8192x1024, .f32⟩

abbrev hbmTy0_1 (i : Nat) : BufTy := match i % 128 with
  | 0 => ⟨S1408, .f32⟩
  | 1 => ⟨S1x1408, .f32⟩
  | 2 => ⟨S8192x1408, .f32⟩
  | 3 => ⟨S8192x1408, .f32⟩
  | 4 => ⟨S8192x1408, .f32⟩
  | 5 => ⟨S1x1408, .f32⟩
  | 6 => ⟨S1408, .f32⟩
  | 7 => ⟨S1x1408, .f32⟩
  | 8 => ⟨S8192x1408, .f32⟩
  | 9 => ⟨S8192x1408, .f32⟩
  | 10 => ⟨S8192x1408, .f32⟩
  | 11 => ⟨S8192x1408, .f32⟩
  | 12 => ⟨S1x1408, .f32⟩
  | 13 => ⟨S1408, .f32⟩
  | 14 => ⟨S1x1408, .f32⟩
  | 15 => ⟨S8192x1408, .f32⟩
  | 16 => ⟨S8192x1408, .f32⟩
  | 17 => ⟨S8192x1408, .f32⟩
  | 18 => ⟨S8192x1408, .f32⟩
  | 19 => ⟨S8192x1408, .f32⟩
  | 20 => ⟨S8192x1408, .f32⟩
  | 21 => ⟨S8192x1408, .f32⟩
  | 22 => ⟨S_, .f32⟩
  | 23 => ⟨S8192x1408, .f32⟩
  | 24 => ⟨S8192x1408, .f32⟩
  | 25 => ⟨S_, .f32⟩
  | 26 => ⟨S8192x1408, .f32⟩
  | 27 => ⟨S8192x1408, .f32⟩
  | 28 => ⟨S_, .f32⟩
  | 29 => ⟨S8192x1408, .f32⟩
  | 30 => ⟨S8192x1408, .f32⟩
  | 31 => ⟨S8192x1408, .f32⟩
  | 32 => ⟨S8192x1408, .f32⟩
  | 33 => ⟨S8192x1408, .f32⟩
  | 34 => ⟨S8192x1408, .f32⟩
  | 35 => ⟨S8192x1024, .f32⟩
  | 36 => ⟨S8192x1408, .f32⟩
  | 37 => ⟨S8192x1408, .f32⟩
  | 38 => ⟨S8192x1408, .f32⟩
  | 39 => ⟨S8192x1024, .f32⟩
  | 40 => ⟨S8192x1408, .f32⟩
  | 41 => ⟨S8192x1408, .f32⟩
  | 42 => ⟨S8192x1408, .f32⟩
  | 43 => ⟨S8192x1408, .f32⟩
  | 44 => ⟨S8192x1408, .f32⟩
  | 45 => ⟨S8192x1408, .f32⟩
  | 46 => ⟨S_, .f32⟩
  | 47 => ⟨S8194x1408, .f32⟩
  | 48 => ⟨S8192x1408, .f32⟩
  | 49 => ⟨S8192x1408, .f32⟩
  | 50 => ⟨S_, .f32⟩
  | 51 => ⟨S8194x1408, .f32⟩
  | 52 => ⟨S8194x1408, .f32⟩
  | 53 => ⟨S8192x1408, .f32⟩
  | 54 => ⟨S8192x1408, .f32⟩
  | 55 => ⟨S_, .f32⟩
  | 56 => ⟨S8194x1408, .f32⟩
  | 57 => ⟨S8194x1408, .f32⟩
  | 58 => ⟨S2x1408, .f32⟩
  | 59 => ⟨S8192x1408, .f32⟩
  | 60 => ⟨S8192x1024, .f32⟩
  | 61 => ⟨S8192x1024, .f32⟩
  | 62 => ⟨S1024x1408, .f32⟩
  | 63 => ⟨S1024x1408, .f32⟩
  | 64 => ⟨S1408x1024, .f32⟩
  | 65 => ⟨S3x1408, .f32⟩
  | 66 => ⟨S1x1408, .f32⟩
  | 67 => ⟨S8192x1408, .f32⟩
  | 68 => ⟨S_, .f32⟩
  | 69 => ⟨S2x1408, .f32⟩
  | 70 => ⟨S8194x1408, .f32⟩
  | 71 => ⟨S_, .f32⟩
  | 72 => ⟨S2x1408, .f32⟩
  | 73 => ⟨S8192x1408, .f32⟩
  | 74 => ⟨S1x1408, .f32⟩
  | 75 => ⟨S1408, .f32⟩
  | 76 => ⟨S1x1408, .f32⟩
  | 77 => ⟨S8192x1408, .f32⟩
  | 78 => ⟨S8192x1408, .f32⟩
  | 79 => ⟨S8192x1408, .f32⟩
  | 80 => ⟨S1x1408, .f32⟩
  | 81 => ⟨S1408, .f32⟩
  | 82 => ⟨S1x1408, .f32⟩
  | 83 => ⟨S8192x1408, .f32⟩
  | 84 => ⟨S8192x1408, .f32⟩
  | 85 => ⟨S8192x1408, .f32⟩
  | 86 => ⟨S8192x1408, .f32⟩
  | 87 => ⟨S1x1408, .f32⟩
  | 88 => ⟨S1408, .f32⟩
  | 89 => ⟨S1x1408, .f32⟩
  | 90 => ⟨S8192x1408, .f32⟩
  | 91 => ⟨S8192x1408, .f32⟩
  | 92 => ⟨S8192x1408, .f32⟩
  | 93 => ⟨S8192x1408, .f32⟩
  | 94 => ⟨S8192x1408, .f32⟩
  | 95 => ⟨S8192x1408, .f32⟩
  | 96 => ⟨S8192x1408, .f32⟩
  | 97 => ⟨S_, .f32⟩
  | 98 => ⟨S8192x1408, .f32⟩
  | 99 => ⟨S8192x1408, .f32⟩
  | 100 => ⟨S_, .f32⟩
  | 101 => ⟨S8192x1408, .f32⟩
  | 102 => ⟨S8192x1408, .f32⟩
  | 103 => ⟨S_, .f32⟩
  | 104 => ⟨S8192x1408, .f32⟩
  | 105 => ⟨S8192x1408, .f32⟩
  | 106 => ⟨S8192x1408, .f32⟩
  | 107 => ⟨S8192x1408, .f32⟩
  | 108 => ⟨S8192x1408, .f32⟩
  | 109 => ⟨S8192x1408, .f32⟩
  | 110 => ⟨S8192x1024, .f32⟩
  | 111 => ⟨S8192x1408, .f32⟩
  | 112 => ⟨S8192x1408, .f32⟩
  | 113 => ⟨S8192x1408, .f32⟩
  | 114 => ⟨S8192x1024, .f32⟩
  | 115 => ⟨S8192x1408, .f32⟩
  | 116 => ⟨S8192x1408, .f32⟩
  | 117 => ⟨S8192x1408, .f32⟩
  | 118 => ⟨S8192x1408, .f32⟩
  | 119 => ⟨S8192x1408, .f32⟩
  | 120 => ⟨S8192x1408, .f32⟩
  | 121 => ⟨S_, .f32⟩
  | 122 => ⟨S8194x1408, .f32⟩
  | 123 => ⟨S8192x1408, .f32⟩
  | 124 => ⟨S8192x1408, .f32⟩
  | 125 => ⟨S_, .f32⟩
  | 126 => ⟨S8194x1408, .f32⟩
  | 127 => ⟨S8194x1408, .f32⟩
  | _ => ⟨S8192x1024, .f32⟩

abbrev hbmTy0_2 (i : Nat) : BufTy := match i % 128 with
  | 0 => ⟨S8192x1408, .f32⟩
  | 1 => ⟨S8192x1408, .f32⟩
  | 2 => ⟨S_, .f32⟩
  | 3 => ⟨S8194x1408, .f32⟩
  | 4 => ⟨S8194x1408, .f32⟩
  | 5 => ⟨S2x1408, .f32⟩
  | 6 => ⟨S8192x1408, .f32⟩
  | 7 => ⟨S8192x1024, .f32⟩
  | 8 => ⟨S8192x1024, .f32⟩
  | 9 => ⟨S1x8192x1024, .f32⟩
  | 10 => ⟨S1x8192x1024, .f32⟩
  | 11 => ⟨S2x8192x1024, .f32⟩
  | 12 => ⟨S2x8192x1024, .bf16⟩
  | 13 => ⟨S2816x1024, .bf16⟩
  | 14 => ⟨S2816x1024, .f32⟩
  | 15 => ⟨S2816x1024, .bf16⟩
  | 16 => ⟨S2816x1024, .f32⟩
  | 17 => ⟨S2816x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v26_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v26_1 : Ref sig .tc := ⟨.hbm, 46, rfl⟩
abbrev main_v26_0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_cst_1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_v47 : Ref sig .tc := ⟨.hbm, 74, rfl⟩
abbrev main_cst_4 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_7 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_cst_13 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_14 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_call2_v0 : Ref sig .tc := ⟨.hbm, 148, rfl⟩
abbrev main_call2_v1 : Ref sig .tc := ⟨.hbm, 149, rfl⟩
abbrev main_call2_cst : Ref sig .tc := ⟨.hbm, 150, rfl⟩
abbrev main_call2_v2 : Ref sig .tc := ⟨.hbm, 151, rfl⟩
abbrev main_call2_v3 : Ref sig .tc := ⟨.hbm, 152, rfl⟩
abbrev main_call2_cst_0 : Ref sig .tc := ⟨.hbm, 153, rfl⟩
abbrev main_call2_v4 : Ref sig .tc := ⟨.hbm, 154, rfl⟩
abbrev main_v109_2 : Ref sig .tc := ⟨.hbm, 155, rfl⟩
abbrev main_call2_cst_1 : Ref sig .tc := ⟨.hbm, 156, rfl⟩
abbrev main_call2_v6 : Ref sig .tc := ⟨.hbm, 157, rfl⟩
abbrev main_call2_v7 : Ref sig .tc := ⟨.hbm, 158, rfl⟩
abbrev main_v109_1 : Ref sig .tc := ⟨.hbm, 159, rfl⟩
abbrev main_v109_0 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_16 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_17 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_18 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_19 : Ref sig .tc := ⟨.hbm, 196, rfl⟩
abbrev main_v139 : Ref sig .tc := ⟨.hbm, 197, rfl⟩
abbrev main_v140 : Ref sig .tc := ⟨.hbm, 198, rfl⟩
abbrev main_cst_20 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_call4_v0 : Ref sig .tc := ⟨.hbm, 223, rfl⟩
abbrev main_call4_v1 : Ref sig .tc := ⟨.hbm, 224, rfl⟩
abbrev main_call4_cst : Ref sig .tc := ⟨.hbm, 225, rfl⟩
abbrev main_call4_v2 : Ref sig .tc := ⟨.hbm, 226, rfl⟩
abbrev main_call4_v3 : Ref sig .tc := ⟨.hbm, 227, rfl⟩
abbrev main_call4_cst_0 : Ref sig .tc := ⟨.hbm, 228, rfl⟩
abbrev main_call4_v4 : Ref sig .tc := ⟨.hbm, 229, rfl⟩
abbrev main_v164_2 : Ref sig .tc := ⟨.hbm, 230, rfl⟩
abbrev main_call4_cst_1 : Ref sig .tc := ⟨.hbm, 231, rfl⟩
abbrev main_call4_v6 : Ref sig .tc := ⟨.hbm, 232, rfl⟩
abbrev main_call4_v7 : Ref sig .tc := ⟨.hbm, 233, rfl⟩
abbrev main_v164_1 : Ref sig .tc := ⟨.hbm, 234, rfl⟩
abbrev main_v164_0 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_call5_v0 : Ref sig .tc := ⟨.hbm, 243, rfl⟩
abbrev main_call5_v1 : Ref sig .tc := ⟨.hbm, 244, rfl⟩
abbrev main_call5_v2 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_cst_21 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_cst_22 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_cst_23 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S3x2816 : Shape := ⟨2, ![3, 2816]⟩
abbrev S1x2816 : Shape := ⟨2, ![1, 2816]⟩
abbrev S8192x2816 : Shape := ⟨2, ![8192, 2816]⟩
abbrev S512x1024 : Shape := ⟨2, ![512, 1024]⟩
abbrev S512x2816 : Shape := ⟨2, ![512, 2816]⟩
abbrev S8x2816 : Shape := ⟨2, ![8, 2816]⟩
abbrev S512 : Shape := ⟨1, ![512]⟩
abbrev S512x1 : Shape := ⟨2, ![512, 1]⟩
abbrev S504x2816 : Shape := ⟨2, ![504, 2816]⟩

abbrev nBuf : Space → Nat
  | .hbm => 16
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S3x2816, .f32⟩
  | .hbm, ⟨6, _⟩ => ⟨S1x2816, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x2816, .bf16⟩
  | .hbm, ⟨13, _⟩ => ⟨S8192x2816, .bf16⟩
  | .hbm, ⟨14, _⟩ => ⟨S8192x1024, .bf16⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S3x2816, .f32⟩
  | .local _ .vmem, ⟨7, _⟩ => ⟨S1x2816, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S8x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S3x2816 : Shape := ⟨2, ![3, 2816]⟩
abbrev S1x2816 : Shape := ⟨2, ![1, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S2x2816 : Shape := ⟨2, ![2, 2816]⟩
abbrev S8194x2816 : Shape := ⟨2, ![8194, 2816]⟩
abbrev S2816 : Shape := ⟨1, ![2816]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S3x2816, .f32⟩
  | .hbm, ⟨6, _⟩ => ⟨S1x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S_, .f32⟩
  | .hbm, ⟨24, _⟩ => ⟨S2x2816, .f32⟩
  | .hbm, ⟨25, _⟩ => ⟨S8194x2816, .f32⟩
  | .hbm, ⟨26, _⟩ => ⟨S8192x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S1x2816, .f32⟩
  | .hbm, ⟨34, _⟩ => ⟨S2816, .f32⟩
  | .hbm, ⟨35, _⟩ => ⟨S1x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S1x2816, .f32⟩
  | .hbm, ⟨41, _⟩ => ⟨S2816, .f32⟩
  | .hbm, ⟨42, _⟩ => ⟨S1x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x1024, .f32⟩
  | .hbm, ⟨60, _⟩ => ⟨S8192x1024, .f32⟩
  | .hbm, ⟨61, _⟩ => ⟨S8192x2816, .f32⟩
  | .hbm, ⟨62, _⟩ => ⟨S8192x2816, .bf16⟩
  | .hbm, ⟨63, _⟩ => ⟨S8192x2816, .f32⟩
  | .hbm, ⟨64, _⟩ => ⟨S8192x2816, .bf16⟩
  | .hbm, ⟨65, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel3.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S256x1024, .f32⟩
  | .hbm, ⟨6, _⟩ => ⟨S1024x1024, .bf16⟩
  | .hbm, ⟨7, _⟩ => ⟨S256x1024, .bf16⟩
  | .hbm, ⟨8, _⟩ => ⟨S8192x1024, .f32⟩
  | .hbm, ⟨9, _⟩ => ⟨S8192x1024, .bf16⟩
  | .hbm, ⟨10, _⟩ => ⟨S8x128, .f32⟩
  | .hbm, ⟨11, _⟩ => ⟨S1024x1024, .bf16⟩
  | .hbm, ⟨12, _⟩ => ⟨S256x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x128, .f32⟩
  | .local _ .vmem, ⟨14, _⟩ => ⟨S1024x1024, .bf16⟩
  | .local _ .vmem, ⟨15, _⟩ => ⟨S256x1024, .f32⟩
  | .local _ .vmem, ⟨16, _⟩ => ⟨S1x1024, .f32⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v99 : BitVec 1 := Scalar.cmpi .eq arg0 c15_i32
  let v100 : BitVec 32 := Scalar.extui v99
  let c0_i32_53 : BitVec 32 := 0#32
  let v101 : BitVec 1 := Scalar.cmpi .ne v100 c0_i32_53
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024 : Shape := ⟨1, ![1024]⟩
abbrev S8x128 : Shape := ⟨2, ![8, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S256x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S1024x256, .f32⟩
  | .hbm, ⟨67, _⟩ => ⟨S256x1024, .f32⟩
  | .hbm, ⟨68, _⟩ => ⟨S8192x1024, .f32⟩
  | .hbm, ⟨69, _⟩ => ⟨S1024x1024, .f32⟩
  | .hbm, ⟨70, _⟩ => ⟨S1024x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | .hbm, ⟨97, _⟩ => ⟨S8x128, .f32⟩
  | .hbm, ⟨98, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_cst_11 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_cst_13 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x3072 : Shape := ⟨2, ![1024, 3072]⟩
abbrev S1x512 : Shape := ⟨2, ![1, 512]⟩
abbrev S8192x1536 : Shape := ⟨2, ![8192, 1536]⟩
abbrev S8192x512 : Shape := ⟨2, ![8192, 512]⟩
abbrev S256x256 : Shape := ⟨2, ![256, 256]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S8x1024x384 : Shape := ⟨3, ![8, 1024, 384]⟩
abbrev S512x512 : Shape := ⟨2, ![512, 512]⟩
abbrev S512x1536 : Shape := ⟨2, ![512, 1536]⟩
abbrev S512x1024 : Shape := ⟨2, ![512, 1024]⟩
abbrev S1024x384 : Shape := ⟨2, ![1024, 384]⟩
abbrev S512x256 : Shape := ⟨2, ![512, 256]⟩
abbrev S512 : Shape := ⟨1, ![512]⟩
abbrev S512x3072 : Shape := ⟨2, ![512, 3072]⟩
abbrev S512x1 : Shape := ⟨2, ![512, 1]⟩
abbrev S1024 : Shape := ⟨1, ![1024]⟩
abbrev S1x1024x384 : Shape := ⟨3, ![1, 1024, 384]⟩

abbrev nBuf : Space → Nat
  | .hbm => 76
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S1x512, .f32⟩
  | .hbm, ⟨4, _⟩ => ⟨S1x512, .f32⟩
  | .hbm, ⟨5, _⟩ => ⟨S8192x1024, .f32⟩
  | .hbm, ⟨6, _⟩ => ⟨S8192x1536, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S256x256, .i32⟩
  | .hbm, ⟨11, _⟩ => ⟨S_, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S256x256, .i32⟩
  | .hbm, ⟨20, _⟩ => ⟨S256x256, .i32⟩
  | .hbm, ⟨21, _⟩ => ⟨S_, .i32⟩
  | .hbm, ⟨22, _⟩ => ⟨S256x256, .i32⟩
  | .hbm, ⟨23, _⟩ => ⟨S256x256, .i1⟩
  | .hbm, ⟨24, _⟩ => ⟨S256x256, .i1⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S_, .i32⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i1⟩
  | .hbm, ⟨38, _⟩ => ⟨S256x256, .i32⟩
  | .hbm, ⟨39, _⟩ => ⟨S256x256, .i32⟩
  | .hbm, ⟨40, _⟩ => ⟨S_, .i32⟩
  | .hbm, ⟨41, _⟩ => ⟨S256x256, .i32⟩
  | .hbm, ⟨42, _⟩ => ⟨S256x256, .i1⟩
  | .hbm, ⟨43, _⟩ => ⟨S256x256, .i1⟩
  | .hbm, ⟨44, _⟩ => ⟨S_, .i32⟩
  | .hbm, ⟨45, _⟩ => ⟨S256x256, .i32⟩
  | .hbm, ⟨46, _⟩ => ⟨S256x256, .i32⟩
  | .hbm, ⟨47, _⟩ => ⟨S256x256, .i32⟩
  | .hbm, ⟨48, _⟩ => ⟨S256x256, .i1⟩
  | .hbm, ⟨49, _⟩ => ⟨S256x256, .f32⟩
  | .hbm, ⟨50, _⟩ => ⟨S256x256, .bf16⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S1024x1024, .f32⟩
  | .hbm, ⟨67, _⟩ => ⟨S8192x1024, .f32⟩
  | .hbm, ⟨68, _⟩ => ⟨S8192x1536, .bf16⟩
  | .hbm, ⟨69, _⟩ => ⟨S8192x1024, .bf16⟩
  | .hbm, ⟨70, _⟩ => ⟨S1024x3072, .bf16⟩
  | .hbm, ⟨71, _⟩ => ⟨S8192x1024, .f32⟩
  | .hbm, ⟨72, _⟩ => ⟨S8x1024x384, .bf16⟩
  | .hbm, ⟨73, _⟩ => ⟨S1x1024, .f32⟩
  | .hbm, ⟨74, _⟩ => ⟨S1x512, .f32⟩
  | .hbm, ⟨75, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1536, .bf16⟩
  | .local _ .vmem, ⟨7, _⟩ => ⟨S512x1536, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1024x3072, .bf16⟩
  | .local _ .vmem, ⟨16, _⟩ => ⟨S1x512, .f32⟩
  | .local _ .vmem, ⟨17, _⟩ => ⟨S1x512, .f32⟩
  | .local _ .vmem, ⟨18, _⟩ => ⟨S256x256, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1x512, .f32⟩
  | .local _ .vmem, ⟨23, _⟩ => ⟨S1x512, .f32⟩
  | .local _ .vmem, ⟨24, _⟩ => ⟨S1024x3072, .f32⟩
  | .local _ .vmem, ⟨25, _⟩ => ⟨S1024x384, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_cst : Ref sig .tc := ⟨.hbm, 52, rfl⟩
abbrev main_v8 : Ref sig .tc := ⟨.hbm, 53, rfl⟩
abbrev main_v9 : Ref sig .tc := ⟨.hbm, 54, rfl⟩
abbrev main_cst_1 : Ref sig .tc := ⟨.hbm, 55, rfl⟩
abbrev main_v10 : Ref sig .tc := ⟨.hbm, 56, rfl⟩
abbrev main_v11 : Ref sig .tc := ⟨.hbm, 57, rfl⟩
abbrev main_cst_2 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24_0 : Ref sig .tc := ⟨.hbm, 71, rfl⟩
abbrev main_v24_1 : Ref sig .tc := ⟨.hbm, 72, rfl⟩
abbrev main_v24_2 : Ref sig .tc := ⟨.hbm, 73, rfl⟩
abbrev main_v24_3 : Ref sig .tc := ⟨.hbm, 74, rfl⟩
abbrev main_v24_4 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S8192x1024 : Shape := ⟨2, ![8192, 1024]⟩
abbrev S1x1024 : Shape := ⟨2, ![1, 1024]⟩
abbrev S1024x3072 : Shape := ⟨2, ![1024, 3072]⟩
abbrev S1x512 : Shape := ⟨2, ![1, 512]⟩
abbrev S8192x1536 : Shape := ⟨2, ![8192, 1536]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S8192x8x64 : Shape := ⟨3, ![8192, 8, 64]⟩
abbrev S1x8x64 : Shape := ⟨3, ![1, 8, 64]⟩
abbrev S8192x8 : Shape := ⟨2, ![8192, 8]⟩
abbrev S8192x8x1 : Shape := ⟨3, ![8192, 8, 1]⟩
abbrev S8x64 : Shape := ⟨2, ![8, 64]⟩
abbrev S3072x1024 : Shape := ⟨2, ![3072, 1024]⟩
abbrev S1024 : Shape := ⟨1, ![1024]⟩
abbrev S1024x8x384 : Shape := ⟨3, ![1024, 8, 384]⟩
abbrev S8x1024x384 : Shape := ⟨3, ![8, 1024, 384]⟩

abbrev nBuf : Space → Nat
  | .hbm => 161
  | .vmem => 0
  | .smem => 0
  | _ => 0

abbrev hbmTy0_0 (i : Nat) : BufTy := match i % 128 with
  | 0 => ⟨S8192x1024, .f32⟩
  | 1 => ⟨S1x1024, .f32⟩
  | 2 => ⟨S1024x3072, .f32⟩
  | 3 => ⟨S1x512, .f32⟩
  | 4 => ⟨S1x512, .f32⟩
  | 5 => ⟨S8192x1024, .f32⟩
  | 6 => ⟨S8192x1536, .f32⟩
  | 7 => ⟨S8192x512, .f32⟩
  | 8 => ⟨S8192x512, .f32⟩
  | 9 => ⟨S8192x512, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S8192x3072, .f32⟩
  | 30 => ⟨S8192x1536, .f32⟩
  | 31 => ⟨S8192x512, .f32⟩
  | 32 => ⟨S8192x512, .f32⟩
  | 33 => ⟨S8192x512, .f32⟩
  | 34 => ⟨S8192x8x64, .f32⟩
  | 35 => ⟨S1x8x64, .f32⟩
  | 36 => ⟨S8192x8x64, .f32⟩
  | 37 => ⟨S_, .f32⟩
  | 38 => ⟨S8192x8, .f32⟩
  | 39 => ⟨S8192x8x1, .f32⟩
  | 40 => ⟨S_, .f32⟩
  | 41 => ⟨S8192x8x1, .f32⟩
  | 42 => ⟨S8192x8x1, .f32⟩
  | 43 => ⟨S_, .f32⟩
  | 44 => ⟨S8192x8x1, .f32⟩
  | 45 => ⟨S8192x8x1, .f32⟩
  | 46 => ⟨S8192x8x1, .f32⟩
  | 47 => ⟨S8192x8x1, .f32⟩
  | 48 => ⟨S_, .f32⟩
  | 49 => ⟨S8192x8x1, .f32⟩
  | 50 => ⟨S8192x8x1, .f32⟩
  | 51 => ⟨S8192x8x64, .f32⟩
  | 52 => ⟨S8192x8x64, .f32⟩
  | 53 => ⟨S8192x8x64, .f32⟩
  | 54 => ⟨S8192x8x64, .f32⟩
  | 55 => ⟨S8192x512, .f32⟩
  | 56 => ⟨S8192x8x64, .f32⟩
  | 57 => ⟨S1x8x64, .f32⟩
  | 58 => ⟨S8192x8x64, .f32⟩
  | 59 => ⟨S_, .f32⟩
  | 60 => ⟨S8192x8, .f32⟩
  | 61 => ⟨S8192x8x1, .f32⟩
  | 62 => ⟨S_, .f32⟩
  | 63 => ⟨S8192x8x1, .f32⟩
  | 64 => ⟨S8192x8x1, .f32⟩
  | 65 => ⟨S_, .f32⟩
  | 66 => ⟨S8192x8x1, .f32⟩
  | 67 => ⟨S8192x8x1, .f32⟩
  | 68 => ⟨S8192x8x1, .f32⟩
  | 69 => ⟨S8192x8x1, .f32⟩
  | 70 => ⟨S_, .f32⟩
  | 71 => ⟨S8192x8x1, .f32⟩
  | 72 => ⟨S8192x8x1, .f32⟩
  | 73 => ⟨S8192x8x64, .f32⟩
  | 74 => ⟨S8192x8x64, .f32⟩
  | 75 => ⟨S8192x8x64, .f32⟩
  | 76 => ⟨S8192x8x64, .f32⟩
  | 77 => ⟨S8192x512, .f32⟩
  | 78 => ⟨S8192x8x64, .f32⟩
  | 79 => ⟨S8192x8x64, .f32⟩
  | 80 => ⟨S_, .f32⟩
  | 81 => ⟨S8x64, .f32⟩
  | 82 => ⟨S1x8x64, .f32⟩
  | 83 => ⟨S8192x8x64, .f32⟩
  | 84 => ⟨S8192x8x64, .f32⟩
  | 85 => ⟨S8192x8x64, .f32⟩
  | 86 => ⟨S_, .f32⟩
  | 87 => ⟨S8192x8, .f32⟩
  | 88 => ⟨S8192x8x1, .f32⟩
  | 89 => ⟨S8192x8x64, .f32⟩
  | 90 => ⟨S8192x8x64, .f32⟩
  | 91 => ⟨S8192x8x1, .f32⟩
  | 92 => ⟨S_, .f32⟩
  | 93 => ⟨S8192x8x1, .f32⟩
  | 94 => ⟨S8192x8x1, .f32⟩
  | 95 => ⟨S_, .f32⟩
  | 96 => ⟨S8192x8, .f32⟩
  | 97 => ⟨S8192x8x64, .f32⟩
  | 98 => ⟨S8192x8x64, .f32⟩
  | 99 => ⟨S8192x8x64, .f32⟩
  | 100 => ⟨S8192x8x64, .f32⟩
  | 101 => ⟨S8192x8x64, .f32⟩
  | 102 => ⟨S1x512, .f32⟩
  | 103 => ⟨S8192x512, .f32⟩
  | 104 => ⟨S8192x8x64, .f32⟩
  | 105 => ⟨S8192x8x64, .f32⟩
  | 106 => ⟨S_, .f32⟩
  | 107 => ⟨S8x64, .f32⟩
  | 108 => ⟨S1x8x64, .f32⟩
  | 109 => ⟨S8192x8x64, .f32⟩
  | 110 => ⟨S8192x8x64, .f32⟩
  | 111 => ⟨S8192x8x64, .f32⟩
  | 112 => ⟨S_, .f32⟩
  | 113 => ⟨S8192x8, .f32⟩
  | 114 => ⟨S8192x8x1, .f32⟩
  | 115 => ⟨S8192x8x64, .f32⟩
  | 116 => ⟨S8192x8x64, .f32⟩
  | 117 => ⟨S8192x8x1, .f32⟩
  | 118 => ⟨S_, .f32⟩
  | 119 => ⟨S8192x8x1, .f32⟩
  | 120 => ⟨S8192x8x1, .f32⟩
  | 121 => ⟨S_, .f32⟩
  | 122 => ⟨S8192x8, .f32⟩
  | 123 => ⟨S8192x8x64, .f32⟩
  | 124 => ⟨S8192x8x64, .f32⟩
  | 125 => ⟨S8192x8x64, .f32⟩
  | 126 => ⟨S8192x8x64, .f32⟩
  | 127 => ⟨S8192x8x64, .f32⟩
  | _ => ⟨S8192x1024, .f32⟩

abbrev hbmTy0_1 (i : Nat) : BufTy := match i % 128 with
  | 0 => ⟨S1x512, .f32⟩
  | 1 => ⟨S8192x512, .f32⟩
  | 2 => ⟨S8192x3072, .f32⟩
  | 3 => ⟨S3072x1024, .f32⟩
  | 4 => ⟨S1024x3072, .f32⟩
  | 5 => ⟨S8192x1024, .f32⟩
  | 6 => ⟨S8192x1024, .f32⟩
  | 7 => ⟨S_, .f32⟩
  | 8 => ⟨S1024, .f32⟩
  | 9 => ⟨S1x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S8192x1024, .f32⟩
  | 17 => ⟨S8192x1024, .f32⟩
  | 18 => ⟨S8192x1024, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S1024x8x384, .f32⟩
  | 31 => ⟨S8x1024x384, .f32⟩
  | 32 => ⟨S8x1024x384, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_v91 : Ref sig .tc := ⟨.hbm, 120, rfl⟩
abbrev main_cst_18 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_19 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_20 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_21 : Ref sig .tc := ⟨.hbm, 148, rfl⟩
abbrev main_v116 : Ref sig .tc := ⟨.hbm, 149, rfl⟩
abbrev main_v117 : Ref sig .tc := ⟨.hbm, 150, rfl⟩
abbrev main_cst_22 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩

abbrev nD : Nat := 1
abbrev τ : Topo := Topo.v7x

variable {F : FTy → Type} [FloatOps F]
-- ==== Proof.Stage.lean ====
module

public import proofs.«01_k».proof.Proof.Gen.KernelIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelIdeal.Stage
open Cert.KernelIdeal Cert.KernelIdeal.Gen
open Idealize.ShloMosaic Idealize.ShloMosaic.TcCoe Idealize.SL.Sem

/-! What each grid point leaves in the output blocks and in the scratch that is carried between points, as functions of
the point's input blocks and of what the point before left. -/

variable {F : FTy → Type} [FloatOps F]

/-- a view read after a store of its own sizes holds what was stored, whatever was stored before -/
theorem read_store {Val : EltTy → Type} {sg : RefSig} {κ : Kind} {sp : Space} {s : Shape} {e : EltTy} (v : View sg κ sp s e)
    (f : v.ty.Contents Val) {off : Fin s.rank → ℕ} (inb : ∀ a, off a + s.size a ≤ s.size a)
    (w : (Rect.unit off s.size inb).shape.Idx → Val e) (L : List (View.Piece Val s e)) :
    v.read Val (v.writes Val f (⟨Rect.unit off s.size inb, w⟩ :: L)) = w := by
  funext y
  exact View.read_writes_cons_unit_of_mem v f inb w L y y rfl fun a => by have := inb a; omega

/-- under pieces that cover the whole shape, earlier pieces do not show -/
theorem canon_drop {Val : EltTy → Type} [∀ e, Nonempty (Val e)] {S : Shape} {e : EltTy} (L L' : List (View.Piece Val S e))
    (h : ∀ y : S.Idx, ∃ q ∈ L, y ∈ q.1.set) : View.canon (L ++ L') = View.canon L := by
  funext y
  have hy := h y
  clear h
  induction L with
  | nil => obtain ⟨q, hq, _⟩ := hy; exact absurd hq List.not_mem_nil
  | cons q L ih =>
    by_cases hm : y ∈ q.1.set
    · obtain ⟨r, w⟩ := q
      obtain ⟨x, rfl⟩ : ∃ x, r.emb x = y := r.exists_idx_of_mem hm
      rw [List.cons_append, View.canon_cons_emb, View.canon_cons_emb]
    · rw [List.cons_append, View.canon_cons_of_not_mem _ _ hm, View.canon_cons_of_not_mem _ _ hm]
      refine ih ?_
      obtain ⟨q', hq', hyq⟩ := hy
      rcases List.mem_cons.mp hq' with rfl | h'
      · exact absurd hyq hm
      · exact ⟨q', h', hyq⟩

/-- the same for three pieces -/
theorem canon_drop3 {Val : EltTy → Type} [∀ e, Nonempty (Val e)] {S : Shape} {e : EltTy} (a b c : View.Piece Val S e)
    (L' : List (View.Piece Val S e)) (h : ∀ y : S.Idx, ∃ q ∈ [a, b, c], y ∈ q.1.set) :
    View.canon (a :: b :: c :: L') = View.canon [a, b, c] := canon_drop [a, b, c] L' h

/-- the input blocks of a grid point -/
structure Pt (F : FTy → Type) [FloatOps F] where
  /-- the point -/
  i : grid0.Coords
  /-- the cotangent rows -/
  dx : Vec F S512x1024 .bf16
  /-- the normed rows -/
  h : Vec F S512x1024 .bf16
  /-- the gate product -/
  gp : Vec F S512x1408 .bf16
  /-- the 16 rows of the gate product before the block -/
  halo : Vec F S16x1408 .bf16
  /-- the up product -/
  up : Vec F S512x1408 .bf16
  /-- the transposed gate weight -/
  wg : Vec F S1408x1024 .bf16
  /-- the transposed up weight -/
  wu : Vec F S1408x1024 .bf16
  /-- the down weight -/
  wd : Vec F S1408x1024 .bf16
  /-- the taps -/
  cw : Vec F S3x1408 .f32
  /-- the bias -/
  cb : Vec F S1x1408 .f32

namespace Pt
variable (p : Pt F)
/-- tap 0 -/
def w0 : Vec F S1x1408 .f32 := View.ld p.cw (Rect.unit ![0, 0] ![1, 1408] inb_S3x1408_S1x1408_0_0)
/-- tap 1 -/
def w1 : Vec F S1x1408 .f32 := View.ld p.cw (Rect.unit ![1, 0] ![1, 1408] inb_S3x1408_S1x1408_1_0)
/-- tap 2 -/
def w2 : Vec F S1x1408 .f32 := View.ld p.cw (Rect.unit ![2, 0] ![1, 1408] inb_S3x1408_S1x1408_2_0)
/-- the gate product one row before -/
def gp1 : FVec F S512x1408 .f32 := k0_pay16 p.i p.gp p.halo
/-- the gate product two rows before -/
def gp2 : FVec F S512x1408 .f32 :=
  k0_pay21 (k0_pay17 p.gp) (k0_pay18 p.i p.gp p.halo) k0_pay19 (k0_pay20 p.i p.halo)
/-- the convolved gate -/
def gate : FVec F S512x1408 .f32 :=
  k0_pay22 (k0_pay13 p.gp) (k0_pay16 p.i p.gp p.halo) (k0_pay17 p.gp) (k0_pay18 p.i p.gp p.halo) k0_pay19
    (k0_pay20 p.i p.halo) p.w0 p.w1 p.w2 p.cb
/-- its sigmoid -/
def sg : FVec F S512x1408 .f32 :=
  k0_pay23 (k0_pay13 p.gp) (k0_pay16 p.i p.gp p.halo) (k0_pay17 p.gp) (k0_pay18 p.i p.gp p.halo) k0_pay19
    (k0_pay20 p.i p.halo) p.w0 p.w1 p.w2 p.cb
/-- the gradient of the hidden rows -/
def da : FVec F S512x1408 .f32 := k0_pay26 (k0_pay12 p.dx) p.wd
/-- the hidden rows -/
def act : FVec F S512x1408 .bf16 :=
  k0_pay27 (k0_pay13 p.gp) (k0_pay16 p.i p.gp p.halo) (k0_pay17 p.gp) (k0_pay18 p.i p.gp p.halo) k0_pay19
    (k0_pay20 p.i p.halo) p.w0 p.w1 p.w2 p.cb p.up
/-- the gradient of the up product -/
def dup : FVec F S512x1408 .bf16 :=
  k0_pay28 (k0_pay12 p.dx) (k0_pay13 p.gp) (k0_pay16 p.i p.gp p.halo) (k0_pay17 p.gp) (k0_pay18 p.i p.gp p.halo) k0_pay19
    (k0_pay20 p.i p.halo) p.w0 p.w1 p.w2 p.cb p.wd
/-- the gradient of the convolved gate -/
def dgate : FVec F S512x1408 .f32 := k0_pay30 p.gate p.sg (k0_pay25 p.up) p.da
/-- the gradient of the gate product, over the first rows of the block after -/
def dgp (s : Vec F S8x1408 .f32) : FVec F S512x1408 .bf16 :=
  k0_pay35 (k0_pay32 s p.gate p.sg (k0_pay25 p.up) p.da) (k0_pay33 s p.gate p.sg (k0_pay25 p.up) p.da p.w2 p.w1)
    (k0_pay34 p.w0)
/-- the same as it is stored -/
def dgpS (s : Vec F S8x1408 .f32) : FVec F S512x1408 .bf16 :=
  k0_pay36 (k0_pay32 s p.gate p.sg (k0_pay25 p.up) p.da) (k0_pay33 s p.gate p.sg (k0_pay25 p.up) p.da p.w2 p.w1)
    (k0_pay34 p.w0)
/-- the block of the gradient of the rows -/
def dh (s : Vec F S8x1408 .f32) : FVec F S1x512x1024 .bf16 := k0_pay42 p.dup (p.dgp s) p.wg p.wu
/-- the rows handed on to the block before -/
def carry : FVec F S8x1408 .f32 := k0_pay43 (k0_pay37 p.dgate)
/-- the running gradient of the down weight -/
def accD (a : Vec F S1408x1024 .f32) : FVec F S1408x1024 .f32 := k0_pay44 a p.act p.dx
/-- the running gradient of the up weight -/
def accU (a : Vec F S1024x1408 .f32) : FVec F S1024x1408 .f32 := k0_pay1 (k0_pay45 a p.h (k0_pay29 p.dup))
/-- the running gradient of the gate weight -/
def accG (a : Vec F S1024x1408 .f32) (s : Vec F S8x1408 .f32) : FVec F S1024x1408 .f32 := k0_pay2 a p.h (p.dgpS s)
/-- the running gradient of the taps -/
def accW (a : Vec F S3x1408 .f32) : Vec F S3x1408 .f32 :=
  View.canon
    [⟨Rect.unit ![2, 0] ![1, 1408] inb_S3x1408_S1x1408_2_0, k0_pay40 (k0_pay13 p.gp) p.dgate
        (View.ld a (Rect.unit ![2, 0] ![1, 1408] inb_S3x1408_S1x1408_2_0))⟩,
      ⟨Rect.unit ![1, 0] ![1, 1408] inb_S3x1408_S1x1408_1_0, k0_pay39 p.gp1 p.dgate
        (View.ld a (Rect.unit ![1, 0] ![1, 1408] inb_S3x1408_S1x1408_1_0))⟩,
      ⟨Rect.unit ![0, 0] ![1, 1408] inb_S3x1408_S1x1408_0_0, k0_pay38 p.gp2 p.dgate
        (View.ld a (Rect.unit ![0, 0] ![1, 1408] inb_S3x1408_S1x1408_0_0))⟩]
/-- the running gradient of the bias -/
def accB (a : Vec F S1x1408 .f32) : FVec F S1x1408 .f32 := k0_pay41 p.dgate a
end Pt

theorem out0_A_10_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) : out0_A_10 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 = Pt.dh ⟨i, x0, x1, x2, x3, x4, x5, x6, x7, x8, x9⟩ k0_pay6 := by
  frame_out
  rfl

theorem out0_A_12_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) : out0_A_12 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 = Pt.accB ⟨i, x0, x1, x2, x3, x4, x5, x6, x7, x8, x9⟩ k0_pay11 := by
  frame_out
  rfl

theorem sout0_A_0_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) : sout0_A_0 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 = Pt.carry ⟨i, x0, x1, x2, x3, x4, x5, x6, x7, x8, x9⟩ := by
  frame_out
  rfl

theorem sout0_A_4_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) : sout0_A_4 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 = Pt.accD ⟨i, x0, x1, x2, x3, x4, x5, x6, x7, x8, x9⟩ k0_pay7 := by
  frame_out
  rfl

theorem sout0_A_5_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) : sout0_A_5 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 = Pt.accU ⟨i, x0, x1, x2, x3, x4, x5, x6, x7, x8, x9⟩ k0_pay8 := by
  frame_out
  rfl

theorem sout0_A_6_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) : sout0_A_6 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 = Pt.accG ⟨i, x0, x1, x2, x3, x4, x5, x6, x7, x8, x9⟩ k0_pay9 k0_pay6 := by
  frame_out
  rfl

theorem out0_A_11_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) : out0_A_11 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 = Pt.accW ⟨i, x0, x1, x2, x3, x4, x5, x6, x7, x8, x9⟩ k0_pay10 := by
  frame_open
  simp (disch := decide) only [↓ View.readCov_skip, ↓ View.readCov_cons_toLoadRect, ↓ View.readCov_fill]
  frame_out
  rw [canon_drop3 _ _ _ _ (View.cover_of_tiledBy _ ![1, 1408] (by sl_kernel_rfl))]
  rfl

theorem out0_B_10_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : out0_B_10 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.dh ⟨i, x0, x1, x2, x3, x4, x5, x6, x7, x8, x9⟩ xs0 := by
  frame_out
  rfl

theorem out0_B_12_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : out0_B_12 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.accB ⟨i, x0, x1, x2, x3, x4, x5, x6, x7, x8, x9⟩ xo12 := by
  frame_out
  rfl

theorem sout0_B_0_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : sout0_B_0 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.carry ⟨i, x0, x1, x2, x3, x4, x5, x6, x7, x8, x9⟩ := by
  frame_out
  rfl

theorem sout0_B_4_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : sout0_B_4 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.accD ⟨i, x0, x1, x2, x3, x4, x5, x6, x7, x8, x9⟩ xs4 := by
  frame_out
  rfl

theorem sout0_B_5_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : sout0_B_5 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.accU ⟨i, x0, x1, x2, x3, x4, x5, x6, x7, x8, x9⟩ xs5 := by
  frame_out
  rfl

theorem sout0_B_6_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : sout0_B_6 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.accG ⟨i, x0, x1, x2, x3, x4, x5, x6, x7, x8, x9⟩ xs6 xs0 := by
  frame_out
  rfl

theorem out0_B_11_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : out0_B_11 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.accW ⟨i, x0, x1, x2, x3, x4, x5, x6, x7, x8, x9⟩ xo11 := by
  frame_out
  rfl

theorem out0_C_10_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : out0_C_10 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.dh ⟨i, x0, x1, x2, x3, x4, x5, x6, x7, x8, x9⟩ xs0 := by
  frame_out
  rfl

theorem out0_C_12_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : out0_C_12 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.accB ⟨i, x0, x1, x2, x3, x4, x5, x6, x7, x8, x9⟩ xo12 := by
  frame_out
  rfl

theorem sout0_C_0_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : sout0_C_0 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.carry ⟨i, x0, x1, x2, x3, x4, x5, x6, x7, x8, x9⟩ := by
  frame_out
  rfl

theorem sout0_C_4_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : sout0_C_4 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.accD ⟨i, x0, x1, x2, x3, x4, x5, x6, x7, x8, x9⟩ xs4 := by
  frame_out
  rfl

theorem sout0_C_5_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : sout0_C_5 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.accU ⟨i, x0, x1, x2, x3, x4, x5, x6, x7, x8, x9⟩ xs5 := by
  frame_out
  rfl

theorem sout0_C_6_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : sout0_C_6 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.accG ⟨i, x0, x1, x2, x3, x4, x5, x6, x7, x8, x9⟩ xs6 xs0 := by
  frame_out
  rfl

theorem out0_C_11_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32) : out0_C_11 c i arg2 harg2 arg3 harg3 arg4 harg4 arg5 harg5 arg6 harg6 arg7 harg7 arg8 harg8 arg9 harg9 arg10 harg10 arg11 harg11 arg12 harg12 arg16 harg16 arg17 harg17 arg18 harg18 arg19 harg19 arg20 harg20 arg21 harg21 arg22 harg22 arg23 harg23 arg24 harg24 arg25 harg25 hc0 hc1 x0 x1 x2 x3 x4 x5 x6 x7 x8 x9 xo11 xo12 xs0 xs4 xs5 xs6 = Pt.accW ⟨i, x0, x1, x2, x3, x4, x5, x6, x7, x8, x9⟩ xo11 := by
  frame_out
  rfl

end Cert.KernelIdeal.Stage
end
-- ==== Proof.NamedA.lean ====
module

public import proofs.«01_k».proof.Proof.Stage

@[expose] public section

set_option maxRecDepth 16384

noncomputable section

/-! The body at a half's first point, from its blocks to what it leaves in each buffer; the three weight gradients' arrays are not touched. -/
namespace Cert.KernelIdeal.Named
open Cert.KernelIdeal Cert.KernelIdeal.Gen Cert.KernelIdeal.Stage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a half's first point, from its blocks to what it leaves in each buffer; the three weight gradients' arrays are not touched. -/
theorem runA (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32)
    (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ semVal ((c : Thread nD τ), SemLoc.dma 23) 0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (Pt.dh (⟨i, x0, x1, x2, x3, x4, x5, x6, x7, x8, x9⟩ : Pt F) k0_pay6) ∗ owns (c : Thread nD τ) arg16 fullShare (Pt.accW (⟨i, x0, x1, x2, x3, x4, x5, x6, x7, x8, x9⟩ : Pt F) k0_pay10) ∗ owns (c : Thread nD τ) arg17 fullShare (Pt.accB (⟨i, x0, x1, x2, x3, x4, x5, x6, x7, x8, x9⟩ : Pt F) k0_pay11) ∗ owns (c : Thread nD τ) arg18 fullShare (Pt.carry (⟨i, x0, x1, x2, x3, x4, x5, x6, x7, x8, x9⟩ : Pt F)) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (Pt.accD (⟨i, x0, x1, x2, x3, x4, x5, x6, x7, x8, x9⟩ : Pt F) k0_pay7) ∗ owns (c : Thread nD τ) arg23 fullShare (Pt.accU (⟨i, x0, x1, x2, x3, x4, x5, x6, x7, x8, x9⟩ : Pt F) k0_pay8) ∗ owns (c : Thread nD τ) arg24 fullShare (Pt.accG (⟨i, x0, x1, x2, x3, x4, x5, x6, x7, x8, x9⟩ : Pt F) k0_pay9 k0_pay6) ∗ (∃ d, owns (c : Thread nD τ) arg25 fullShare d) ∗ semVal ((c : Thread nD τ), SemLoc.dma 23) 0 ∗ (∃ W', owes (c : Thread nD τ) 0 W')) -∗ K ⟨⟩))
      ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 (Memref.whole main_v11_1) (Memref.isWhole_whole _) (Memref.whole main_v11_2) (Memref.isWhole_whole _) (Memref.whole main_v11_3) (Memref.isWhole_whole _) arg16 harg16 arg17 harg17 arg18 harg18 arg19 harg19 arg20 harg20 arg21 harg21 arg22 harg22 arg23 harg23 arg24 harg24 arg25 harg25 cc0_scratch8) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    rw [View.read_writes_eq_canon _ _ _ (View.cover_of_tiledL _ S1x512x1024.size (by sl_kernel_rfl))]
    frame_out; rfl
  isplitl [H11]
  · iexists _; isplitr; swap; · iexact H11
    ipureintro
    rw [View.read_writes_eq_canon _ _ _ (View.cover_of_tiledBy _ ![1, 1408] (by sl_kernel_rfl))]
    frame_open
    simp (disch := decide) only [↓ View.readCov_skip, ↓ View.readCov_cons_toLoadRect, ↓ View.readCov_fill]
    frame_out
    rw [canon_drop3 _ _ _ _ (View.cover_of_tiledBy _ ![1, 1408] (by sl_kernel_rfl))]
    rfl
  isplitl [H12]
  · iexists _; isplitr; swap; · iexact H12
    ipureintro
    rw [View.read_writes_eq_canon _ _ _ (View.cover_of_tiledL _ S1x1408.size (by sl_kernel_rfl))]
    frame_out; rfl
  isplitl [HS0]
  · iexists _; isplitr; swap; · iexact HS0
    ipureintro
    rw [View.read_writes_eq_canon _ _ _ (View.cover_of_tiledL _ S8x1408.size (by sl_kernel_rfl))]
    frame_out; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _; isplitr; swap; · iexact HS4
    ipureintro
    rw [View.read_writes_eq_canon _ _ _ (View.cover_of_tiledL _ S1408x1024.size (by sl_kernel_rfl))]
    frame_out; rfl
  isplitl [HS5]
  · iexists _; isplitr; swap; · iexact HS5
    ipureintro
    rw [View.read_writes_eq_canon _ _ _ (View.cover_of_tiledL _ S1024x1408.size (by sl_kernel_rfl))]
    frame_out; rfl
  isplitl [HS6]
  · iexists _; isplitr; swap; · iexact HS6
    ipureintro
    rw [View.read_writes_eq_canon _ _ _ (View.cover_of_tiledL _ S1024x1408.size (by sl_kernel_rfl))]
    frame_out; rfl
  isplitl [HS7]
  · iexists _, _; isplitr; swap; · iexact HS7
    ipureintro; rfl
  isplitl [Hq0]; · iexact Hq0
  iexists _; iexact HW

end Cert.KernelIdeal.Named

end
-- ==== Proof.NamedB.lean ====
module

public import proofs.«01_k».proof.Proof.NamedA

@[expose] public section

set_option maxRecDepth 16384

noncomputable section

/-! The body at a middle point, from its blocks and the carried scratch to what it leaves in each buffer; the three weight gradients' arrays are not touched. -/
namespace Cert.KernelIdeal.Named
open Cert.KernelIdeal Cert.KernelIdeal.Gen Cert.KernelIdeal.Stage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a middle point, from its blocks and the carried scratch to what it leaves in each buffer; the three weight gradients' arrays are not touched. -/
theorem runB (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : ¬cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32)
    (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg16 fullShare xo11 ∗ owns (c : Thread nD τ) arg17 fullShare xo12 ∗ owns (c : Thread nD τ) arg18 fullShare xs0 ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs4 ∗ owns (c : Thread nD τ) arg23 fullShare xs5 ∗ owns (c : Thread nD τ) arg24 fullShare xs6 ∗ (∃ d, owns (c : Thread nD τ) arg25 fullShare d) ∗ semVal ((c : Thread nD τ), SemLoc.dma 23) 0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (Pt.dh (⟨i, x0, x1, x2, x3, x4, x5, x6, x7, x8, x9⟩ : Pt F) xs0) ∗ owns (c : Thread nD τ) arg16 fullShare (Pt.accW (⟨i, x0, x1, x2, x3, x4, x5, x6, x7, x8, x9⟩ : Pt F) xo11) ∗ owns (c : Thread nD τ) arg17 fullShare (Pt.accB (⟨i, x0, x1, x2, x3, x4, x5, x6, x7, x8, x9⟩ : Pt F) xo12) ∗ owns (c : Thread nD τ) arg18 fullShare (Pt.carry (⟨i, x0, x1, x2, x3, x4, x5, x6, x7, x8, x9⟩ : Pt F)) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (Pt.accD (⟨i, x0, x1, x2, x3, x4, x5, x6, x7, x8, x9⟩ : Pt F) xs4) ∗ owns (c : Thread nD τ) arg23 fullShare (Pt.accU (⟨i, x0, x1, x2, x3, x4, x5, x6, x7, x8, x9⟩ : Pt F) xs5) ∗ owns (c : Thread nD τ) arg24 fullShare (Pt.accG (⟨i, x0, x1, x2, x3, x4, x5, x6, x7, x8, x9⟩ : Pt F) xs6 xs0) ∗ (∃ d, owns (c : Thread nD τ) arg25 fullShare d) ∗ semVal ((c : Thread nD τ), SemLoc.dma 23) 0 ∗ (∃ W', owes (c : Thread nD τ) 0 W')) -∗ K ⟨⟩))
      ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 (Memref.whole main_v11_1) (Memref.isWhole_whole _) (Memref.whole main_v11_2) (Memref.isWhole_whole _) (Memref.whole main_v11_3) (Memref.isWhole_whole _) arg16 harg16 arg17 harg17 arg18 harg18 arg19 harg19 arg20 harg20 arg21 harg21 arg22 harg22 arg23 harg23 arg24 harg24 arg25 harg25 cc0_scratch8) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, ⟨%ds7, %fs7, -, HS7⟩, Hq0, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg16.eq_unread hf11; obtain rfl := harg17.eq_unread hf12; obtain rfl := harg18.eq_unread hfs0; obtain rfl := harg22.eq_unread hfs4; obtain rfl := harg23.eq_unread hfs5; obtain rfl := harg24.eq_unread hfs6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    rw [View.read_writes_eq_canon _ _ _ (View.cover_of_tiledL _ S1x512x1024.size (by sl_kernel_rfl))]
    frame_out; rfl
  isplitl [H11]
  · iexists _; isplitr; swap; · iexact H11
    ipureintro
    rw [View.read_writes_eq_canon _ _ _ (View.cover_of_tiledBy _ ![1, 1408] (by sl_kernel_rfl))]
    frame_out; rfl
  isplitl [H12]
  · iexists _; isplitr; swap; · iexact H12
    ipureintro
    rw [View.read_writes_eq_canon _ _ _ (View.cover_of_tiledL _ S1x1408.size (by sl_kernel_rfl))]
    frame_out; rfl
  isplitl [HS0]
  · iexists _; isplitr; swap; · iexact HS0
    ipureintro
    rw [View.read_writes_eq_canon _ _ _ (View.cover_of_tiledL _ S8x1408.size (by sl_kernel_rfl))]
    frame_out; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _; isplitr; swap; · iexact HS4
    ipureintro
    rw [View.read_writes_eq_canon _ _ _ (View.cover_of_tiledL _ S1408x1024.size (by sl_kernel_rfl))]
    frame_out; rfl
  isplitl [HS5]
  · iexists _; isplitr; swap; · iexact HS5
    ipureintro
    rw [View.read_writes_eq_canon _ _ _ (View.cover_of_tiledL _ S1024x1408.size (by sl_kernel_rfl))]
    frame_out; rfl
  isplitl [HS6]
  · iexists _; isplitr; swap; · iexact HS6
    ipureintro
    rw [View.read_writes_eq_canon _ _ _ (View.cover_of_tiledL _ S1024x1408.size (by sl_kernel_rfl))]
    frame_out; rfl
  isplitl [HS7]
  · iexists _, _; isplitr; swap; · iexact HS7
    ipureintro; rfl
  isplitl [Hq0]; · iexact Hq0
  iexists _; iexact HW

end Cert.KernelIdeal.Named

end
-- ==== Proof.NamedC.lean ====
module

public import proofs.«01_k».proof.Proof.NamedB

@[expose] public section

set_option maxRecDepth 16384

noncomputable section

/-! The body at a half's last point: as at a middle point, and the three accumulators are copied to their half of the weight gradients' arrays. -/
namespace Cert.KernelIdeal.Named
open Cert.KernelIdeal Cert.KernelIdeal.Gen Cert.KernelIdeal.Stage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a half's last point: as at a middle point, and the three accumulators are copied to their half of the weight gradients' arrays. -/
theorem runC (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1408 .bf16) (harg4 : arg4.IsWhole) (arg5 : Memref sig .tc .vmem S16x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S3x1408 .f32) (harg10 : arg10.IsWhole) (arg11 : Memref sig .tc .vmem S1x1408 .f32) (harg11 : arg11.IsWhole) (arg12 : Memref sig .tc .vmem S1x512x1024 .bf16) (harg12 : arg12.IsWhole) (arg16 : Memref sig .tc .vmem S3x1408 .f32) (harg16 : arg16.IsWhole) (arg17 : Memref sig .tc .vmem S1x1408 .f32) (harg17 : arg17.IsWhole) (arg18 : Memref sig .tc .vmem S8x1408 .f32) (harg18 : arg18.IsWhole) (arg19 : Memref sig .tc .vmem S512x1408 .bf16) (harg19 : arg19.IsWhole) (arg20 : Memref sig .tc .vmem S512x1408 .bf16) (harg20 : arg20.IsWhole) (arg21 : Memref sig .tc .vmem S512x1408 .bf16) (harg21 : arg21.IsWhole) (arg22 : Memref sig .tc .vmem S1408x1024 .f32) (harg22 : arg22.IsWhole) (arg23 : Memref sig .tc .vmem S1024x1408 .f32) (harg23 : arg23.IsWhole) (arg24 : Memref sig .tc .vmem S1024x1408 .f32) (harg24 : arg24.IsWhole) (arg25 : Memref sig .tc .vmem S1408x1024 .bf16) (harg25 : arg25.IsWhole) (hc0 : ¬cond0_0 i) (hc1 : cond0_1 i)
    (x0 : Vec F S512x1024 .bf16) (x1 : Vec F S512x1024 .bf16) (x2 : Vec F S512x1408 .bf16) (x3 : Vec F S16x1408 .bf16) (x4 : Vec F S512x1408 .bf16) (x5 : Vec F S1408x1024 .bf16) (x6 : Vec F S1408x1024 .bf16) (x7 : Vec F S1408x1024 .bf16) (x8 : Vec F S3x1408 .f32) (x9 : Vec F S1x1408 .f32) (xo11 : Vec F S3x1408 .f32) (xo12 : Vec F S1x1408 .f32) (xs0 : Vec F S8x1408 .f32) (xs4 : Vec F S1408x1024 .f32) (xs5 : Vec F S1024x1408 .f32) (xs6 : Vec F S1024x1408 .f32)
    (fw0 : HbBuf0 (F := F) c hbM0_0) (fw1 : HbBuf0 (F := F) c hbM0_1) (fw2 : HbBuf0 (F := F) c hbM0_2)
    (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg16 fullShare xo11 ∗ owns (c : Thread nD τ) arg17 fullShare xo12 ∗ owns (c : Thread nD τ) arg18 fullShare xs0 ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs4 ∗ owns (c : Thread nD τ) arg23 fullShare xs5 ∗ owns (c : Thread nD τ) arg24 fullShare xs6 ∗ (∃ d, owns (c : Thread nD τ) arg25 fullShare d) ∗ semVal ((c : Thread nD τ), SemLoc.dma 23) 0 ∗ hbPt0 c hbM0_0 fw0 ∗ hbPt0 c hbM0_1 fw1 ∗ hbPt0 c hbM0_2 fw2 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (Pt.dh (⟨i, x0, x1, x2, x3, x4, x5, x6, x7, x8, x9⟩ : Pt F) xs0) ∗ owns (c : Thread nD τ) arg16 fullShare (Pt.accW (⟨i, x0, x1, x2, x3, x4, x5, x6, x7, x8, x9⟩ : Pt F) xo11) ∗ owns (c : Thread nD τ) arg17 fullShare (Pt.accB (⟨i, x0, x1, x2, x3, x4, x5, x6, x7, x8, x9⟩ : Pt F) xo12) ∗ owns (c : Thread nD τ) arg18 fullShare (Pt.carry (⟨i, x0, x1, x2, x3, x4, x5, x6, x7, x8, x9⟩ : Pt F)) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (Pt.accD (⟨i, x0, x1, x2, x3, x4, x5, x6, x7, x8, x9⟩ : Pt F) xs4) ∗ owns (c : Thread nD τ) arg23 fullShare (Pt.accU (⟨i, x0, x1, x2, x3, x4, x5, x6, x7, x8, x9⟩ : Pt F) xs5) ∗ owns (c : Thread nD τ) arg24 fullShare (Pt.accG (⟨i, x0, x1, x2, x3, x4, x5, x6, x7, x8, x9⟩ : Pt F) xs6 xs0) ∗ (∃ d, owns (c : Thread nD τ) arg25 fullShare d) ∗ semVal ((c : Thread nD τ), SemLoc.dma 23) 0 ∗ (∃ g, ⌜g = View.write (Elt F) ((Memref.whole main_v11_1).slice (Rect.unit (s := S2816x1024) (k0_off1 i) S1408x1024.size (k0_off1_inb i hc1)) (fun _ => rfl)).view fw0 (k0_pay3 (Pt.accD (⟨i, x0, x1, x2, x3, x4, x5, x6, x7, x8, x9⟩ : Pt F) xs4)) Finset.univ⌝ ∗ hbPt0 c hbM0_0 g) ∗ (∃ g, ⌜g = View.write (Elt F) ((Memref.whole main_v11_2).slice (Rect.unit (s := S2816x1024) (k0_off1 i) S1408x1024.size (k0_off1_inb i hc1)) (fun _ => rfl)).view fw1 (k0_pay4 (Pt.accU (⟨i, x0, x1, x2, x3, x4, x5, x6, x7, x8, x9⟩ : Pt F) xs5)) Finset.univ⌝ ∗ hbPt0 c hbM0_1 g) ∗ (∃ g, ⌜g = View.write (Elt F) ((Memref.whole main_v11_3).slice (Rect.unit (s := S2816x1024) (k0_off1 i) S1408x1024.size (k0_off1_inb i hc1)) (fun _ => rfl)).view fw2 (k0_pay5 (Pt.accG (⟨i, x0, x1, x2, x3, x4, x5, x6, x7, x8, x9⟩ : Pt F) xs6 xs0)) Finset.univ⌝ ∗ hbPt0 c hbM0_2 g) ∗ (∃ W', owes (c : Thread nD τ) 0 W')) -∗ K ⟨⟩))
      ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 (Memref.whole main_v11_1) (Memref.isWhole_whole _) (Memref.whole main_v11_2) (Memref.isWhole_whole _) (Memref.whole main_v11_3) (Memref.isWhole_whole _) arg16 harg16 arg17 harg17 arg18 harg18 arg19 harg19 arg20 harg20 arg21 harg21 arg22 harg22 arg23 harg23 arg24 harg24 arg25 harg25 cc0_scratch8) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, ⟨%ds7, %fs7, -, HS7⟩, Hq0, Hh0, Hh1, Hh2, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg16.eq_unread hf11; obtain rfl := harg17.eq_unread hf12; obtain rfl := harg18.eq_unread hfs0; obtain rfl := harg22.eq_unread hfs4; obtain rfl := harg23.eq_unread hfs5; obtain rfl := harg24.eq_unread hfs6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    rw [View.read_writes_eq_canon _ _ _ (View.cover_of_tiledL _ S1x512x1024.size (by sl_kernel_rfl))]
    frame_out; rfl
  isplitl [H11]
  · iexists _; isplitr; swap; · iexact H11
    ipureintro
    rw [View.read_writes_eq_canon _ _ _ (View.cover_of_tiledBy _ ![1, 1408] (by sl_kernel_rfl))]
    frame_out; rfl
  isplitl [H12]
  · iexists _; isplitr; swap; · iexact H12
    ipureintro
    rw [View.read_writes_eq_canon _ _ _ (View.cover_of_tiledL _ S1x1408.size (by sl_kernel_rfl))]
    frame_out; rfl
  isplitl [HS0]
  · iexists _; isplitr; swap; · iexact HS0
    ipureintro
    rw [View.read_writes_eq_canon _ _ _ (View.cover_of_tiledL _ S8x1408.size (by sl_kernel_rfl))]
    frame_out; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _; isplitr; swap; · iexact HS4
    ipureintro
    rw [View.read_writes_eq_canon _ _ _ (View.cover_of_tiledL _ S1408x1024.size (by sl_kernel_rfl))]
    frame_out; rfl
  isplitl [HS5]
  · iexists _; isplitr; swap; · iexact HS5
    ipureintro
    rw [View.read_writes_eq_canon _ _ _ (View.cover_of_tiledL _ S1024x1408.size (by sl_kernel_rfl))]
    frame_out; rfl
  isplitl [HS6]
  · iexists _; isplitr; swap; · iexact HS6
    ipureintro
    rw [View.read_writes_eq_canon _ _ _ (View.cover_of_tiledL _ S1024x1408.size (by sl_kernel_rfl))]
    frame_out; rfl
  isplitl [HS7]
  · iexists _, _; isplitr; swap; · iexact HS7
    ipureintro; rfl
  isplitl [Hq0]; · iexact Hq0
  isplitl [Hh0]
  · iexists _; isplitr; swap; · iexact Hh0
    ipureintro
    refine (congrArg (fun w => View.write (Elt F) _ _ w Finset.univ) (read_store arg25.view _ _ _ _)).trans ?_
    frame_open
    frame_out
    rfl
  isplitl [Hh1]
  · iexists _; isplitr; swap; · iexact Hh1
    ipureintro
    refine (congrArg (fun w => View.write (Elt F) _ _ w Finset.univ) (read_store arg25.view _ _ _ _)).trans ?_
    frame_open
    frame_out
    rfl
  isplitl [Hh2]
  · iexists _; isplitr; swap; · iexact Hh2
    ipureintro
    refine (congrArg (fun w => View.write (Elt F) _ _ w Finset.univ) (read_store arg25.view _ _ _ _)).trans ?_
    frame_open
    frame_out
    rfl
  iexists _; iexact HW

end Cert.KernelIdeal.Named

end
-- ==== Proof.Body.lean ====
module

public import proofs.«01_k».proof.Proof.NamedC
public import Idealize.ShloMosaic.Lib.Pipeline.FrameValue

@[expose] public section

set_option maxRecDepth 16384

noncomputable section

/-! What every point leaves, as functions of its blocks and of what the point before left; and the launch with the three
weight gradients' arrays at named contents. -/
namespace Cert.KernelIdeal.Named
open Cert.KernelIdeal Cert.KernelIdeal.Gen Cert.KernelIdeal.Stage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (l : Loc nD τ sig) → Buf (Elt F) l) (ρ : Dev nD → PrngReg)

/-- the input blocks at a point -/
def pt (c : Dev nD) (t : Fin cfg0.N) : Pt F :=
  ⟨grid0.coords t, iblk m c 0 t, iblk m c 1 t, iblk m c 2 t, iblk m c 3 t, iblk m c 4 t, iblk m c 5 t, iblk m c 6 t, iblk m c 7 t, iblk m c 8 t, iblk m c 9 t⟩

/-- what a half's first point leaves -/
theorem outs_first (c : Dev nD) (t : Fin cfg0.N) (h0 : t.val % 16 = 0) :
    outsAt0 m c t.val t.isLt = ((pt m c t).dh k0_pay6, (pt m c t).accW k0_pay10, (pt m c t).accB k0_pay11, (pt m c t).carry, (pt m c t).accD k0_pay7, (pt m c t).accU k0_pay8, (pt m c t).accG k0_pay9 k0_pay6) := by
  rw [outsAt0_A m c t h0 (by omega), out0_A_10_eq, out0_A_11_eq, out0_A_12_eq, sout0_A_0_eq, sout0_A_4_eq, sout0_A_5_eq, sout0_A_6_eq]
  rfl

/-- what a later point leaves -/
theorem outs_next (c : Dev nD) (t : Fin cfg0.N) (h0 : ¬t.val % 16 = 0) :
    outsAt0 m c t.val t.isLt = ((pt m c t).dh (outsAt0 m c (t.val - 1) (Nat.lt_of_le_of_lt (Nat.sub_le _ _) t.isLt)).2.2.2.1, (pt m c t).accW (outsAt0 m c (t.val - 1) (Nat.lt_of_le_of_lt (Nat.sub_le _ _) t.isLt)).2.1, (pt m c t).accB (outsAt0 m c (t.val - 1) (Nat.lt_of_le_of_lt (Nat.sub_le _ _) t.isLt)).2.2.1, (pt m c t).carry,
      (pt m c t).accD (outsAt0 m c (t.val - 1) (Nat.lt_of_le_of_lt (Nat.sub_le _ _) t.isLt)).2.2.2.2.1, (pt m c t).accU (outsAt0 m c (t.val - 1) (Nat.lt_of_le_of_lt (Nat.sub_le _ _) t.isLt)).2.2.2.2.2.1, (pt m c t).accG (outsAt0 m c (t.val - 1) (Nat.lt_of_le_of_lt (Nat.sub_le _ _) t.isLt)).2.2.2.2.2.2 (outsAt0 m c (t.val - 1) (Nat.lt_of_le_of_lt (Nat.sub_le _ _) t.isLt)).2.2.2.1) := by
  by_cases h1 : t.val % 16 = 15
  · rw [outsAt0_C m c t h0 h1, out0_C_10_eq, out0_C_11_eq, out0_C_12_eq, sout0_C_0_eq, sout0_C_4_eq, sout0_C_5_eq, sout0_C_6_eq]
    rfl
  · rw [outsAt0_B m c t h0 h1, out0_B_10_eq, out0_B_11_eq, out0_B_12_eq, sout0_B_0_eq, sout0_B_4_eq, sout0_B_5_eq, sout0_B_6_eq]
    rfl

/-- what the array of weight gradient 0 holds before each point -/
def hb0 (c : Dev nD) : (n : ℕ) → n ≤ cfg0.N → HbBuf0 (F := F) c hbM0_0
  | 0, _ => V m c main_v11_1
  | n + 1, hn => if h : cond0_1 (grid0.coords ⟨n, hn⟩) then View.write (Elt F) ((Memref.whole main_v11_1).slice (Rect.unit (s := S2816x1024) (k0_off1 (grid0.coords ⟨n, hn⟩)) S1408x1024.size (k0_off1_inb (grid0.coords ⟨n, hn⟩) h)) (fun _ => rfl)).view (hb0 c n (Nat.le_of_lt hn)) (k0_pay3 (outsAt0 m c n hn).2.2.2.2.1) Finset.univ else hb0 c n (Nat.le_of_lt hn)

theorem hb0_keep (c : Dev nD) (t : Fin cfg0.N) (h : ¬t.val % 16 = 15) : hb0 m c (t.val + 1) t.isLt = hb0 m c t.val (Nat.le_of_lt t.isLt) := by
  obtain ⟨n, hn⟩ := t
  exact dif_neg fun hc => h ((hcond0_1 ⟨n, hn⟩).mp hc)

theorem hb0_put (c : Dev nD) (t : Fin cfg0.N) (h : t.val % 16 = 15) : hb0 m c (t.val + 1) t.isLt = View.write (Elt F) ((Memref.whole main_v11_1).slice (Rect.unit (s := S2816x1024) (k0_off1 (grid0.coords t)) S1408x1024.size (k0_off1_inb (grid0.coords t) ((hcond0_1 t).mpr h))) (fun _ => rfl)).view (hb0 m c t.val (Nat.le_of_lt t.isLt)) (k0_pay3 (outsAt0 m c t.val t.isLt).2.2.2.2.1) Finset.univ := by
  obtain ⟨n, hn⟩ := t
  exact dif_pos ((hcond0_1 ⟨n, hn⟩).mpr h)

/-- what the array of weight gradient 1 holds before each point -/
def hb1 (c : Dev nD) : (n : ℕ) → n ≤ cfg0.N → HbBuf0 (F := F) c hbM0_1
  | 0, _ => V m c main_v11_2
  | n + 1, hn => if h : cond0_1 (grid0.coords ⟨n, hn⟩) then View.write (Elt F) ((Memref.whole main_v11_2).slice (Rect.unit (s := S2816x1024) (k0_off1 (grid0.coords ⟨n, hn⟩)) S1408x1024.size (k0_off1_inb (grid0.coords ⟨n, hn⟩) h)) (fun _ => rfl)).view (hb1 c n (Nat.le_of_lt hn)) (k0_pay4 (outsAt0 m c n hn).2.2.2.2.2.1) Finset.univ else hb1 c n (Nat.le_of_lt hn)

theorem hb1_keep (c : Dev nD) (t : Fin cfg0.N) (h : ¬t.val % 16 = 15) : hb1 m c (t.val + 1) t.isLt = hb1 m c t.val (Nat.le_of_lt t.isLt) := by
  obtain ⟨n, hn⟩ := t
  exact dif_neg fun hc => h ((hcond0_1 ⟨n, hn⟩).mp hc)

theorem hb1_put (c : Dev nD) (t : Fin cfg0.N) (h : t.val % 16 = 15) : hb1 m c (t.val + 1) t.isLt = View.write (Elt F) ((Memref.whole main_v11_2).slice (Rect.unit (s := S2816x1024) (k0_off1 (grid0.coords t)) S1408x1024.size (k0_off1_inb (grid0.coords t) ((hcond0_1 t).mpr h))) (fun _ => rfl)).view (hb1 m c t.val (Nat.le_of_lt t.isLt)) (k0_pay4 (outsAt0 m c t.val t.isLt).2.2.2.2.2.1) Finset.univ := by
  obtain ⟨n, hn⟩ := t
  exact dif_pos ((hcond0_1 ⟨n, hn⟩).mpr h)

/-- what the array of weight gradient 2 holds before each point -/
def hb2 (c : Dev nD) : (n : ℕ) → n ≤ cfg0.N → HbBuf0 (F := F) c hbM0_2
  | 0, _ => V m c main_v11_3
  | n + 1, hn => if h : cond0_1 (grid0.coords ⟨n, hn⟩) then View.write (Elt F) ((Memref.whole main_v11_3).slice (Rect.unit (s := S2816x1024) (k0_off1 (grid0.coords ⟨n, hn⟩)) S1408x1024.size (k0_off1_inb (grid0.coords ⟨n, hn⟩) h)) (fun _ => rfl)).view (hb2 c n (Nat.le_of_lt hn)) (k0_pay5 (outsAt0 m c n hn).2.2.2.2.2.2) Finset.univ else hb2 c n (Nat.le_of_lt hn)

theorem hb2_keep (c : Dev nD) (t : Fin cfg0.N) (h : ¬t.val % 16 = 15) : hb2 m c (t.val + 1) t.isLt = hb2 m c t.val (Nat.le_of_lt t.isLt) := by
  obtain ⟨n, hn⟩ := t
  exact dif_neg fun hc => h ((hcond0_1 ⟨n, hn⟩).mp hc)

theorem hb2_put (c : Dev nD) (t : Fin cfg0.N) (h : t.val % 16 = 15) : hb2 m c (t.val + 1) t.isLt = View.write (Elt F) ((Memref.whole main_v11_3).slice (Rect.unit (s := S2816x1024) (k0_off1 (grid0.coords t)) S1408x1024.size (k0_off1_inb (grid0.coords t) ((hcond0_1 t).mpr h))) (fun _ => rfl)).view (hb2 m c t.val (Nat.le_of_lt t.isLt)) (k0_pay5 (outsAt0 m c t.val t.isLt).2.2.2.2.2.2) Finset.univ := by
  obtain ⟨n, hn⟩ := t
  exact dif_pos ((hcond0_1 ⟨n, hn⟩).mpr h)

/-- the written arrays listed -/
theorem routed_eq (c : Dev nD) (G : (b : Ref sig .tc) → Buf (Elt F) ((c : Thread nD τ).loc b)) :
    (Pipeline.routed R0 c G : sProp 𝕄) = iprop(hbPt0 c hbM0_0 (G main_v11_1) ∗ hbPt0 c hbM0_1 (G main_v11_2) ∗ hbPt0 c hbM0_2 (G main_v11_3)) := by
  unfold Pipeline.routed; rw [BI.bigSep_eq_bigSepL_of_eq [main_v11_1, main_v11_2, main_v11_3] (by decide) (by decide)]; rfl

/-- the launch's invariant with the written arrays at given contents -/
theorem phi_given_eq (c : Dev nD) (G : (c : Dev nD) → (b : Ref sig .tc) → Buf (Elt F) ((c : Thread nD τ).loc b)) :
    (Pipeline.ΦDRG osem0 spec0 H0 R0 (V m) G c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 23) 0) ∗ iprop(emp) ∗ iprop(hbPt0 c hbM0_0 (G c main_v11_1) ∗ hbPt0 c hbM0_1 (G c main_v11_2) ∗ hbPt0 c hbM0_2 (G c main_v11_3))) := by
  rw [Pipeline.ΦDRG_eq, scopedRest0_eq, ownSems00_eq, hbmPts0_eq, routed_eq]; simp only [scM0_0, scM0_1, scM0_2, scM0_3, scM0_4, scM0_5, scM0_6, scM0_7, owns_whole]; try rfl

/-- the invariant before each point -/
def PhiN (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.1) ∗ owns (c : Thread nD τ) scM0_5 fullShare ((outsAt0 m c n hn).2.2.2.2.2.1) ∗ owns (c : Thread nD τ) scM0_6 fullShare ((outsAt0 m c n hn).2.2.2.2.2.2) ∗ (∃ d, owns (c : Thread nD τ) scM0_7 fullShare d)) ∗ (∃ r, prngReg c r) ∗ iprop(semVal ((c : Thread nD τ), SemLoc.dma 23) 0) ∗ iprop(emp) ∗ iprop(hbPt0 c hbM0_0 (hb0 m c (n + 1) hn) ∗ hbPt0 c hbM0_1 (hb1 m c (n + 1) hn) ∗ hbPt0 c hbM0_2 (hb2 m c (n + 1) hn)))

theorem PhiN_succ (c : Dev nD) (n : ℕ) (hn : n < cfg0.N) : PhiN m c (n + 1) hn = iprop(iprop(owns (c : Thread nD τ) scM0_0 fullShare ((outsAt0 m c n hn).2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.1) ∗ owns (c : Thread nD τ) scM0_5 fullShare ((outsAt0 m c n hn).2.2.2.2.2.1) ∗ owns (c : Thread nD τ) scM0_6 fullShare ((outsAt0 m c n hn).2.2.2.2.2.2) ∗ (∃ d, owns (c : Thread nD τ) scM0_7 fullShare d)) ∗ (∃ r, prngReg c r) ∗ iprop(semVal ((c : Thread nD τ), SemLoc.dma 23) 0) ∗ iprop(emp) ∗ iprop(hbPt0 c hbM0_0 (hb0 m c (n + 1) hn) ∗ hbPt0 c hbM0_1 (hb1 m c (n + 1) hn) ∗ hbPt0 c hbM0_2 (hb2 m c (n + 1) hn))) := rfl

theorem PhiN_pos (c : Dev nD) (t : Fin cfg0.N) (hz : t.val ≠ 0) : PhiN m c t.val (Nat.le_of_lt t.isLt) = iprop(iprop(owns (c : Thread nD τ) scM0_0 fullShare ((outsAt0 m c (t.val - 1) (Nat.lt_of_le_of_lt (Nat.sub_le _ _) t.isLt)).2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c (t.val - 1) (Nat.lt_of_le_of_lt (Nat.sub_le _ _) t.isLt)).2.2.2.2.1) ∗ owns (c : Thread nD τ) scM0_5 fullShare ((outsAt0 m c (t.val - 1) (Nat.lt_of_le_of_lt (Nat.sub_le _ _) t.isLt)).2.2.2.2.2.1) ∗ owns (c : Thread nD τ) scM0_6 fullShare ((outsAt0 m c (t.val - 1) (Nat.lt_of_le_of_lt (Nat.sub_le _ _) t.isLt)).2.2.2.2.2.2) ∗ (∃ d, owns (c : Thread nD τ) scM0_7 fullShare d)) ∗ (∃ r, prngReg c r) ∗ iprop(semVal ((c : Thread nD τ), SemLoc.dma 23) 0) ∗ iprop(emp) ∗ iprop(hbPt0 c hbM0_0 (hb0 m c t.val (Nat.le_of_lt t.isLt)) ∗ hbPt0 c hbM0_1 (hb1 m c t.val (Nat.le_of_lt t.isLt)) ∗ hbPt0 c hbM0_2 (hb2 m c t.val (Nat.le_of_lt t.isLt)))) := by
  obtain ⟨n, hn⟩ := t
  cases n with
  | zero => exact absurd rfl hz
  | succ n => rfl

/-- the invariant with the carried scratch's contents forgotten -/
theorem PhiN_forget (c : Dev nD) (n : ℕ) (hn : n ≤ cfg0.N) : PhiN m c n hn ⊢ iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 23) 0) ∗ iprop(emp) ∗ iprop(hbPt0 c hbM0_0 (hb0 m c n hn) ∗ hbPt0 c hbM0_1 (hb1 m c n hn) ∗ hbPt0 c hbM0_2 (hb2 m c n hn))) := by
  cases n with
  | zero =>
    rw [show PhiN m c 0 hn = Pipeline.ΦDRG osem0 spec0 H0 R0 (V m) (V m) c from rfl, phi_given_eq]
    exact Idealize.SL.BI.Entails.refl _
  | succ n =>
    rw [PhiN_succ]
    iintro ⟨⟨HS0, HS1, HS2, HS3, HS4, HS5, HS6, HS7⟩, Hg, Hq0, He, Hh⟩
    isplitl [HS0 HS1 HS2 HS3 HS4 HS5 HS6 HS7]
    · isplitl [HS0]
      · iexists _; iexact HS0
      isplitl [HS1]; · iexact HS1
      isplitl [HS2]; · iexact HS2
      isplitl [HS3]; · iexact HS3
      isplitl [HS4]
      · iexists _; iexact HS4
      isplitl [HS5]
      · iexists _; iexact HS5
      isplitl [HS6]
      · iexists _; iexact HS6
      iexact HS7
    isplitl [Hg]; · iexact Hg
    isplitl [Hq0]; · iexact Hq0
    isplitl [He]; · iexact He
    iexact Hh

/-- the pipeline's proof data with that invariant -/
def datsN (p : Fin 1) (c : Dev nD) : Dat τ (Elt F) Unit ℕ (Pipeline.UD sig nD τ) ℕ cfg0 c where
  A := (dats m p c).A
  after := (dats m p c).after
  Φ t := PhiN m c t.val (Nat.le_of_lt_succ t.isLt)
  q w := Pipeline.shareOf spec0 w
  owed _ := 0

theorem before_eq (c : Dev nD) (w : Fin cfg0.W) (t : Fin cfg0.N) (d) : (datsN m 0 c).before w t d = (dats m 0 c).before w t d := rfl

/-- what the pipeline leaves in a window's array does not depend on the invariant -/
theorem arrAt_eq (c : Dev nD) (w : Fin cfg0.W) : ∀ n, (datsN m 0 c).arrAt w n = (dats m 0 c).arrAt w n
  | 0 => rfl
  | n + 1 => by
    unfold Dat.arrAt
    rw [arrAt_eq c w n]
    rfl

/-- what the body starts with -/
def preN (c : Dev nD) (t : Fin cfg0.N) : sProp 𝕄 :=
  iprop((datsN m 0 c).Φ t.castSucc ∗ (datsN m 0 c).owesAt () t.castSucc
    ∗ (∃ d, owns (c : Thread nD τ) (ms0_0 t) fullShare ((datsN m 0 c).before 0 t d))
    ∗ (∃ d, owns (c : Thread nD τ) (ms0_1 t) fullShare ((datsN m 0 c).before 1 t d))
    ∗ (∃ d, owns (c : Thread nD τ) (ms0_2 t) fullShare ((datsN m 0 c).before 2 t d))
    ∗ (∃ d, owns (c : Thread nD τ) (ms0_3 t) fullShare ((datsN m 0 c).before 3 t d))
    ∗ (∃ d, owns (c : Thread nD τ) (ms0_4 t) fullShare ((datsN m 0 c).before 4 t d))
    ∗ (∃ d, owns (c : Thread nD τ) (ms0_5 t) fullShare ((datsN m 0 c).before 5 t d))
    ∗ (∃ d, owns (c : Thread nD τ) (ms0_6 t) fullShare ((datsN m 0 c).before 6 t d))
    ∗ (∃ d, owns (c : Thread nD τ) (ms0_7 t) fullShare ((datsN m 0 c).before 7 t d))
    ∗ (∃ d, owns (c : Thread nD τ) (ms0_8 t) fullShare ((datsN m 0 c).before 8 t d))
    ∗ (∃ d, owns (c : Thread nD τ) (ms0_9 t) fullShare ((datsN m 0 c).before 9 t d))
    ∗ (∃ d, owns (c : Thread nD τ) (ms0_10 t) fullShare ((datsN m 0 c).before 10 t d))
    ∗ (∃ d, owns (c : Thread nD τ) (ms0_11 t) fullShare ((datsN m 0 c).before 11 t d))
    ∗ (∃ d, owns (c : Thread nD τ) (ms0_12 t) fullShare ((datsN m 0 c).before 12 t d)))

/-- what the body returns -/
def postN (c : Dev nD) (t : Fin cfg0.N) : sProp 𝕄 :=
  iprop((datsN m 0 c).Φ t.succ ∗ (datsN m 0 c).owesAt () t.succ
    ∗ owns (c : Thread nD τ) (ms0_0 t) fullShare ((datsN m 0 c).after 0 t)
    ∗ owns (c : Thread nD τ) (ms0_1 t) fullShare ((datsN m 0 c).after 1 t)
    ∗ owns (c : Thread nD τ) (ms0_2 t) fullShare ((datsN m 0 c).after 2 t)
    ∗ owns (c : Thread nD τ) (ms0_3 t) fullShare ((datsN m 0 c).after 3 t)
    ∗ owns (c : Thread nD τ) (ms0_4 t) fullShare ((datsN m 0 c).after 4 t)
    ∗ owns (c : Thread nD τ) (ms0_5 t) fullShare ((datsN m 0 c).after 5 t)
    ∗ owns (c : Thread nD τ) (ms0_6 t) fullShare ((datsN m 0 c).after 6 t)
    ∗ owns (c : Thread nD τ) (ms0_7 t) fullShare ((datsN m 0 c).after 7 t)
    ∗ owns (c : Thread nD τ) (ms0_8 t) fullShare ((datsN m 0 c).after 8 t)
    ∗ owns (c : Thread nD τ) (ms0_9 t) fullShare ((datsN m 0 c).after 9 t)
    ∗ owns (c : Thread nD τ) (ms0_10 t) fullShare ((datsN m 0 c).after 10 t)
    ∗ owns (c : Thread nD τ) (ms0_11 t) fullShare ((datsN m 0 c).after 11 t)
    ∗ owns (c : Thread nD τ) (ms0_12 t) fullShare ((datsN m 0 c).after 12 t))

set_option maxHeartbeats 4000000 in
/-- the body at any point, from the invariant before it to the invariant after it -/
theorem body_point (c : Dev nD) (t : Fin cfg0.N) :
    preN m c t ⊢ wp frame (wpE (defs₀ (F := F)) Variants.none c none) Set.univ (bodyAt0 t) (fun _ => postN m c t) := by
  unfold preN postN bodyAt0
  simp only [before_eq, before0_0, before0_1, before0_2, before0_3, before0_4, before0_5, before0_6, before0_7, before0_8, before0_9]
  rw [show (datsN m 0 c).Φ t.castSucc = PhiN m c t.val (Nat.le_of_lt t.isLt) from rfl, show (datsN m 0 c).Φ t.succ = PhiN m c (t.val + 1) t.isLt from rfl, PhiN_succ]
  rw [show (datsN m 0 c).after = (dats m 0 c).after from rfl, after0_0, after0_1, after0_2, after0_3, after0_4, after0_5, after0_6, after0_7, after0_8, after0_9, after0_10, after0_11, after0_12]
  unfold Dat.owesAt Pipeline.owesWithin
  rw [show (datsN m 0 c).owed t.castSucc = 0 from rfl, show (datsN m 0 c).owed t.succ = 0 from rfl]
  by_cases h0 : t.val % 16 = 0
  · have h1 : ¬t.val % 16 = 15 := by omega
    rw [hb0_keep m c t h1, hb1_keep m c t h1, hb2_keep m c t h1]
    refine (Idealize.SL.BI.BIBase.Entails.trans (Idealize.SL.BI.Laws.sep_mono_left (PhiN_forget m c t.val (Nat.le_of_lt t.isLt))) ?_)
    rw [outs_first m c t h0]
    (try dsimp only)
    iintro ⟨⟨⟨HS0, HS1, HS2, HS3, HS4, HS5, HS6, HS7⟩, Hg, Hq0, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [Hq0]; · iexact Hq0
    isplitl [HW]; · iexact HW
    iintro ⟨H0, H1, H2, H3, H4, H5, H6, H7, H8, H9, H10, H11, H12, HS0, HS1, HS2, HS3, HS4, HS5, HS6, HS7, Hq0, ⟨%W', HW'⟩⟩
    isplitl [HS0 HS1 HS2 HS3 HS4 HS5 HS6 HS7 Hg Hq0 Hh0 Hh1 Hh2]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      isplitl [Hg]; · iexact Hg
      isplitl [Hq0]; · iexact Hq0
      isplitr; · iempintro
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h1 : t.val % 16 = 15
    · skip
      rw [hb0_put m c t h1, hb1_put m c t h1, hb2_put m c t h1]
      rw [PhiN_pos m c t (by omega)]
      simp only [before_eq, before0_11_C m c t h0 h1, before0_12_C m c t h0 h1]
      rw [outs_next m c t h0]
      (try dsimp only)
      iintro ⟨⟨⟨HS0, HS1, HS2, HS3, HS4, HS5, HS6, HS7⟩, Hg, Hq0, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (hb0 m c t.val (Nat.le_of_lt t.isLt)) (hb1 m c t.val (Nat.le_of_lt t.isLt)) (hb2 m c t.val (Nat.le_of_lt t.isLt)) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [Hq0]; · iexact Hq0
      isplitl [Hh0]; · iexact Hh0
      isplitl [Hh1]; · iexact Hh1
      isplitl [Hh2]; · iexact Hh2
      isplitl [HW]; · iexact HW
      iintro ⟨H0, H1, H2, H3, H4, H5, H6, H7, H8, H9, H10, H11, H12, HS0, HS1, HS2, HS3, HS4, HS5, HS6, HS7, Hq0, ⟨%g0, %e0, Hh0⟩, ⟨%g1, %e1, Hh1⟩, ⟨%g2, %e2, Hh2⟩, ⟨%W', HW'⟩⟩
      subst e0 e1 e2
      isplitl [HS0 HS1 HS2 HS3 HS4 HS5 HS6 HS7 Hg Hq0 Hh0 Hh1 Hh2]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        isplitl [Hg]; · iexact Hg
        isplitl [Hq0]; · iexact Hq0
        isplitr; · iempintro
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · skip
      rw [hb0_keep m c t h1, hb1_keep m c t h1, hb2_keep m c t h1]
      rw [PhiN_pos m c t (by omega)]
      simp only [before_eq, before0_11_B m c t h0 h1, before0_12_B m c t h0 h1]
      rw [outs_next m c t h0]
      (try dsimp only)
      iintro ⟨⟨⟨HS0, HS1, HS2, HS3, HS4, HS5, HS6, HS7⟩, Hg, Hq0, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [Hq0]; · iexact Hq0
      isplitl [HW]; · iexact HW
      iintro ⟨H0, H1, H2, H3, H4, H5, H6, H7, H8, H9, H10, H11, H12, HS0, HS1, HS2, HS3, HS4, HS5, HS6, HS7, Hq0, ⟨%W', HW'⟩⟩
      isplitl [HS0 HS1 HS2 HS3 HS4 HS5 HS6 HS7 Hg Hq0 Hh0 Hh1 Hh2]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        isplitl [Hg]; · iexact Hg
        isplitl [Hq0]; · iexact Hq0
        isplitr; · iempintro
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- the library's obligation -/
theorem body_obligationN (c : Dev nD) : BodyObligation (datsN (F := F) m 0 c) (defs₀ (F := F)) Variants.none () Set.univ := fun t => by
  rw [bigSep_W0, bigSep_W0, defs₀_row]
  exact triple_restated (body_point m c t) rfl .rfl fun _ => .rfl

/-- the unscoped buffers after the last point: the three weight gradients' arrays at what the points wrote -/
def Gd (c : Dev nD) : (b : Ref sig .tc) → Buf (Elt F) ((c : Thread nD τ).loc b) :=
  Function.update (Function.update (Function.update (V m c) main_v11_1 (hb0 m c cfg0.N (Nat.le_refl _))) main_v11_2 (hb1 m c cfg0.N (Nat.le_refl _))) main_v11_3 (hb2 m c cfg0.N (Nat.le_refl _))

theorem Gd_1 (c : Dev nD) : Gd m c main_v11_1 = hb0 m c cfg0.N (Nat.le_refl _) := by
  unfold Gd
  rw [Function.update_of_ne (show main_v11_1 ≠ main_v11_3 by decide), Function.update_of_ne (show main_v11_1 ≠ main_v11_2 by decide), Function.update_self]

theorem Gd_2 (c : Dev nD) : Gd m c main_v11_2 = hb1 m c cfg0.N (Nat.le_refl _) := by
  unfold Gd
  rw [Function.update_of_ne (show main_v11_2 ≠ main_v11_3 by decide), Function.update_self]

theorem Gd_3 (c : Dev nD) : Gd m c main_v11_3 = hb2 m c cfg0.N (Nat.le_refl _) := by
  unfold Gd
  rw [Function.update_self]

theorem hinN (c : Dev nD) : Pipeline.ΦDRG osem0 spec0 H0 R0 (V m) (V m) c ⊢ (datsN m 0 c).Φ 0 := Idealize.SL.BI.Entails.refl _

set_option maxHeartbeats 2000000 in
theorem houtN (c : Dev nD) : (datsN m 0 c).Φ (Fin.last cfg0.N) ⊢ Pipeline.ΦDRG osem0 spec0 H0 R0 (V m) (Gd m) c := by
  rw [phi_given_eq, Gd_1, Gd_2, Gd_3, show (datsN m 0 c).Φ (Fin.last cfg0.N) = PhiN m c cfg0.N (Nat.le_refl _) from rfl]
  exact PhiN_forget m c cfg0.N (Nat.le_refl _)

set_option backward.isDefEq.respectTransparency.types false in
/-- the whole run, with the written arrays at named contents -/
theorem run_named : θ_run defs (onTc (τ := τ) (main (F := F))) (s₀ m ρ) (fun r => (Pipeline.FramePostRG cfgs (datsN m) 0 R0 (V m) (Gd m)) r ∧ r.2.sem = fun _ => 0) :=
  Pipeline.θ_run_frame_dmaRG_shared (Q' := _) cfgs (datsN m) (0 : Fin 1) launch₀0 osem0 defs₀ Variants.none ownSemFacts0 H0 R0 H0_sub R0_sub m ρ main
    (hbody := fun c => (body_obligationN m c).loose) (hq := fun _ _ _ => rfl)
    (howed := fun _ _ => rfl) (V := V m) (hmain := hmain m Variants.none) (hA := A_eq m) (G := Gd m)
    (hin := hinN m) (hout := houtN m)

/-- the run's results by name -/
theorem run_results : θ_run defs (onTc (τ := τ) (main (F := F))) ⟨m, fun _ => 0, ρ⟩ fun r => ∀ c : Dev nD,
      r.2.mem ((c : Thread nD τ).loc main_v11_0) = (dats m 0 c).arrAt 10 cfg0.N
      ∧ r.2.mem ((c : Thread nD τ).loc main_v11_1) = hb0 m c cfg0.N (Nat.le_refl _)
      ∧ r.2.mem ((c : Thread nD τ).loc main_v11_2) = hb1 m c cfg0.N (Nat.le_refl _)
      ∧ r.2.mem ((c : Thread nD τ).loc main_v11_3) = hb2 m c cfg0.N (Nat.le_refl _)
      ∧ r.2.mem ((c : Thread nD τ).loc main_v11_4) = (dats m 0 c).arrAt 11 cfg0.N
      ∧ r.2.mem ((c : Thread nD τ).loc main_v11_5) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    have h' : Pipeline.FramePostR cfgs (dats m) 0 R0 (V m) r :=
      fun c => ⟨fun w => ((h.1.1 c).1 w).trans (arrAt_eq m c w _), (h.1.1 c).2⟩
    exact ⟨Value.post10 m r h' c, (h.1.2 c main_v11_1 (by decide)).trans (Gd_1 m c), (h.1.2 c main_v11_2 (by decide)).trans (Gd_2 m c),
      (h.1.2 c main_v11_3 (by decide)).trans (Gd_3 m c), Value.post11 m r h' c, Value.post12 m r h' c, Value.kept_main_arg0 m r h' c, Value.kept_main_arg1 m r h' c,
      Value.kept_main_arg2 m r h' c, Value.kept_main_arg3 m r h' c, Value.kept_main_arg4 m r h' c, Value.kept_main_arg5 m r h' c, Value.kept_main_arg6 m r h' c⟩)
    (run_named m ρ)

end Cert.KernelIdeal.Named

end
-- ==== Proof.Math.lean ====
module

public import proofs.«01_k».proof.Proof.Body
public import Idealize.ShloMosaic.Lib.Pipeline.ValueKit

@[expose] public section

set_option maxRecDepth 16384

noncomputable section

/-! The gradient of the gated feed-forward block, entry by entry, over the extended reals. The seven arrays are the
rows `h`, the three weights, the taps and the bias of the convolution, and the cotangent `dy`. A row number is a
natural number, and a row past the last reads 0. -/
namespace Cert.KernelIdeal.Grad
open Cert.KernelIdeal Cert.KernelIdeal.Gen
open Idealize.ShloMosaic Idealize.ShloMosaic.TcCoe Idealize.SL.Sem

/-- the seven argument arrays -/
structure Args where
  /-- the normed rows -/
  h : FVec Ideal S8192x1024 .f32
  /-- the gate weight -/
  wg : FVec Ideal S1024x2816 .f32
  /-- the up weight -/
  wu : FVec Ideal S1024x2816 .f32
  /-- the down weight -/
  wd : FVec Ideal S2816x1024 .f32
  /-- the taps of the convolution -/
  cw : FVec Ideal S3x2816 .f32
  /-- the bias of the convolution -/
  cb : FVec Ideal S1x2816 .f32
  /-- the cotangent -/
  dy : FVec Ideal S8192x1024 .f32

/-- row `r` of a tall array, 0 past its last row -/
def rd (x : FVec Ideal S8192x1024 .f32) (r : ℕ) (d : Fin 1024) : EReal :=
  if h : r < 8192 then x (ix2 ⟨r, h⟩ d) else 0

theorem rd_of_lt (x : FVec Ideal S8192x1024 .f32) (r : ℕ) (d : Fin 1024) (h : r < 8192) :
    rd x r d = x (ix2 ⟨r, h⟩ d) := dif_pos h

theorem rd_of_ge (x : FVec Ideal S8192x1024 .f32) (r : ℕ) (d : Fin 1024) (h : 8192 ≤ r) :
    rd x r d = 0 := dif_neg (by omega)

namespace Args
variable (A : Args)

/-- the gate product -/
def gp (r : ℕ) (f : Fin 2816) : EReal := ∑ k : Fin 1024, rd A.h r k * A.wg (ix2 k f)
/-- the gate product `k` rows before, 0 before the first row -/
def gpb (k r : ℕ) (f : Fin 2816) : EReal := if r < k then 0 else A.gp (r - k) f
/-- the up product -/
def up (r : ℕ) (f : Fin 2816) : EReal := ∑ k : Fin 1024, rd A.h r k * A.wu (ix2 k f)
/-- the convolved gate -/
def gate (r : ℕ) (f : Fin 2816) : EReal :=
  A.gpb 2 r f * A.cw (ix2 0 f) + A.gpb 1 r f * A.cw (ix2 1 f) + A.gp r f * A.cw (ix2 2 f) + A.cb (ix2 0 f)
/-- the sigmoid of the gate -/
def sg (r : ℕ) (f : Fin 2816) : EReal := Ideal.div 1 (1 + Ideal.exp (0 - A.gate r f))
/-- the gate times its sigmoid -/
def silu (r : ℕ) (f : Fin 2816) : EReal := A.gate r f * A.sg r f
/-- the hidden rows -/
def act (r : ℕ) (f : Fin 2816) : EReal := A.silu r f * A.up r f
/-- the gradient of the hidden rows -/
def da (r : ℕ) (f : Fin 2816) : EReal := ∑ d : Fin 1024, rd A.dy r d * A.wd (ix2 f d)
/-- the gradient of the up product -/
def dup (r : ℕ) (f : Fin 2816) : EReal := A.da r f * A.silu r f
/-- the gradient of the convolved gate -/
def dgate (r : ℕ) (f : Fin 2816) : EReal :=
  A.da r f * A.up r f * (A.sg r f * (1 + A.gate r f * (1 - A.sg r f)))
/-- the gradient of the gate product -/
def dgp (r : ℕ) (f : Fin 2816) : EReal :=
  A.dgate r f * A.cw (ix2 2 f) + A.dgate (r + 1) f * A.cw (ix2 1 f) + A.dgate (r + 2) f * A.cw (ix2 0 f)

theorem dgate_of_ge (r : ℕ) (f : Fin 2816) (h : 8192 ≤ r) : A.dgate r f = 0 := by
  have : A.da r f = 0 := Finset.sum_eq_zero fun d _ => by rw [rd_of_ge _ _ _ h, zero_mul]
  rw [dgate, this, zero_mul, zero_mul]

end Args

/-- column `c` of half `j` of the hidden columns -/
def col (j : ℕ) (c : Fin 1408) : Fin 2816 := if h : j * 1408 + c.val < 2816 then ⟨j * 1408 + c.val, h⟩ else 0

theorem col_val (j : ℕ) (hj : j < 2) (c : Fin 1408) : (col j c).val = j * 1408 + c.val := by
  have := c.isLt
  rw [col, dif_pos (by omega)]

end Cert.KernelIdeal.Grad
end
-- ==== Proof.PtAt.lean ====
module

public import proofs.«01_k».proof.Proof.Math

@[expose] public section

set_option maxRecDepth 16384

noncomputable section

/-! What a point leaves, entry by entry over the extended reals, when its blocks are those of the seven arrays. -/
namespace Cert.KernelIdeal.Grad
open Cert.KernelIdeal Cert.KernelIdeal.Gen Cert.KernelIdeal.Stage
open Idealize.ShloMosaic Idealize.ShloMosaic.TcCoe Idealize.SL.Sem

/-- a choice on two small words' equality is a choice on the numbers' -/
theorem select_word {α : Type} (n m : ℕ) (hn : n < 4294967296) (hm : m < 4294967296) (x y : α) :
    Scalar.select (IntOp.cmpi .eq (BitVec.ofNat 32 n) (BitVec.ofNat 32 m)) x y = if n = m then x else y := by
  by_cases h : n = m
  · subst h
    simp [Scalar.select, IntOp.cmpi]
  · have hne : BitVec.ofNat 32 n ≠ BitVec.ofNat 32 m := fun e => h (by
      have := congrArg BitVec.toNat e
      rwa [BitVec.toNat_ofNat, BitVec.toNat_ofNat, Nat.mod_eq_of_lt hn, Nat.mod_eq_of_lt hm] at this)
    rw [if_neg h]
    have hb : (BitVec.ofNat 32 n == BitVec.ofNat 32 m) = false := by simpa using hne
    exact if_neg (by simp only [IntOp.cmpi, hb]; decide)

/-- 1 at a point with a block before it, 0 at the last -/
def keep (i : grid0.Coords) : EReal := ((((Scalar.extui (Scalar.cmpi .slt (BitVec.ofNat 32 (i 1).val) 15#32) : BitVec 32).toInt : ℝ)) : EReal)

theorem keep_eq (n : Fin 16) : (Scalar.extui (Scalar.cmpi .slt (BitVec.ofNat 32 n.val) 15#32) : BitVec 32).toInt = if n.val < 15 then 1 else 0 := by
  revert n; decide

theorem keep_of_lt (i : grid0.Coords) (h : (i 1).val < 15) : keep i = 1 := by
  have e := keep_eq (i 1)
  rw [if_pos h] at e
  rw [keep, e]; simp

theorem keep_of_ge (i : grid0.Coords) (h : ¬(i 1).val < 15) : keep i = 0 := by
  have e := keep_eq (i 1)
  rw [if_neg h] at e
  rw [keep, e]; simp

/-- the blocks of point `p` are block `b` of rows and half `j` of columns of the arrays -/
structure Fits (A : Args) (p : Pt Ideal) (j b : ℕ) : Prop where
  hb : (p.i 1).val + b = 15
  dx : ∀ r d, p.dx (ix2 r d) = rd A.dy (512 * b + r.val) d
  h : ∀ r d, p.h (ix2 r d) = rd A.h (512 * b + r.val) d
  gp : ∀ r c, p.gp (ix2 r c) = A.gp (512 * b + r.val) (col j c)
  halo : 0 < b → ∀ (r : Fin 16) c, p.halo (ix2 r c) = A.gp (512 * b - 16 + r.val) (col j c)
  up : ∀ r c, p.up (ix2 r c) = A.up (512 * b + r.val) (col j c)
  wg : ∀ c d, p.wg (ix2 c d) = A.wg (ix2 d (col j c))
  wu : ∀ c d, p.wu (ix2 c d) = A.wu (ix2 d (col j c))
  wd : ∀ c d, p.wd (ix2 c d) = A.wd (ix2 (col j c) d)
  cw : ∀ q c, p.cw (ix2 q c) = A.cw (ix2 q (col j c))
  cb : ∀ c, p.cb (ix2 0 c) = A.cb (ix2 0 (col j c))

namespace Fits
variable {A : Args} {p : Pt Ideal} {j b : ℕ} (H : Fits A p j b)
include H

theorem halo_keep (r : Fin 16) (c : Fin 1408) (k : ℕ) (hk : r.val + k = 16) :
    p.halo (ix2 r c) * keep p.i = A.gpb k (512 * b) (col j c) := by
  have hb := H.hb
  have hr := r.isLt
  by_cases h : 0 < b
  · rw [keep_of_lt _ (by omega), mul_one, H.halo h, Args.gpb, if_neg (by omega)]
    congr 1; omega
  · rw [keep_of_ge _ (by omega), mul_zero, Args.gpb, if_pos (by omega)]

theorem gp1 (r : Fin 512) (c : Fin 1408) : p.gp1 (ix2 r c) = A.gpb 1 (512 * b + r.val) (col j c) := by
  have e := H.halo_keep 15 c 1 rfl
  have hr := r.isLt
  unfold keep at e
  unfold Pt.gp1
  pointwise [k0_pay16, k0_pay15, k0_pay14, k0_pay13]
  rw [e, H.gp]
  have key : ¬r.val = 0 → A.gp (512 * b + (r.val + 512 - 1) % 512) (col j c) = A.gpb 1 (512 * b + r.val) (col j c) := fun h => by
    rw [Args.gpb, if_neg (by omega)]; congr 1; omega
  by_cases h : r.val < 8
  · rw [dif_pos h, select_word _ _ (by omega) (by omega)]
    by_cases h0 : r.val = 0
    · rw [if_pos h0, h0]; rfl
    · rw [if_neg h0]; exact key h0
  · rw [dif_neg h, H.gp, ← key (by omega)]; dsimp only; congr 1; omega

theorem gp2 (r : Fin 512) (c : Fin 1408) : p.gp2 (ix2 r c) = A.gpb 2 (512 * b + r.val) (col j c) := by
  have e1 := H.halo_keep 15 c 1 rfl
  have e2 := H.halo_keep 14 c 2 rfl
  have hr := r.isLt
  unfold keep at e1 e2
  unfold Pt.gp2
  pointwise [k0_pay21, k0_pay17, k0_pay18, k0_pay19, k0_pay20, k0_pay15, k0_pay14, k0_pay13]
  rw [e1, e2, H.gp]
  have key : ¬r.val < 2 → A.gp (512 * b + (r.val + 512 - 2) % 512) (col j c) = A.gpb 2 (512 * b + r.val) (col j c) := fun h => by
    rw [Args.gpb, if_neg (by omega)]; congr 1; omega
  by_cases h : r.val < 8
  · rw [dif_pos h, select_word _ _ (by omega) (by omega), select_word _ _ (by omega) (by omega)]
    by_cases h1 : r.val = 1
    · rw [if_pos h1, h1, Args.gpb, Args.gpb]
      by_cases hz : b = 0
      · rw [if_pos (by omega), if_pos (by omega)]
      · rw [if_neg (by omega), if_neg (by omega)]; congr 1
    · rw [if_neg h1]
      by_cases h0 : r.val = 0
      · rw [if_pos h0, h0]; rfl
      · rw [if_neg h0]; exact key (by omega)
  · rw [dif_neg h, H.gp, ← key (by omega)]; dsimp only; congr 1; omega

theorem w0 (c : Fin 1408) : p.w0 (ix2 0 c) = A.cw (ix2 0 (col j c)) := by
  rw [← H.cw]; unfold Pt.w0
  exact View.ld_unit_apply_of _ _ _ _ _ _ (by intro a; fin_cases a <;> simp)

theorem w1 (c : Fin 1408) : p.w1 (ix2 0 c) = A.cw (ix2 1 (col j c)) := by
  rw [← H.cw]; unfold Pt.w1
  exact View.ld_unit_apply_of _ _ _ _ _ _ (by intro a; fin_cases a <;> simp)

theorem w2 (c : Fin 1408) : p.w2 (ix2 0 c) = A.cw (ix2 2 (col j c)) := by
  rw [← H.cw]; unfold Pt.w2
  exact View.ld_unit_apply_of _ _ _ _ _ _ (by intro a; fin_cases a <;> simp)

theorem gate (r : Fin 512) (c : Fin 1408) : p.gate (ix2 r c) = A.gate (512 * b + r.val) (col j c) := by
  have e1 := H.gp1 r c
  have e2 := H.gp2 r c
  unfold Pt.gp1 at e1
  unfold Pt.gp2 at e2
  unfold Pt.gate
  pointwise [k0_pay22, k0_pay13]
  rw [e1, e2, H.w0, H.w1, H.w2, H.cb, H.gp]
  rfl

theorem sg (r : Fin 512) (c : Fin 1408) : p.sg (ix2 r c) = A.sg (512 * b + r.val) (col j c) := by
  have e1 := H.gate r c
  unfold Pt.gate at e1
  unfold Pt.sg
  pointwise [k0_pay23]
  rw [e1]
  rfl

theorem da (r : Fin 512) (c : Fin 1408) : p.da (ix2 r c) = A.da (512 * b + r.val) (col j c) := by
  unfold Pt.da
  pointwise [k0_pay26, k0_pay12]
  simp only [H.dx, H.wd]
  rfl

theorem act (r : Fin 512) (c : Fin 1408) : p.act (ix2 r c) = A.act (512 * b + r.val) (col j c) := by
  have e1 := H.gate r c
  have e2 := H.sg r c
  unfold Pt.gate at e1
  unfold Pt.sg at e2
  unfold Pt.act
  pointwise [k0_pay27, k0_pay24, k0_pay25]
  rw [e1, e2, H.up]
  rfl

theorem dup (r : Fin 512) (c : Fin 1408) : p.dup (ix2 r c) = A.dup (512 * b + r.val) (col j c) := by
  have e1 := H.gate r c
  have e2 := H.sg r c
  have e3 := H.da r c
  unfold Pt.gate at e1
  unfold Pt.sg at e2
  unfold Pt.da at e3
  unfold Pt.dup
  pointwise [k0_pay28, k0_pay24]
  rw [e1, e2, e3]
  rfl

theorem dgate (r : Fin 512) (c : Fin 1408) : p.dgate (ix2 r c) = A.dgate (512 * b + r.val) (col j c) := by
  unfold Pt.dgate
  pointwise [k0_pay30, k0_pay25]
  rw [H.da, H.up, H.sg, H.gate]
  rfl

theorem carry (r : Fin 8) (c : Fin 1408) : p.carry (ix2 r c) = A.dgate (512 * b + r.val) (col j c) := by
  unfold Pt.carry
  pointwise [k0_pay43, k0_pay37]
  rw [H.dgate]

variable (s : Vec Ideal S8x1408 .f32) (hs : ∀ (r : Fin 8) c, s (ix2 r c) = A.dgate (512 * (b + 1) + r.val) (col j c))
include hs

set_option maxHeartbeats 2000000 in
theorem dgp (r : Fin 512) (c : Fin 1408) : p.dgp s (ix2 r c) = A.dgp (512 * b + r.val) (col j c) := by
  have ed : ∀ r : Fin 512, k0_pay30 p.gate p.sg (k0_pay25 p.up) p.da (ix2 r c) = A.dgate (512 * b + r.val) (col j c) := fun r => by
    have := H.dgate r c
    unfold Pt.dgate at this
    exact this
  unfold Pt.dgp
  pointwise [k0_pay35, k0_pay34, k0_pay33, k0_pay32, k0_pay31]
  have hr := r.isLt
  have at_ : ∀ n n' : ℕ, n = n' → A.dgate n (col j c) = A.dgate n' (col j c) := fun n n' e => by rw [e]
  rw [H.w0, H.w1, H.w2, Args.dgp, ed, hs, hs]
  refine congrArg₂ (· + ·) (congrArg₂ (· + ·) rfl (congrArg (· * _) ?_)) (congrArg (· * _) ?_)
  · by_cases h : r.val < 504
    · rw [dif_pos h, ed]; exact at_ _ _ (by dsimp only; omega)
    · rw [dif_neg h, select_word _ _ (by omega) (by omega)]
      by_cases h7 : r.val - 504 = 7
      · rw [if_pos h7]; exact at_ _ _ (by dsimp only [Fin.val_zero]; omega)
      · rw [if_neg h7, ed]; exact at_ _ _ (by dsimp only; omega)
  · by_cases h : r.val < 504
    · rw [dif_pos h, ed]; exact at_ _ _ (by dsimp only; omega)
    · rw [dif_neg h, select_word _ _ (by omega) (by omega), select_word _ _ (by omega) (by omega)]
      by_cases h7 : r.val - 504 = 7
      · rw [if_pos h7]; exact at_ _ _ (by dsimp only [Fin.val_one]; omega)
      · rw [if_neg h7]
        by_cases h6 : r.val - 504 = 6
        · rw [if_pos h6]; exact at_ _ _ (by dsimp only [Fin.val_zero]; omega)
        · rw [if_neg h6, ed]; exact at_ _ _ (by dsimp only; omega)

theorem dgpS (r : Fin 512) (c : Fin 1408) : p.dgpS s (ix2 r c) = A.dgp (512 * b + r.val) (col j c) := by
  rw [← H.dgp s hs r c]
  unfold Pt.dgpS Pt.dgp
  pointwise [k0_pay35, k0_pay36]

theorem dh (r : Fin 512) (d : Fin 1024) : p.dh s (ix3 0 r d) =
    (∑ c : Fin 1408, A.dgp (512 * b + r.val) (col j c) * A.wg (ix2 d (col j c))) + ∑ c : Fin 1408, A.dup (512 * b + r.val) (col j c) * A.wu (ix2 d (col j c)) := by
  unfold Pt.dh
  pointwise [k0_pay42]
  simp only [H.dgp s hs, H.dup, H.wg, H.wu]

theorem accG (a : Vec Ideal S1024x1408 .f32) (d : Fin 1024) (c : Fin 1408) : p.accG a s (ix2 d c) =
    a (ix2 d c) + ∑ r : Fin 512, rd A.h (512 * b + r.val) d * A.dgp (512 * b + r.val) (col j c) := by
  unfold Pt.accG
  pointwise [k0_pay2]
  simp only [H.h, H.dgpS s hs]

omit hs

theorem accU (a : Vec Ideal S1024x1408 .f32) (d : Fin 1024) (c : Fin 1408) : p.accU a (ix2 d c) =
    a (ix2 d c) + ∑ r : Fin 512, rd A.h (512 * b + r.val) d * A.dup (512 * b + r.val) (col j c) := by
  unfold Pt.accU
  pointwise [k0_pay1, k0_pay45, k0_pay29]
  simp only [H.h, H.dup]

theorem accD (a : Vec Ideal S1408x1024 .f32) (c : Fin 1408) (d : Fin 1024) : p.accD a (ix2 c d) =
    a (ix2 c d) + ∑ r : Fin 512, A.act (512 * b + r.val) (col j c) * rd A.dy (512 * b + r.val) d := by
  unfold Pt.accD
  pointwise [k0_pay44]
  simp only [H.act, H.dx]

theorem accB (a : Vec Ideal S1x1408 .f32) (c : Fin 1408) : p.accB a (ix2 0 c) =
    a (ix2 0 c) + ∑ r : Fin 512, A.dgate (512 * b + r.val) (col j c) := by
  unfold Pt.accB
  pointwise [k0_pay41]
  simp only [H.dgate]

theorem accW (a : Vec Ideal S3x1408 .f32) (q : Fin 3) (c : Fin 1408) : p.accW a (ix2 q c) =
    a (ix2 q c) + ∑ r : Fin 512, A.dgate (512 * b + r.val) (col j c) * A.gpb (2 - q.val) (512 * b + r.val) (col j c) := by
  unfold Pt.accW
  refine View.canon_apply_of_pieces (fun y => a y + ∑ r : Fin 512, A.dgate (512 * b + r.val) (col j (y 1)) * A.gpb (2 - (y 0).val) (512 * b + r.val) (col j (y 1))) _ ?_ _
    (View.cover_of_tiledBy _ ![1, 1408] (by sl_kernel_rfl) _)
  intro P hP
  rcases List.mem_cons.1 hP with rfl | hP
  · intro x
    idx_vars x
    obtain rfl : x0 = 0 := Subsingleton.elim _ _
    have e : (Rect.unit (s := S3x1408) ![2, 0] ![1, 1408] inb_S3x1408_S1x1408_2_0).emb (ix2 0 x1) = ix2 2 x1 :=
      funext fun a => Fin.ext ((Rect.idx_unit_val _ _ _ _ a).trans (by fin_cases a <;> simp))
    rw [e]
    pointwise [k0_pay40, k0_pay13]
    simp only [H.dgate, H.gp]
    rfl
  rcases List.mem_cons.1 hP with rfl | hP
  · intro x
    idx_vars x
    obtain rfl : x0 = 0 := Subsingleton.elim _ _
    have e : (Rect.unit (s := S3x1408) ![1, 0] ![1, 1408] inb_S3x1408_S1x1408_1_0).emb (ix2 0 x1) = ix2 1 x1 :=
      funext fun a => Fin.ext ((Rect.idx_unit_val _ _ _ _ a).trans (by fin_cases a <;> simp))
    rw [e]
    pointwise [k0_pay39]
    simp only [H.dgate, H.gp1]
  rcases List.mem_cons.1 hP with rfl | hP
  · intro x
    idx_vars x
    obtain rfl : x0 = 0 := Subsingleton.elim _ _
    have e : (Rect.unit (s := S3x1408) ![0, 0] ![1, 1408] inb_S3x1408_S1x1408_0_0).emb (ix2 0 x1) = ix2 0 x1 :=
      funext fun a => Fin.ext ((Rect.idx_unit_val _ _ _ _ a).trans (by fin_cases a <;> simp))
    rw [e]
    pointwise [k0_pay38]
    simp only [H.dgate, H.gp2]
  · exact absurd hP List.not_mem_nil

end Fits
end Cert.KernelIdeal.Grad
end
-- ==== Proof.Blocks.lean ====
module

public import proofs.«01_k».proof.Proof.PtAt

@[expose] public section

set_option maxRecDepth 16384

noncomputable section

/-! The blocks of a point are those of the seven arrays: point `t` is half `t / 16` of the hidden columns and block
`15 - t % 16` of the rows. -/
namespace Cert.KernelIdeal.Grad
open Cert.KernelIdeal Cert.KernelIdeal.Gen Cert.KernelIdeal.Stage Cert.KernelIdeal.Named
open Idealize.ShloMosaic Idealize.ShloMosaic.TcCoe Idealize.SL.Sem

variable (m : (l : Loc nD τ sig) → Buf (Elt Ideal) l) (c : Dev nD)

/-- the seven arrays in the launch memory -/
def args : Args where
  h := m ((c : Thread nD τ).loc main_arg0)
  wg := m ((c : Thread nD τ).loc main_arg1)
  wu := m ((c : Thread nD τ).loc main_arg2)
  wd := m ((c : Thread nD τ).loc main_arg3)
  cw := m ((c : Thread nD τ).loc main_arg4)
  cb := m ((c : Thread nD τ).loc main_arg5)
  dy := m ((c : Thread nD τ).loc main_arg6)

/-- the index maps of the windows, decided over the points -/
theorem idx : ∀ t : Fin cfg0.N,
    win0_0.index t = ![15 - t.val % 16, 0] ∧ win0_1.index t = ![15 - t.val % 16, 0]
    ∧ win0_2.index t = ![15 - t.val % 16, t.val / 16]
    ∧ win0_3.index t = ![(15 - t.val % 16) * 32 - 1, t.val / 16]
    ∧ win0_4.index t = ![15 - t.val % 16, t.val / 16]
    ∧ win0_5.index t = ![t.val / 16, 0] ∧ win0_6.index t = ![t.val / 16, 0] ∧ win0_7.index t = ![t.val / 16, 0]
    ∧ win0_8.index t = ![0, t.val / 16] ∧ win0_9.index t = ![0, t.val / 16]
    ∧ win0_10.index t = ![t.val / 16, 15 - t.val % 16, 0]
    ∧ win0_11.index t = ![0, t.val / 16] ∧ win0_12.index t = ![0, t.val / 16] :=
  (by decide +kernel : ∀ t : Fin grid0.N, _)

theorem coord : ∀ t : Fin cfg0.N, (grid0.coords t 0).val = t.val / 16 ∧ (grid0.coords t 1).val = t.val % 16 :=
  (by decide +kernel : ∀ t : Fin grid0.N, _)

variable (t : Fin cfg0.N)

theorem half_lt : t.val / 16 < 2 := by
  have h : t.val < 32 := t.isLt
  omega

theorem col_ix (x : Fin 1408) : (col (t.val / 16) x).val = t.val / 16 * 1408 + x.val :=
  col_val _ (half_lt t) x

theorem at_dx (r : Fin 512) (d : Fin 1024) :
    iblk m c 0 t (ix2 r d) = rd (args m c).dy (512 * (15 - t.val % 16) + r.val) d := by
  have hr := r.isLt
  rw [rd_of_lt _ _ _ (by omega), args]
  dsimp only
  blk_point [iblk, V, idx t]

theorem at_h (r : Fin 512) (d : Fin 1024) :
    iblk m c 1 t (ix2 r d) = rd (args m c).h (512 * (15 - t.val % 16) + r.val) d := by
  have hr := r.isLt
  rw [rd_of_lt _ _ _ (by omega), args]
  dsimp only
  blk_point [iblk, V, idx t]

theorem at_gp (r : Fin 512) (x : Fin 1408) :
    iblk m c 2 t (ix2 r x) = (args m c).gp (512 * (15 - t.val % 16) + r.val) (col (t.val / 16) x) := by
  have hr := r.isLt
  have hc := col_ix t x
  simp only [Args.gp]
  simp only [rd_of_lt _ _ _ (show 512 * (15 - t.val % 16) + r.val < 8192 by omega), args]
  blk_simp [iblk]
  entry_read
  pointwise
  blk_point [idx t]

theorem at_halo (h : 0 < 15 - t.val % 16) (r : Fin 16) (x : Fin 1408) :
    iblk m c 3 t (ix2 r x) = (args m c).gp (512 * (15 - t.val % 16) - 16 + r.val) (col (t.val / 16) x) := by
  have hr := r.isLt
  have hc := col_ix t x
  simp only [Args.gp]
  simp only [rd_of_lt _ _ _ (show 512 * (15 - t.val % 16) - 16 + r.val < 8192 by omega), args]
  blk_simp [iblk]
  entry_read
  pointwise
  blk_point [idx t]

theorem at_up (r : Fin 512) (x : Fin 1408) :
    iblk m c 4 t (ix2 r x) = (args m c).up (512 * (15 - t.val % 16) + r.val) (col (t.val / 16) x) := by
  have hr := r.isLt
  have hc := col_ix t x
  simp only [Args.up]
  simp only [rd_of_lt _ _ _ (show 512 * (15 - t.val % 16) + r.val < 8192 by omega), args]
  blk_simp [iblk]
  entry_read
  pointwise
  blk_point [idx t]

theorem at_wg (x : Fin 1408) (d : Fin 1024) :
    iblk m c 5 t (ix2 x d) = (args m c).wg (ix2 d (col (t.val / 16) x)) := by
  have hc := col_ix t x
  rw [args]
  dsimp only
  blk_point [iblk, V, idx t]

theorem at_wu (x : Fin 1408) (d : Fin 1024) :
    iblk m c 6 t (ix2 x d) = (args m c).wu (ix2 d (col (t.val / 16) x)) := by
  have hc := col_ix t x
  rw [args]
  dsimp only
  blk_point [iblk, V, idx t]

theorem at_wd (x : Fin 1408) (d : Fin 1024) :
    iblk m c 7 t (ix2 x d) = (args m c).wd (ix2 (col (t.val / 16) x) d) := by
  have hc := col_ix t x
  rw [args]
  dsimp only
  blk_point [iblk, V, idx t]

theorem at_cw (q : Fin 3) (x : Fin 1408) :
    iblk m c 8 t (ix2 q x) = (args m c).cw (ix2 q (col (t.val / 16) x)) := by
  have hc := col_ix t x
  rw [args]
  dsimp only
  blk_point [iblk, V, idx t]

theorem at_cb (x : Fin 1408) :
    iblk m c 9 t (ix2 0 x) = (args m c).cb (ix2 0 (col (t.val / 16) x)) := by
  have hc := col_ix t x
  rw [args]
  dsimp only
  blk_point [iblk, V, idx t]

/-- every point's blocks are those of the arrays -/
theorem fits : Fits (args m c) (pt m c t) (t.val / 16) (15 - t.val % 16) where
  hb := by
    have := (coord t).2
    show (grid0.coords t 1).val + _ = 15
    omega
  dx := at_dx m c t
  h := at_h m c t
  gp := at_gp m c t
  halo := at_halo m c t
  up := at_up m c t
  wg := at_wg m c t
  wu := at_wu m c t
  wd := at_wd m c t
  cw := at_cw m c t
  cb := at_cb m c t

end Cert.KernelIdeal.Grad
-- ==== Proof.Sums.lean ====
module

public import proofs.«01_k».proof.Proof.Blocks

@[expose] public section

set_option maxRecDepth 16384

noncomputable section

/-! What the region leaves in the six result arrays: the gradients, each a sum over all the rows. A point adds its block
of rows to the accumulators, from the last block of rows to the first. -/
namespace Cert.KernelIdeal.Grad
open Cert.KernelIdeal Cert.KernelIdeal.Gen Cert.KernelIdeal.Stage Cert.KernelIdeal.Named
open Idealize.ShloMosaic Idealize.ShloMosaic.TcCoe Idealize.SL.Sem

namespace Args
variable (A : Args)

/-- the rows' gradient through one half of the hidden columns -/
def DH : FVec Ideal S2x8192x1024 .bf16 := fun i =>
  (∑ x : Fin 1408, A.dgp (i 1).val (col (i 0).val x) * A.wg (ix2 (i 2) (col (i 0).val x)))
    + ∑ x : Fin 1408, A.dup (i 1).val (col (i 0).val x) * A.wu (ix2 (i 2) (col (i 0).val x))
/-- the down weight's gradient -/
def DD : FVec Ideal S2816x1024 .bf16 := fun i => ∑ r : Fin 8192, A.act r.val (i 0) * rd A.dy r.val (i 1)
/-- the up weight's gradient, transposed -/
def DU : FVec Ideal S2816x1024 .bf16 := fun i => ∑ r : Fin 8192, rd A.h r.val (i 1) * A.dup r.val (i 0)
/-- the gate weight's gradient, transposed -/
def DG : FVec Ideal S2816x1024 .bf16 := fun i => ∑ r : Fin 8192, rd A.h r.val (i 1) * A.dgp r.val (i 0)
/-- the taps' gradient -/
def DW : FVec Ideal S3x2816 .f32 := fun i => ∑ r : Fin 8192, A.dgate r.val (i 1) * A.gpb (2 - (i 0).val) r.val (i 1)
/-- the bias' gradient -/
def DB : FVec Ideal S1x2816 .f32 := fun i => ∑ r : Fin 8192, A.dgate r.val (i 1)

end Args

/-- A quantity that starts at 0 on each half, and to which each point adds its block of rows, is after a point the sum
over the rows from that point's block on. -/
theorem total (term : ℕ → EReal) (j : ℕ) (v : (n : ℕ) → n < cfg0.N → EReal)
    (first : ∀ (n : ℕ) (hn : n < cfg0.N), n / 16 = j → n % 16 = 0 → v n hn = 0 + ∑ r : Fin 512, term (512 * (15 - n % 16) + r.val))
    (next : ∀ (n : ℕ) (hn : n < cfg0.N), n / 16 = j → ¬n % 16 = 0 →
      v n hn = v (n - 1) (Nat.lt_of_le_of_lt (Nat.sub_le _ _) hn) + ∑ r : Fin 512, term (512 * (15 - n % 16) + r.val)) :
    ∀ (n : ℕ) (hn : n < cfg0.N), n / 16 = j → v n hn = ∑ r ∈ Finset.Ico (512 * (15 - n % 16)) 8192, term r := by
  have blk : ∀ b : ℕ, b < 16 → (∑ r : Fin 512, term (512 * b + r.val)) = ∑ r ∈ Finset.Ico (512 * b) (512 * (b + 1)), term r := fun b _ => by
    rw [Finset.sum_Ico_eq_sum_range, show 512 * (b + 1) - 512 * b = 512 by omega, Finset.sum_range]
  intro n
  induction n with
  | zero =>
    intro hn hj
    rw [first 0 hn hj rfl, zero_add, blk _ (by omega)]
  | succ n ih =>
    intro hn hj
    by_cases h : (n + 1) % 16 = 0
    · rw [first _ hn hj h, zero_add, blk _ (by omega), h]
    · rw [next _ hn hj h, blk _ (by omega)]
      have e := ih (Nat.lt_of_succ_lt hn) (by omega)
      have hb : 15 - n % 16 = 15 - (n + 1) % 16 + 1 := by omega
      rw [hb] at e
      show v n _ + _ = _
      rw [e, add_comm, Finset.sum_Ico_consecutive _ (by omega) (by omega)]

/-- … so after the last point of a half it is the sum over all the rows. -/
theorem total_last (term : ℕ → EReal) (n : ℕ) (h : n % 16 = 15) :
    (∑ r ∈ Finset.Ico (512 * (15 - n % 16)) 8192, term r) = ∑ r : Fin 8192, term r.val := by
  rw [h, show 512 * (15 - 15) = 0 from rfl, Nat.Ico_zero_eq_range, Finset.sum_range]

theorem pay6_at (r : Fin 8) (x : Fin 1408) : k0_pay6 (F := Ideal) (ix2 r x) = 0 := by pointwise [k0_pay6]
theorem pay7_at (x : Fin 1408) (d : Fin 1024) : k0_pay7 (F := Ideal) (ix2 x d) = 0 := by pointwise [k0_pay7]
theorem pay8_at (d : Fin 1024) (x : Fin 1408) : k0_pay8 (F := Ideal) (ix2 d x) = 0 := by pointwise [k0_pay8]
theorem pay9_at (d : Fin 1024) (x : Fin 1408) : k0_pay9 (F := Ideal) (ix2 d x) = 0 := by pointwise [k0_pay9]
theorem pay10_at (q : Fin 3) (x : Fin 1408) : k0_pay10 (F := Ideal) (ix2 q x) = 0 := by pointwise [k0_pay10]
theorem pay11_at (x : Fin 1408) : k0_pay11 (F := Ideal) (ix2 0 x) = 0 := by pointwise [k0_pay11]

variable (m : (l : Loc nD τ sig) → Buf (Elt Ideal) l) (c : Dev nD) (t : Fin cfg0.N)

/-- the carried rows of a point are the first rows of its block -/
theorem carry_at (r : Fin 8) (x : Fin 1408) :
    (outsAt0 m c t.val t.isLt).2.2.2.1 (ix2 r x) = (args m c).dgate (512 * (15 - t.val % 16) + r.val) (col (t.val / 16) x) := by
  by_cases h0 : t.val % 16 = 0
  · rw [outs_first m c t h0]
    exact (fits m c t).carry r x
  · rw [outs_next m c t h0]
    exact (fits m c t).carry r x

theorem first_rows (h0 : t.val % 16 = 0) (r : Fin 8) (x : Fin 1408) :
    k0_pay6 (F := Ideal) (ix2 r x) = (args m c).dgate (512 * ((15 - t.val % 16) + 1) + r.val) (col (t.val / 16) x) := by
  rw [pay6_at, Args.dgate_of_ge _ _ _ (by omega)]

theorem next_rows (h0 : ¬t.val % 16 = 0) (r : Fin 8) (x : Fin 1408) :
    (outsAt0 m c (t.val - 1) (Nat.lt_of_le_of_lt (Nat.sub_le _ _) t.isLt)).2.2.2.1 (ix2 r x) = (args m c).dgate (512 * ((15 - t.val % 16) + 1) + r.val) (col (t.val / 16) x) := by
  have e := carry_at m c ⟨t.val - 1, Nat.lt_of_le_of_lt (Nat.sub_le _ _) t.isLt⟩ r x
  dsimp only at e
  rw [e, show 15 - (t.val - 1) % 16 = 15 - t.val % 16 + 1 by omega, show (t.val - 1) / 16 = t.val / 16 by omega]

/-- the rows' gradient a point leaves -/
theorem dh_at (r : Fin 512) (d : Fin 1024) : (outsAt0 m c t.val t.isLt).1 (ix3 0 r d) =
    (∑ x : Fin 1408, (args m c).dgp (512 * (15 - t.val % 16) + r.val) (col (t.val / 16) x) * (args m c).wg (ix2 d (col (t.val / 16) x)))
      + ∑ x : Fin 1408, (args m c).dup (512 * (15 - t.val % 16) + r.val) (col (t.val / 16) x) * (args m c).wu (ix2 d (col (t.val / 16) x)) := by
  by_cases h0 : t.val % 16 = 0
  · rw [outs_first m c t h0]
    exact (fits m c t).dh _ (first_rows m c t h0) r d
  · rw [outs_next m c t h0]
    exact (fits m c t).dh _ (next_rows m c t h0) r d

theorem accD_at (x : Fin 1408) (d : Fin 1024) : (outsAt0 m c t.val t.isLt).2.2.2.2.1 (ix2 x d) = ∑ r ∈ Finset.Ico (512 * (15 - t.val % 16)) 8192, (args m c).act r (col (t.val / 16) x) * rd (args m c).dy r d := by
  refine total (fun r => (args m c).act r (col (t.val / 16) x) * rd (args m c).dy r d) (t.val / 16) (fun n hn => (outsAt0 m c n hn).2.2.2.2.1 (ix2 x d)) ?_ ?_ t.val t.isLt rfl
  · intro n hn hj h
    have e := outs_first m c ⟨n, hn⟩ h
    dsimp only at e ⊢
    rw [e, ← hj]
    dsimp only
    refine ((fits m c ⟨n, hn⟩).accD (k0_pay7 (F := Ideal)) x d).trans ?_
    rw [pay7_at]
  · intro n hn hj h
    have e := outs_next m c ⟨n, hn⟩ h
    dsimp only at e ⊢
    rw [e, ← hj]
    dsimp only
    exact (fits m c ⟨n, hn⟩).accD _ x d

theorem accU_at (d : Fin 1024) (x : Fin 1408) : (outsAt0 m c t.val t.isLt).2.2.2.2.2.1 (ix2 d x) = ∑ r ∈ Finset.Ico (512 * (15 - t.val % 16)) 8192, rd (args m c).h r d * (args m c).dup r (col (t.val / 16) x) := by
  refine total (fun r => rd (args m c).h r d * (args m c).dup r (col (t.val / 16) x)) (t.val / 16) (fun n hn => (outsAt0 m c n hn).2.2.2.2.2.1 (ix2 d x)) ?_ ?_ t.val t.isLt rfl
  · intro n hn hj h
    have e := outs_first m c ⟨n, hn⟩ h
    dsimp only at e ⊢
    rw [e, ← hj]
    dsimp only
    refine ((fits m c ⟨n, hn⟩).accU (k0_pay8 (F := Ideal)) d x).trans ?_
    rw [pay8_at]
  · intro n hn hj h
    have e := outs_next m c ⟨n, hn⟩ h
    dsimp only at e ⊢
    rw [e, ← hj]
    dsimp only
    exact (fits m c ⟨n, hn⟩).accU _ d x

theorem accG_at (d : Fin 1024) (x : Fin 1408) : (outsAt0 m c t.val t.isLt).2.2.2.2.2.2 (ix2 d x) = ∑ r ∈ Finset.Ico (512 * (15 - t.val % 16)) 8192, rd (args m c).h r d * (args m c).dgp r (col (t.val / 16) x) := by
  refine total (fun r => rd (args m c).h r d * (args m c).dgp r (col (t.val / 16) x)) (t.val / 16) (fun n hn => (outsAt0 m c n hn).2.2.2.2.2.2 (ix2 d x)) ?_ ?_ t.val t.isLt rfl
  · intro n hn hj h
    have e := outs_first m c ⟨n, hn⟩ h
    dsimp only at e ⊢
    rw [e, ← hj]
    dsimp only
    refine ((fits m c ⟨n, hn⟩).accG (k0_pay6 (F := Ideal)) (first_rows m c ⟨n, hn⟩ h) (k0_pay9 (F := Ideal)) d x).trans ?_
    rw [pay9_at]
  · intro n hn hj h
    have e := outs_next m c ⟨n, hn⟩ h
    dsimp only at e ⊢
    rw [e, ← hj]
    dsimp only
    exact (fits m c ⟨n, hn⟩).accG _ (next_rows m c ⟨n, hn⟩ h) _ d x

theorem accW_at (q : Fin 3) (x : Fin 1408) : (outsAt0 m c t.val t.isLt).2.1 (ix2 q x) = ∑ r ∈ Finset.Ico (512 * (15 - t.val % 16)) 8192, (args m c).dgate r (col (t.val / 16) x) * (args m c).gpb (2 - q.val) r (col (t.val / 16) x) := by
  refine total (fun r => (args m c).dgate r (col (t.val / 16) x) * (args m c).gpb (2 - q.val) r (col (t.val / 16) x)) (t.val / 16) (fun n hn => (outsAt0 m c n hn).2.1 (ix2 q x)) ?_ ?_ t.val t.isLt rfl
  · intro n hn hj h
    have e := outs_first m c ⟨n, hn⟩ h
    dsimp only at e ⊢
    rw [e, ← hj]
    dsimp only
    refine ((fits m c ⟨n, hn⟩).accW (k0_pay10 (F := Ideal)) q x).trans ?_
    rw [pay10_at]
  · intro n hn hj h
    have e := outs_next m c ⟨n, hn⟩ h
    dsimp only at e ⊢
    rw [e, ← hj]
    dsimp only
    exact (fits m c ⟨n, hn⟩).accW _ q x

theorem accB_at (x : Fin 1408) : (outsAt0 m c t.val t.isLt).2.2.1 (ix2 0 x) = ∑ r ∈ Finset.Ico (512 * (15 - t.val % 16)) 8192, (args m c).dgate r (col (t.val / 16) x) := by
  refine total (fun r => (args m c).dgate r (col (t.val / 16) x)) (t.val / 16) (fun n hn => (outsAt0 m c n hn).2.2.1 (ix2 0 x)) ?_ ?_ t.val t.isLt rfl
  · intro n hn hj h
    have e := outs_first m c ⟨n, hn⟩ h
    dsimp only at e ⊢
    rw [e, ← hj]
    dsimp only
    refine ((fits m c ⟨n, hn⟩).accB (k0_pay11 (F := Ideal)) x).trans ?_
    rw [pay11_at]
  · intro n hn hj h
    have e := outs_next m c ⟨n, hn⟩ h
    dsimp only at e ⊢
    rw [e, ← hj]
    dsimp only
    exact (fits m c ⟨n, hn⟩).accB _ x

end Cert.KernelIdeal.Grad
-- ==== Proof.Final.lean ====
module

public import proofs.«01_k».proof.Proof.Sums

@[expose] public section

set_option maxRecDepth 16384

noncomputable section

/-! The six result arrays after the region are the gradients. -/
namespace Cert.KernelIdeal.Grad
open Cert.KernelIdeal Cert.KernelIdeal.Gen Cert.KernelIdeal.Stage Cert.KernelIdeal.Named
open Idealize.ShloMosaic Idealize.ShloMosaic.TcCoe Idealize.SL.Sem

variable (m : (l : Loc nD τ sig) → Buf (Elt Ideal) l) (c : Dev nD)

theorem col_of (f : Fin 2816) (j : ℕ) (x : Fin 1408) (h : f.val = j * 1408 + x.val) : col j x = f := by
  have hf := f.isLt
  have hj : j < 2 := by omega
  exact Fin.ext ((col_val j hj x).trans h.symm)

theorem final_dh : (dats m 0 c).arrAt 10 cfg0.N = (args m c).DH := by
  refine (dats m 0 c).arrAt_eq_of_covers 10 _ (by decide +kernel) fun t _ y => ?_
  blk_simp
  rw [after0_10]
  idx_vars y
  obtain rfl : y0 = 0 := Subsingleton.elim _ _
  have h1 := y1.isLt
  have e : ((View.whole main_v11_0).slice (win0_10.rect t)).emb (ix3 0 y1 y2)
      = ix3 ⟨t.val / 16, half_lt t⟩ ⟨512 * (15 - t.val % 16) + y1.val, by omega⟩ y2 := by
    blk_ext [idx t]
  rw [e]
  exact dh_at m c t y1 y2

theorem final_dw : (dats m 0 c).arrAt 11 cfg0.N = (args m c).DW := by
  refine (dats m 0 c).arrAt_eq_of_covers 11 _ (by decide +kernel) fun t hf y => ?_
  have hl := (flush0_11 t).mp hf
  blk_simp
  rw [after0_11]
  idx_vars y
  have e : ((View.whole main_v11_4).slice (win0_11.rect t)).emb (ix2 y0 y1) = ix2 y0 (col (t.val / 16) y1) := by
    have hc := col_ix t y1
    blk_ext [idx t]
  rw [e]
  exact (accW_at m c t y0 y1).trans (total_last _ _ hl)

theorem final_db : (dats m 0 c).arrAt 12 cfg0.N = (args m c).DB := by
  refine (dats m 0 c).arrAt_eq_of_covers 12 _ (by decide +kernel) fun t hf y => ?_
  have hl := (flush0_12 t).mp hf
  blk_simp
  rw [after0_12]
  idx_vars y
  obtain rfl : y0 = 0 := Subsingleton.elim _ _
  have e : ((View.whole main_v11_5).slice (win0_12.rect t)).emb (ix2 0 y1) = ix2 0 (col (t.val / 16) y1) := by
    have hc := col_ix t y1
    blk_ext [idx t]
  rw [e]
  exact (accB_at m c t y1).trans (total_last _ _ hl)

/-- where a half's weight gradient is put -/
theorem off : ∀ t : Fin cfg0.N, k0_off1 (grid0.coords t) = ![t.val / 16 * 1408, 0] :=
  (by decide +kernel : ∀ t : Fin grid0.N, _)

/-- a half's weight gradient put into the array, read inside the half -/
theorem put_in (f : Vec Ideal S2816x1024 .bf16) (w : Vec Ideal S1408x1024 .bf16) (o : Fin 2 → ℕ) (hs : S2816x1024.Slices o S1408x1024)
    (j : ℕ) (ho : o = ![j * 1408, 0]) (F : Fin 2816) (x : Fin 1408) (d : Fin 1024) (h : F.val = j * 1408 + x.val) :
    updateSlice f w o hs (ix2 F d) = w (ix2 x d) := by
  subst ho
  unfold updateSlice
  rw [dif_pos]
  · refine congrArg w (funext fun a => Fin.ext ?_)
    fin_cases a
    · show F.val - j * 1408 = x.val
      omega
    · rfl
  · intro a
    have := x.isLt
    fin_cases a
    · show j * 1408 ≤ F.val ∧ F.val < j * 1408 + 1408
      omega
    · show 0 ≤ d.val ∧ d.val < 0 + 1024
      have := d.isLt
      omega

/-- … and outside it -/
theorem put_out (f : Vec Ideal S2816x1024 .bf16) (w : Vec Ideal S1408x1024 .bf16) (o : Fin 2 → ℕ) (hs : S2816x1024.Slices o S1408x1024)
    (j : ℕ) (ho : o = ![j * 1408, 0]) (F : Fin 2816) (d : Fin 1024) (h : F.val < j * 1408) :
    updateSlice f w o hs (ix2 F d) = f (ix2 F d) := by
  subst ho
  unfold updateSlice
  rw [dif_neg]
  intro hin
  have h0 : j * 1408 ≤ F.val := (hin 0).1
  omega

theorem pay3_at (w : Vec Ideal S1408x1024 .f32) (x : Fin 1408) (d : Fin 1024) : k0_pay3 (F := Ideal) w (ix2 x d) = w (ix2 x d) := by
  pointwise [k0_pay3]

theorem put0_in (t : Fin cfg0.N) (h : t.val % 16 = 15) (F : Fin 2816) (x : Fin 1408) (d : Fin 1024) (hF : F.val = t.val / 16 * 1408 + x.val) :
    hb0 m c (t.val + 1) t.isLt (ix2 F d) = (args m c).DD (ix2 F d) := by
  rw [hb0_put m c t h]
  refine (congrFun (View.write_whole_slice_unit main_v11_1 (k0_off1 (grid0.coords t)) S1408x1024.size (k0_off1_inb _ ((hcond0_1 t).mpr h)) _ _) (ix2 F d)).trans ?_
  refine (put_in _ _ _ _ _ (off t) F x d hF).trans ?_
  rw [pay3_at, accD_at m c t x d, total_last _ _ h, col_of F _ x hF]
  rfl

theorem put0_out (t : Fin cfg0.N) (h : t.val % 16 = 15) (F : Fin 2816) (d : Fin 1024) (hF : F.val < t.val / 16 * 1408) :
    hb0 m c (t.val + 1) t.isLt (ix2 F d) = hb0 m c t.val (Nat.le_of_lt t.isLt) (ix2 F d) := by
  rw [hb0_put m c t h]
  refine (congrFun (View.write_whole_slice_unit main_v11_1 (k0_off1 (grid0.coords t)) S1408x1024.size (k0_off1_inb _ ((hcond0_1 t).mpr h)) _ _) (ix2 F d)).trans ?_
  exact put_out _ _ _ _ _ (off t) F d hF

theorem same0 (n n' : ℕ) (h : n ≤ cfg0.N) (h' : n' ≤ cfg0.N) (e : n = n') : hb0 m c n h = hb0 m c n' h' := by
  subst e; rfl

theorem keep0 (n : ℕ) : ∀ (k : ℕ) (_ : n % 16 = 0) (_ : k ≤ 15) (h : n + k ≤ cfg0.N) (h' : n ≤ cfg0.N), hb0 m c (n + k) h = hb0 m c n h'
  | 0, _, _, _, _ => rfl
  | k + 1, hn, hk, h, h' => (hb0_keep m c ⟨n + k, h⟩ (show ¬(n + k) % 16 = 15 by omega)).trans (keep0 n k hn (by omega) (Nat.le_of_succ_le h) h')

theorem entry_w0 (t t' : Fin cfg0.N) (ht : t.val = 15) (ht' : t'.val = 31) (F : Fin 2816) (d : Fin 1024) :
    hb0 m c (t'.val + 1) t'.isLt (ix2 F d) = (args m c).DD (ix2 F d) := by
  have h0 := F.isLt
  by_cases h : F.val < 1408
  · refine (put0_out m c t' (by omega) F d (by omega)).trans ?_
    have e := keep0 m c (t.val + 1) 15 (by omega) (Nat.le_refl _) (by have := t'.isLt; omega) t.isLt
    rw [same0 m c t'.val (t.val + 1 + 15) (Nat.le_of_lt t'.isLt) (by have := t'.isLt; omega) (by omega), e]
    exact put0_in m c t (by omega) F ⟨F.val, h⟩ d (by show F.val = _ + F.val; omega)
  · exact put0_in m c t' (by omega) F ⟨F.val - 1408, by omega⟩ d (by show F.val = _ + (F.val - 1408); omega)

/-- the whole array of weight gradient 0 -/
theorem final_w0 : hb0 m c cfg0.N (Nat.le_refl _) = (args m c).DD := by
  obtain ⟨t, ht⟩ : ∃ t : Fin cfg0.N, t.val = 15 := ⟨⟨15, by decide⟩, rfl⟩
  obtain ⟨t', ht'⟩ : ∃ t : Fin cfg0.N, t.val = 31 := ⟨⟨31, by decide⟩, rfl⟩
  have hN : cfg0.N = 32 := rfl
  funext i
  idx_vars i
  rw [same0 m c cfg0.N (t'.val + 1) (Nat.le_refl _) t'.isLt (by omega)]
  exact entry_w0 m c t t' ht ht' i0 i1

theorem pay4_at (w : Vec Ideal S1024x1408 .f32) (x : Fin 1408) (d : Fin 1024) : k0_pay4 (F := Ideal) w (ix2 x d) = w (ix2 d x) := by
  pointwise [k0_pay4]

theorem put1_in (t : Fin cfg0.N) (h : t.val % 16 = 15) (F : Fin 2816) (x : Fin 1408) (d : Fin 1024) (hF : F.val = t.val / 16 * 1408 + x.val) :
    hb1 m c (t.val + 1) t.isLt (ix2 F d) = (args m c).DU (ix2 F d) := by
  rw [hb1_put m c t h]
  refine (congrFun (View.write_whole_slice_unit main_v11_2 (k0_off1 (grid0.coords t)) S1408x1024.size (k0_off1_inb _ ((hcond0_1 t).mpr h)) _ _) (ix2 F d)).trans ?_
  refine (put_in _ _ _ _ _ (off t) F x d hF).trans ?_
  rw [pay4_at, accU_at m c t d x, total_last _ _ h, col_of F _ x hF]
  rfl

theorem put1_out (t : Fin cfg0.N) (h : t.val % 16 = 15) (F : Fin 2816) (d : Fin 1024) (hF : F.val < t.val / 16 * 1408) :
    hb1 m c (t.val + 1) t.isLt (ix2 F d) = hb1 m c t.val (Nat.le_of_lt t.isLt) (ix2 F d) := by
  rw [hb1_put m c t h]
  refine (congrFun (View.write_whole_slice_unit main_v11_2 (k0_off1 (grid0.coords t)) S1408x1024.size (k0_off1_inb _ ((hcond0_1 t).mpr h)) _ _) (ix2 F d)).trans ?_
  exact put_out _ _ _ _ _ (off t) F d hF

theorem same1 (n n' : ℕ) (h : n ≤ cfg0.N) (h' : n' ≤ cfg0.N) (e : n = n') : hb1 m c n h = hb1 m c n' h' := by
  subst e; rfl

theorem keep1 (n : ℕ) : ∀ (k : ℕ) (_ : n % 16 = 0) (_ : k ≤ 15) (h : n + k ≤ cfg0.N) (h' : n ≤ cfg0.N), hb1 m c (n + k) h = hb1 m c n h'
  | 0, _, _, _, _ => rfl
  | k + 1, hn, hk, h, h' => (hb1_keep m c ⟨n + k, h⟩ (show ¬(n + k) % 16 = 15 by omega)).trans (keep1 n k hn (by omega) (Nat.le_of_succ_le h) h')

theorem entry_w1 (t t' : Fin cfg0.N) (ht : t.val = 15) (ht' : t'.val = 31) (F : Fin 2816) (d : Fin 1024) :
    hb1 m c (t'.val + 1) t'.isLt (ix2 F d) = (args m c).DU (ix2 F d) := by
  have h0 := F.isLt
  by_cases h : F.val < 1408
  · refine (put1_out m c t' (by omega) F d (by omega)).trans ?_
    have e := keep1 m c (t.val + 1) 15 (by omega) (Nat.le_refl _) (by have := t'.isLt; omega) t.isLt
    rw [same1 m c t'.val (t.val + 1 + 15) (Nat.le_of_lt t'.isLt) (by have := t'.isLt; omega) (by omega), e]
    exact put1_in m c t (by omega) F ⟨F.val, h⟩ d (by show F.val = _ + F.val; omega)
  · exact put1_in m c t' (by omega) F ⟨F.val - 1408, by omega⟩ d (by show F.val = _ + (F.val - 1408); omega)

/-- the whole array of weight gradient 1 -/
theorem final_w1 : hb1 m c cfg0.N (Nat.le_refl _) = (args m c).DU := by
  obtain ⟨t, ht⟩ : ∃ t : Fin cfg0.N, t.val = 15 := ⟨⟨15, by decide⟩, rfl⟩
  obtain ⟨t', ht'⟩ : ∃ t : Fin cfg0.N, t.val = 31 := ⟨⟨31, by decide⟩, rfl⟩
  have hN : cfg0.N = 32 := rfl
  funext i
  idx_vars i
  rw [same1 m c cfg0.N (t'.val + 1) (Nat.le_refl _) t'.isLt (by omega)]
  exact entry_w1 m c t t' ht ht' i0 i1

theorem pay5_at (w : Vec Ideal S1024x1408 .f32) (x : Fin 1408) (d : Fin 1024) : k0_pay5 (F := Ideal) w (ix2 x d) = w (ix2 d x) := by
  pointwise [k0_pay5]

theorem put2_in (t : Fin cfg0.N) (h : t.val % 16 = 15) (F : Fin 2816) (x : Fin 1408) (d : Fin 1024) (hF : F.val = t.val / 16 * 1408 + x.val) :
    hb2 m c (t.val + 1) t.isLt (ix2 F d) = (args m c).DG (ix2 F d) := by
  rw [hb2_put m c t h]
  refine (congrFun (View.write_whole_slice_unit main_v11_3 (k0_off1 (grid0.coords t)) S1408x1024.size (k0_off1_inb _ ((hcond0_1 t).mpr h)) _ _) (ix2 F d)).trans ?_
  refine (put_in _ _ _ _ _ (off t) F x d hF).trans ?_
  rw [pay5_at, accG_at m c t d x, total_last _ _ h, col_of F _ x hF]
  rfl

theorem put2_out (t : Fin cfg0.N) (h : t.val % 16 = 15) (F : Fin 2816) (d : Fin 1024) (hF : F.val < t.val / 16 * 1408) :
    hb2 m c (t.val + 1) t.isLt (ix2 F d) = hb2 m c t.val (Nat.le_of_lt t.isLt) (ix2 F d) := by
  rw [hb2_put m c t h]
  refine (congrFun (View.write_whole_slice_unit main_v11_3 (k0_off1 (grid0.coords t)) S1408x1024.size (k0_off1_inb _ ((hcond0_1 t).mpr h)) _ _) (ix2 F d)).trans ?_
  exact put_out _ _ _ _ _ (off t) F d hF

theorem same2 (n n' : ℕ) (h : n ≤ cfg0.N) (h' : n' ≤ cfg0.N) (e : n = n') : hb2 m c n h = hb2 m c n' h' := by
  subst e; rfl

theorem keep2 (n : ℕ) : ∀ (k : ℕ) (_ : n % 16 = 0) (_ : k ≤ 15) (h : n + k ≤ cfg0.N) (h' : n ≤ cfg0.N), hb2 m c (n + k) h = hb2 m c n h'
  | 0, _, _, _, _ => rfl
  | k + 1, hn, hk, h, h' => (hb2_keep m c ⟨n + k, h⟩ (show ¬(n + k) % 16 = 15 by omega)).trans (keep2 n k hn (by omega) (Nat.le_of_succ_le h) h')

theorem entry_w2 (t t' : Fin cfg0.N) (ht : t.val = 15) (ht' : t'.val = 31) (F : Fin 2816) (d : Fin 1024) :
    hb2 m c (t'.val + 1) t'.isLt (ix2 F d) = (args m c).DG (ix2 F d) := by
  have h0 := F.isLt
  by_cases h : F.val < 1408
  · refine (put2_out m c t' (by omega) F d (by omega)).trans ?_
    have e := keep2 m c (t.val + 1) 15 (by omega) (Nat.le_refl _) (by have := t'.isLt; omega) t.isLt
    rw [same2 m c t'.val (t.val + 1 + 15) (Nat.le_of_lt t'.isLt) (by have := t'.isLt; omega) (by omega), e]
    exact put2_in m c t (by omega) F ⟨F.val, h⟩ d (by show F.val = _ + F.val; omega)
  · exact put2_in m c t' (by omega) F ⟨F.val - 1408, by omega⟩ d (by show F.val = _ + (F.val - 1408); omega)

/-- the whole array of weight gradient 2 -/
theorem final_w2 : hb2 m c cfg0.N (Nat.le_refl _) = (args m c).DG := by
  obtain ⟨t, ht⟩ : ∃ t : Fin cfg0.N, t.val = 15 := ⟨⟨15, by decide⟩, rfl⟩
  obtain ⟨t', ht'⟩ : ∃ t : Fin cfg0.N, t.val = 31 := ⟨⟨31, by decide⟩, rfl⟩
  have hN : cfg0.N = 32 := rfl
  funext i
  idx_vars i
  rw [same2 m c cfg0.N (t'.val + 1) (Nat.le_refl _) t'.isLt (by omega)]
  exact entry_w2 m c t t' ht ht' i0 i1

end Cert.KernelIdeal.Grad
-- ==== Proof.Ref.lean ====
module

public import proofs.«01_k».proof.Proof.Final
public import proofs.«01_k».proof.Proof.Gen.ReferenceIdeal.Read

@[expose] public section

set_option maxRecDepth 16384

noncomputable section

/-! The reference's tensors, entry by entry: all the hidden columns, then each half of them by itself. -/
namespace Cert.ReferenceIdeal.Grad
open Cert.ReferenceIdeal Cert.ReferenceIdeal.Gen Cert.ReferenceIdeal.Read
open Cert.KernelIdeal.Grad (Args rd rd_of_lt rd_of_ge col col_val)
open Idealize.ShloMosaic Idealize.ShloMosaic.TcCoe Idealize.SL.Sem

variable (A : Args)

theorem rd_at (x : FVec Ideal S8192x1024 .f32) (r : Fin 8192) (d : Fin 1024) : rd x r.val d = x (ix2 r d) :=
  rd_of_lt x r.val d r.isLt

/-- A gradient of the gate in the reference's order is that in the kernel's, when the gradient of the product is finite. -/
theorem gate_grad (g t : EReal) (ht : t ≠ ⊤) (ht' : t ≠ ⊥) (s : EReal) (hs : s = Ideal.div 1 (1 + Ideal.exp (0 - g))) :
    t * s + g * t * (s * (1 - s)) = t * (s * (1 + g * (1 - s))) := by
  lift t to ℝ using ⟨ht, ht'⟩
  induction g using EReal.rec with
  | bot =>
    have e : s = 0 := by
      rw [hs, show (0 : EReal) - ⊥ = ⊤ from rfl, Ideal.exp_top]
      show Ideal.div 1 (1 + ⊤) = 0
      rw [EReal.add_top_of_ne_bot (by decide)]
      simp [Ideal.div]
    rw [e]; simp
  | top =>
    have e : s = 1 := by
      rw [hs, show (0 : EReal) - ⊤ = ⊥ from rfl, Ideal.exp_bot, add_zero]
      have := Ideal.div_coe (y := 1) one_ne_zero 1
      simpa using this
    have z : (1 : EReal) - 1 = 0 := by
      rw [← EReal.coe_one, ← EReal.coe_sub]; simp
    rw [e, z]; simp
  | coe g =>
    have hne : (1 : ℝ) + Real.exp (0 - g) ≠ 0 := by positivity
    have e : s = ((1 / (1 + Real.exp (0 - g)) : ℝ) : EReal) := by
      rw [hs, ← EReal.coe_zero, ← EReal.coe_sub, Ideal.exp_coe, ← EReal.coe_one, ← EReal.coe_add, Ideal.div_coe hne, EReal.coe_one, one_mul]
    generalize 1 / (1 + Real.exp (0 - g)) = u at e
    subst e
    norm_cast
    ring

namespace Args
variable (A : Args)
/-- the gradient of the hidden rows times the up product is finite everywhere -/
def Tame : Prop := ∀ (r : ℕ) (f : Fin 2816), A.da r f * A.up r f ≠ ⊤ ∧ A.da r f * A.up r f ≠ ⊥
end Args

theorem gpF (r : Fin 8192) (f : Fin 2816) : val_main_v0 (F := Ideal) A.h A.wg (ix2 r f) = A.gp r.val f := by
  unfold Args.gp
  simp only [rd_at]
  pointwise [val_main_v0]

theorem upF (r : Fin 8192) (f : Fin 2816) : val_main_v27 (F := Ideal) A.h A.wu (ix2 r f) = A.up r.val f := by
  unfold Args.up
  simp only [rd_at]
  pointwise [val_main_v27]

theorem daF (r : Fin 8192) (f : Fin 2816) : val_main_v32 (F := Ideal) A.wd A.dy (ix2 r f) = A.da r.val f := by
  unfold Args.da
  simp only [rd_at]
  pointwise [val_main_v32]

theorem gpbF_2 (r : Fin 8192) (f : Fin 2816) : val_main_v4 (F := Ideal) A.h A.wg (ix2 r f) = A.gpb 2 r.val f := by
  have hr := r.isLt
  unfold Args.gpb
  pointwise [val_main_v4, val_main_v2, val_main_v1, val_main_cst]
  by_cases h : r.val < 2
  · rw [if_pos h, dif_pos (by omega)]
  · rw [if_neg h, dif_neg (by omega)]
    refine (gpF A _ f).trans (congrArg (fun n => A.gp n f) ?_)
    try dsimp only
    all_goals omega

theorem gpbF_1 (r : Fin 8192) (f : Fin 2816) : val_main_v10 (F := Ideal) A.h A.wg (ix2 r f) = A.gpb 1 r.val f := by
  have hr := r.isLt
  unfold Args.gpb
  pointwise [val_main_v10, val_main_v2, val_main_v1, val_main_cst]
  by_cases h : r.val < 1
  · rw [if_pos h, dif_pos (by omega)]
  · rw [if_neg h, dif_neg (by omega)]
    refine (gpF A _ f).trans (congrArg (fun n => A.gp n f) ?_)
    try dsimp only
    all_goals omega

theorem gpbF_0 (r : Fin 8192) (f : Fin 2816) : val_main_v17 (F := Ideal) A.h A.wg (ix2 r f) = A.gpb 0 r.val f := by
  have hr := r.isLt
  unfold Args.gpb
  pointwise [val_main_v17, val_main_v2, val_main_v1, val_main_cst]
  rw [if_neg (Nat.not_lt_zero _)]
  exact gpF A r f

theorem wF_0 (r : Fin 8192) (f : Fin 2816) : val_main_v8 (F := Ideal) A.cw (ix2 r f) = A.cw (ix2 0 f) := by
  pointwise [val_main_v5, val_main_v6, val_main_v7, val_main_v8]

theorem wF_1 (r : Fin 8192) (f : Fin 2816) : val_main_v14 (F := Ideal) A.cw (ix2 r f) = A.cw (ix2 1 f) := by
  pointwise [val_main_v11, val_main_v12, val_main_v13, val_main_v14]

theorem wF_2 (r : Fin 8192) (f : Fin 2816) : val_main_v21 (F := Ideal) A.cw (ix2 r f) = A.cw (ix2 2 f) := by
  pointwise [val_main_v18, val_main_v19, val_main_v20, val_main_v21]

theorem bwF_0 (r : Fin 8192) (f : Fin 2816) : val_main_v64 (F := Ideal) A.cw (ix2 r f) = A.cw (ix2 0 f) := by
  pointwise [val_main_v64, val_main_v5, val_main_v6, val_main_v7]

theorem bwF_1 (r : Fin 8192) (f : Fin 2816) : val_main_v53 (F := Ideal) A.cw (ix2 r f) = A.cw (ix2 1 f) := by
  pointwise [val_main_v53, val_main_v11, val_main_v12, val_main_v13]

theorem bwF_2 (r : Fin 8192) (f : Fin 2816) : val_main_v44 (F := Ideal) A.cw (ix2 r f) = A.cw (ix2 2 f) := by
  pointwise [val_main_v44, val_main_v18, val_main_v19, val_main_v20]

theorem bF (r : Fin 8192) (f : Fin 2816) : val_main_v24 (F := Ideal) A.cb (ix2 r f) = A.cb (ix2 0 f) := by
  pointwise [val_main_v24]

theorem gateF (r : Fin 8192) (f : Fin 2816) : val_main_v25 (F := Ideal) A.h A.wg A.cw A.cb (ix2 r f) = A.gate r.val f := by
  unfold Args.gate
  pointwise [val_main_v25, val_main_v23, val_main_v16, val_main_v22, val_main_v15, val_main_v9]
  rw [gpbF_2, gpbF_1, gpbF_0, wF_0, wF_1, wF_2, bF]
  rfl

theorem sgF (r : Fin 8192) (f : Fin 2816) : val_main_v26_2 (F := Ideal) A.h A.wg A.cw A.cb (ix2 r f) = A.sg r.val f := by
  unfold Args.sg
  pointwise [val_main_v26_2, val_main_call0_v0, val_main_call0_v1, val_main_call0_v2, val_main_call0_v3, val_main_call0_v4, val_main_call0_cst, val_main_call0_cst_0]
  rw [gateF, zero_sub]

theorem dsF (r : Fin 8192) (f : Fin 2816) : val_main_v26_1 (F := Ideal) A.h A.wg A.cw A.cb (ix2 r f) = A.sg r.val f * (1 - A.sg r.val f) := by
  pointwise [val_main_v26_1, val_main_call0_v7, val_main_call0_v6, val_main_call0_cst_1]
  rw [sgF]

theorem siluF (r : Fin 8192) (f : Fin 2816) : val_main_v26_0 (F := Ideal) A.h A.wg A.cw A.cb (ix2 r f) = A.silu r.val f := by
  unfold Args.silu
  pointwise [val_main_v26_0]
  rw [sgF, gateF]

theorem dupF (r : Fin 8192) (f : Fin 2816) : val_main_v33 (F := Ideal) A.h A.wg A.wd A.cw A.cb A.dy (ix2 r f) = A.dup r.val f := by
  unfold Args.dup
  pointwise [val_main_v33]
  rw [siluF, daF, mul_comm]

theorem dgateF (H : Args.Tame A) (r : Fin 8192) (f : Fin 2816) : val_main_v38 (F := Ideal) A.h A.wg A.wu A.wd A.cw A.cb A.dy (ix2 r f) = A.dgate r.val f := by
  unfold Args.dgate
  pointwise [val_main_v38, val_main_call1_v0, val_main_call1_v1, val_main_call1_v2, val_main_v34]
  rw [gateF, sgF, dsF, daF, upF]
  exact gate_grad _ _ (H _ _).1 (H _ _).2 _ rfl

theorem dgpF (H : Args.Tame A) (r : Fin 8192) (f : Fin 2816) : val_main_v73 (F := Ideal) A.h A.wg A.wu A.wd A.cw A.cb A.dy (ix2 r f) = A.dgp r.val f := by
  have hr := r.isLt
  have at_ : ∀ n n' : ℕ, n = n' → A.dgate n f = A.dgate n' f := fun n n' e => by rw [e]
  unfold Args.dgp
  pointwise [val_main_v73, val_main_v71, val_main_v60, val_main_v49, val_main_v59, val_main_v70, val_main_v45, val_main_v54, val_main_v65, val_main_cst_5, val_main_cst_9, val_main_cst_13]
  simp only [dgateF A H, bwF_0, bwF_1, bwF_2]
  refine congrArg₂ (· + ·) (congrArg₂ (· + ·) rfl ?_) ?_
  · by_cases h : r.val + 1 < 8192
    · rw [dif_pos (by omega)]; exact congrArg (· * _) (at_ _ _ (by omega))
    · rw [dif_neg (by omega), Args.dgate_of_ge _ _ _ (by omega), zero_mul]
  · by_cases h : r.val + 2 < 8192
    · rw [dif_pos (by omega)]; exact congrArg (· * _) (at_ _ _ (by omega))
    · rw [dif_neg (by omega), Args.dgate_of_ge _ _ _ (by omega), zero_mul]

theorem gp0 (r : Fin 8192) (f : Fin 1408) : val_main_v83 (F := Ideal) A.h A.wg (ix2 r f) = A.gp r.val (col 0 f) := by
  have hc := col_val 0 (by decide) f
  unfold Args.gp
  simp only [rd_at]
  pointwise [val_main_v83, val_main_v78, val_main_v79, val_main_v80, val_main_v81, val_main_v82]
  all_goals blk_point []

theorem up0 (r : Fin 8192) (f : Fin 1408) : val_main_v110 (F := Ideal) A.h A.wu (ix2 r f) = A.up r.val (col 0 f) := by
  have hc := col_val 0 (by decide) f
  unfold Args.up
  simp only [rd_at]
  pointwise [val_main_v110, val_main_v78, val_main_v79, val_main_v80, val_main_v81, val_main_v82]
  all_goals blk_point []

theorem da0 (r : Fin 8192) (f : Fin 1408) : val_main_v113 (F := Ideal) A.wd A.dy (ix2 r f) = A.da r.val (col 0 f) := by
  have hc := col_val 0 (by decide) f
  unfold Args.da
  simp only [rd_at]
  pointwise [val_main_v113, val_main_v78, val_main_v79, val_main_v80, val_main_v81, val_main_v82]
  all_goals blk_point []

theorem gpb0_2 (r : Fin 8192) (f : Fin 1408) : val_main_v87 (F := Ideal) A.h A.wg (ix2 r f) = A.gpb 2 r.val (col 0 f) := by
  have hr := r.isLt
  unfold Args.gpb
  pointwise [val_main_v87, val_main_v85, val_main_v84, val_main_cst_14]
  by_cases h : r.val < 2
  · rw [if_pos h, dif_pos (by omega)]
  · rw [if_neg h, dif_neg (by omega)]
    refine (gp0 A _ f).trans (congrArg (fun n => A.gp n (col 0 f)) ?_)
    try dsimp only
    all_goals omega

theorem gpb0_1 (r : Fin 8192) (f : Fin 1408) : val_main_v93 (F := Ideal) A.h A.wg (ix2 r f) = A.gpb 1 r.val (col 0 f) := by
  have hr := r.isLt
  unfold Args.gpb
  pointwise [val_main_v93, val_main_v85, val_main_v84, val_main_cst_14]
  by_cases h : r.val < 1
  · rw [if_pos h, dif_pos (by omega)]
  · rw [if_neg h, dif_neg (by omega)]
    refine (gp0 A _ f).trans (congrArg (fun n => A.gp n (col 0 f)) ?_)
    try dsimp only
    all_goals omega

theorem gpb0_0 (r : Fin 8192) (f : Fin 1408) : val_main_v100 (F := Ideal) A.h A.wg (ix2 r f) = A.gpb 0 r.val (col 0 f) := by
  have hr := r.isLt
  unfold Args.gpb
  pointwise [val_main_v100, val_main_v85, val_main_v84, val_main_cst_14]
  rw [if_neg (Nat.not_lt_zero _)]
  exact gp0 A r f

theorem w0_0 (r : Fin 8192) (f : Fin 1408) : val_main_v91 (F := Ideal) A.cw (ix2 r f) = A.cw (ix2 0 (col 0 f)) := by
  have hc := col_val 0 (by decide) f
  pointwise [val_main_v88, val_main_v89, val_main_v90, val_main_v91, val_main_v78, val_main_v79, val_main_v80, val_main_v81, val_main_v82]
  all_goals blk_point []

theorem w0_1 (r : Fin 8192) (f : Fin 1408) : val_main_v97 (F := Ideal) A.cw (ix2 r f) = A.cw (ix2 1 (col 0 f)) := by
  have hc := col_val 0 (by decide) f
  pointwise [val_main_v94, val_main_v95, val_main_v96, val_main_v97, val_main_v78, val_main_v79, val_main_v80, val_main_v81, val_main_v82]
  all_goals blk_point []

theorem w0_2 (r : Fin 8192) (f : Fin 1408) : val_main_v104 (F := Ideal) A.cw (ix2 r f) = A.cw (ix2 2 (col 0 f)) := by
  have hc := col_val 0 (by decide) f
  pointwise [val_main_v101, val_main_v102, val_main_v103, val_main_v104, val_main_v78, val_main_v79, val_main_v80, val_main_v81, val_main_v82]
  all_goals blk_point []

theorem bw0_0 (r : Fin 8192) (f : Fin 1408) : val_main_v125 (F := Ideal) A.cw (ix2 r f) = A.cw (ix2 0 (col 0 f)) := by
  have hc := col_val 0 (by decide) f
  pointwise [val_main_v125, val_main_v88, val_main_v89, val_main_v90, val_main_v78, val_main_v79, val_main_v80, val_main_v81, val_main_v82]
  all_goals blk_point []

theorem bw0_1 (r : Fin 8192) (f : Fin 1408) : val_main_v121 (F := Ideal) A.cw (ix2 r f) = A.cw (ix2 1 (col 0 f)) := by
  have hc := col_val 0 (by decide) f
  pointwise [val_main_v121, val_main_v94, val_main_v95, val_main_v96, val_main_v78, val_main_v79, val_main_v80, val_main_v81, val_main_v82]
  all_goals blk_point []

theorem bw0_2 (r : Fin 8192) (f : Fin 1408) : val_main_v118 (F := Ideal) A.cw (ix2 r f) = A.cw (ix2 2 (col 0 f)) := by
  have hc := col_val 0 (by decide) f
  pointwise [val_main_v118, val_main_v101, val_main_v102, val_main_v103, val_main_v78, val_main_v79, val_main_v80, val_main_v81, val_main_v82]
  all_goals blk_point []

theorem b0 (r : Fin 8192) (f : Fin 1408) : val_main_v107 (F := Ideal) A.cb (ix2 r f) = A.cb (ix2 0 (col 0 f)) := by
  have hc := col_val 0 (by decide) f
  pointwise [val_main_v107, val_main_v78, val_main_v79, val_main_v80, val_main_v81, val_main_v82]
  all_goals blk_point []

theorem gate0 (r : Fin 8192) (f : Fin 1408) : val_main_v108 (F := Ideal) A.h A.wg A.cw A.cb (ix2 r f) = A.gate r.val (col 0 f) := by
  unfold Args.gate
  pointwise [val_main_v108, val_main_v106, val_main_v99, val_main_v105, val_main_v98, val_main_v92]
  rw [gpb0_2, gpb0_1, gpb0_0, w0_0, w0_1, w0_2, b0]
  rfl

theorem sg0 (r : Fin 8192) (f : Fin 1408) : val_main_v109_2 (F := Ideal) A.h A.wg A.cw A.cb (ix2 r f) = A.sg r.val (col 0 f) := by
  unfold Args.sg
  pointwise [val_main_v109_2, val_main_call2_v0, val_main_call2_v1, val_main_call2_v2, val_main_call2_v3, val_main_call2_v4, val_main_call2_cst, val_main_call2_cst_0]
  rw [gate0, zero_sub]

theorem ds0 (r : Fin 8192) (f : Fin 1408) : val_main_v109_1 (F := Ideal) A.h A.wg A.cw A.cb (ix2 r f) = A.sg r.val (col 0 f) * (1 - A.sg r.val (col 0 f)) := by
  pointwise [val_main_v109_1, val_main_call2_v7, val_main_call2_v6, val_main_call2_cst_1]
  rw [sg0]

theorem silu0 (r : Fin 8192) (f : Fin 1408) : val_main_v109_0 (F := Ideal) A.h A.wg A.cw A.cb (ix2 r f) = A.silu r.val (col 0 f) := by
  unfold Args.silu
  pointwise [val_main_v109_0]
  rw [sg0, gate0]

theorem dup0 (r : Fin 8192) (f : Fin 1408) : val_main_v114 (F := Ideal) A.h A.wg A.wd A.cw A.cb A.dy (ix2 r f) = A.dup r.val (col 0 f) := by
  unfold Args.dup
  pointwise [val_main_v114]
  rw [silu0, da0, mul_comm]

theorem dgate0 (H : Args.Tame A) (r : Fin 8192) (f : Fin 1408) : val_main_v117 (F := Ideal) A.h A.wg A.wu A.wd A.cw A.cb A.dy (ix2 r f) = A.dgate r.val (col 0 f) := by
  unfold Args.dgate
  pointwise [val_main_v117, val_main_call3_v0, val_main_call3_v1, val_main_call3_v2, val_main_v115]
  rw [gate0, sg0, ds0, da0, up0]
  exact gate_grad _ _ (H _ _).1 (H _ _).2 _ rfl

theorem dgp0 (H : Args.Tame A) (r : Fin 8192) (f : Fin 1408) : val_main_v130 (F := Ideal) A.h A.wg A.wu A.wd A.cw A.cb A.dy (ix2 r f) = A.dgp r.val (col 0 f) := by
  have hr := r.isLt
  have at_ : ∀ n n' : ℕ, n = n' → A.dgate n (col 0 f) = A.dgate n' (col 0 f) := fun n n' e => by rw [e]
  unfold Args.dgp
  pointwise [val_main_v130, val_main_v128, val_main_v124, val_main_v120, val_main_v123, val_main_v127, val_main_v119, val_main_v122, val_main_v126, val_main_cst_16, val_main_cst_17, val_main_cst_18]
  simp only [dgate0 A H, bw0_0, bw0_1, bw0_2]
  refine congrArg₂ (· + ·) (congrArg₂ (· + ·) rfl ?_) ?_
  · by_cases h : r.val + 1 < 8192
    · rw [dif_pos (by omega)]; exact congrArg (· * _) (at_ _ _ (by omega))
    · rw [dif_neg (by omega), Args.dgate_of_ge _ _ _ (by omega), zero_mul]
  · by_cases h : r.val + 2 < 8192
    · rw [dif_pos (by omega)]; exact congrArg (· * _) (at_ _ _ (by omega))
    · rw [dif_neg (by omega), Args.dgate_of_ge _ _ _ (by omega), zero_mul]

theorem gp1 (r : Fin 8192) (f : Fin 1408) : val_main_v138 (F := Ideal) A.h A.wg (ix2 r f) = A.gp r.val (col 1 f) := by
  have hc := col_val 1 (by decide) f
  unfold Args.gp
  simp only [rd_at]
  pointwise [val_main_v138, val_main_v133, val_main_v134, val_main_v135, val_main_v136, val_main_v137]
  all_goals blk_point []

theorem up1 (r : Fin 8192) (f : Fin 1408) : val_main_v165 (F := Ideal) A.h A.wu (ix2 r f) = A.up r.val (col 1 f) := by
  have hc := col_val 1 (by decide) f
  unfold Args.up
  simp only [rd_at]
  pointwise [val_main_v165, val_main_v133, val_main_v134, val_main_v135, val_main_v136, val_main_v137]
  all_goals blk_point []

theorem da1 (r : Fin 8192) (f : Fin 1408) : val_main_v168 (F := Ideal) A.wd A.dy (ix2 r f) = A.da r.val (col 1 f) := by
  have hc := col_val 1 (by decide) f
  unfold Args.da
  simp only [rd_at]
  pointwise [val_main_v168, val_main_v133, val_main_v134, val_main_v135, val_main_v136, val_main_v137]
  all_goals blk_point []

theorem gpb1_2 (r : Fin 8192) (f : Fin 1408) : val_main_v142 (F := Ideal) A.h A.wg (ix2 r f) = A.gpb 2 r.val (col 1 f) := by
  have hr := r.isLt
  unfold Args.gpb
  pointwise [val_main_v142, val_main_v140, val_main_v139, val_main_cst_19]
  by_cases h : r.val < 2
  · rw [if_pos h, dif_pos (by omega)]
  · rw [if_neg h, dif_neg (by omega)]
    refine (gp1 A _ f).trans (congrArg (fun n => A.gp n (col 1 f)) ?_)
    try dsimp only
    all_goals omega

theorem gpb1_1 (r : Fin 8192) (f : Fin 1408) : val_main_v148 (F := Ideal) A.h A.wg (ix2 r f) = A.gpb 1 r.val (col 1 f) := by
  have hr := r.isLt
  unfold Args.gpb
  pointwise [val_main_v148, val_main_v140, val_main_v139, val_main_cst_19]
  by_cases h : r.val < 1
  · rw [if_pos h, dif_pos (by omega)]
  · rw [if_neg h, dif_neg (by omega)]
    refine (gp1 A _ f).trans (congrArg (fun n => A.gp n (col 1 f)) ?_)
    try dsimp only
    all_goals omega

theorem gpb1_0 (r : Fin 8192) (f : Fin 1408) : val_main_v155 (F := Ideal) A.h A.wg (ix2 r f) = A.gpb 0 r.val (col 1 f) := by
  have hr := r.isLt
  unfold Args.gpb
  pointwise [val_main_v155, val_main_v140, val_main_v139, val_main_cst_19]
  rw [if_neg (Nat.not_lt_zero _)]
  exact gp1 A r f

theorem w1_0 (r : Fin 8192) (f : Fin 1408) : val_main_v146 (F := Ideal) A.cw (ix2 r f) = A.cw (ix2 0 (col 1 f)) := by
  have hc := col_val 1 (by decide) f
  pointwise [val_main_v143, val_main_v144, val_main_v145, val_main_v146, val_main_v133, val_main_v134, val_main_v135, val_main_v136, val_main_v137]
  all_goals blk_point []

theorem w1_1 (r : Fin 8192) (f : Fin 1408) : val_main_v152 (F := Ideal) A.cw (ix2 r f) = A.cw (ix2 1 (col 1 f)) := by
  have hc := col_val 1 (by decide) f
  pointwise [val_main_v149, val_main_v150, val_main_v151, val_main_v152, val_main_v133, val_main_v134, val_main_v135, val_main_v136, val_main_v137]
  all_goals blk_point []

theorem w1_2 (r : Fin 8192) (f : Fin 1408) : val_main_v159 (F := Ideal) A.cw (ix2 r f) = A.cw (ix2 2 (col 1 f)) := by
  have hc := col_val 1 (by decide) f
  pointwise [val_main_v156, val_main_v157, val_main_v158, val_main_v159, val_main_v133, val_main_v134, val_main_v135, val_main_v136, val_main_v137]
  all_goals blk_point []

theorem bw1_0 (r : Fin 8192) (f : Fin 1408) : val_main_v180 (F := Ideal) A.cw (ix2 r f) = A.cw (ix2 0 (col 1 f)) := by
  have hc := col_val 1 (by decide) f
  pointwise [val_main_v180, val_main_v143, val_main_v144, val_main_v145, val_main_v133, val_main_v134, val_main_v135, val_main_v136, val_main_v137]
  all_goals blk_point []

theorem bw1_1 (r : Fin 8192) (f : Fin 1408) : val_main_v176 (F := Ideal) A.cw (ix2 r f) = A.cw (ix2 1 (col 1 f)) := by
  have hc := col_val 1 (by decide) f
  pointwise [val_main_v176, val_main_v149, val_main_v150, val_main_v151, val_main_v133, val_main_v134, val_main_v135, val_main_v136, val_main_v137]
  all_goals blk_point []

theorem bw1_2 (r : Fin 8192) (f : Fin 1408) : val_main_v173 (F := Ideal) A.cw (ix2 r f) = A.cw (ix2 2 (col 1 f)) := by
  have hc := col_val 1 (by decide) f
  pointwise [val_main_v173, val_main_v156, val_main_v157, val_main_v158, val_main_v133, val_main_v134, val_main_v135, val_main_v136, val_main_v137]
  all_goals blk_point []

theorem b1 (r : Fin 8192) (f : Fin 1408) : val_main_v162 (F := Ideal) A.cb (ix2 r f) = A.cb (ix2 0 (col 1 f)) := by
  have hc := col_val 1 (by decide) f
  pointwise [val_main_v162, val_main_v133, val_main_v134, val_main_v135, val_main_v136, val_main_v137]
  all_goals blk_point []

theorem gate1 (r : Fin 8192) (f : Fin 1408) : val_main_v163 (F := Ideal) A.h A.wg A.cw A.cb (ix2 r f) = A.gate r.val (col 1 f) := by
  unfold Args.gate
  pointwise [val_main_v163, val_main_v161, val_main_v154, val_main_v160, val_main_v153, val_main_v147]
  rw [gpb1_2, gpb1_1, gpb1_0, w1_0, w1_1, w1_2, b1]
  rfl

theorem sg1 (r : Fin 8192) (f : Fin 1408) : val_main_v164_2 (F := Ideal) A.h A.wg A.cw A.cb (ix2 r f) = A.sg r.val (col 1 f) := by
  unfold Args.sg
  pointwise [val_main_v164_2, val_main_call4_v0, val_main_call4_v1, val_main_call4_v2, val_main_call4_v3, val_main_call4_v4, val_main_call4_cst, val_main_call4_cst_0]
  rw [gate1, zero_sub]

theorem ds1 (r : Fin 8192) (f : Fin 1408) : val_main_v164_1 (F := Ideal) A.h A.wg A.cw A.cb (ix2 r f) = A.sg r.val (col 1 f) * (1 - A.sg r.val (col 1 f)) := by
  pointwise [val_main_v164_1, val_main_call4_v7, val_main_call4_v6, val_main_call4_cst_1]
  rw [sg1]

theorem silu1 (r : Fin 8192) (f : Fin 1408) : val_main_v164_0 (F := Ideal) A.h A.wg A.cw A.cb (ix2 r f) = A.silu r.val (col 1 f) := by
  unfold Args.silu
  pointwise [val_main_v164_0]
  rw [sg1, gate1]

theorem dup1 (r : Fin 8192) (f : Fin 1408) : val_main_v169 (F := Ideal) A.h A.wg A.wd A.cw A.cb A.dy (ix2 r f) = A.dup r.val (col 1 f) := by
  unfold Args.dup
  pointwise [val_main_v169]
  rw [silu1, da1, mul_comm]

theorem dgate1 (H : Args.Tame A) (r : Fin 8192) (f : Fin 1408) : val_main_v172 (F := Ideal) A.h A.wg A.wu A.wd A.cw A.cb A.dy (ix2 r f) = A.dgate r.val (col 1 f) := by
  unfold Args.dgate
  pointwise [val_main_v172, val_main_call5_v0, val_main_call5_v1, val_main_call5_v2, val_main_v170]
  rw [gate1, sg1, ds1, da1, up1]
  exact gate_grad _ _ (H _ _).1 (H _ _).2 _ rfl

theorem dgp1 (H : Args.Tame A) (r : Fin 8192) (f : Fin 1408) : val_main_v185 (F := Ideal) A.h A.wg A.wu A.wd A.cw A.cb A.dy (ix2 r f) = A.dgp r.val (col 1 f) := by
  have hr := r.isLt
  have at_ : ∀ n n' : ℕ, n = n' → A.dgate n (col 1 f) = A.dgate n' (col 1 f) := fun n n' e => by rw [e]
  unfold Args.dgp
  pointwise [val_main_v185, val_main_v183, val_main_v179, val_main_v175, val_main_v178, val_main_v182, val_main_v174, val_main_v177, val_main_v181, val_main_cst_21, val_main_cst_22, val_main_cst_23]
  simp only [dgate1 A H, bw1_0, bw1_1, bw1_2]
  refine congrArg₂ (· + ·) (congrArg₂ (· + ·) rfl ?_) ?_
  · by_cases h : r.val + 1 < 8192
    · rw [dif_pos (by omega)]; exact congrArg (· * _) (at_ _ _ (by omega))
    · rw [dif_neg (by omega), Args.dgate_of_ge _ _ _ (by omega), zero_mul]
  · by_cases h : r.val + 2 < 8192
    · rw [dif_pos (by omega)]; exact congrArg (· * _) (at_ _ _ (by omega))
    · rw [dif_neg (by omega), Args.dgate_of_ge _ _ _ (by omega), zero_mul]

theorem act_at (r : Fin 8192) (f : Fin 2816) : val_main_v28 (F := Ideal) A.h A.wg A.wu A.cw A.cb (ix2 r f) = A.act r.val f := by
  unfold Args.act
  pointwise [val_main_v28]
  rw [siluF, upF]

theorem res_dd : val_main_v192 (F := Ideal) A.h A.wg A.wu A.cw A.cb A.dy = A.DD := by
  funext i
  idx_vars i
  pointwise [val_main_v192, val_main_v31, val_main_v30]
  simp only [act_at]
  refine Finset.sum_congr rfl fun r _ => ?_
  exact (mul_comm _ _).trans (congrArg (_ * ·) (rd_at A.dy r i1).symm)

theorem res_du : val_main_v194 (F := Ideal) A.h A.wg A.wd A.cw A.cb A.dy = A.DU := by
  funext i
  idx_vars i
  pointwise [val_main_v194, val_main_v193, val_main_v36, val_main_v35]
  simp only [dupF]
  refine Finset.sum_congr rfl fun r _ => ?_
  exact (mul_comm _ _).trans (congrArg (· * _) (rd_at A.h r i1).symm)

theorem res_dg (H : Args.Tame A) : val_main_v196 (F := Ideal) A.h A.wg A.wu A.wd A.cw A.cb A.dy = A.DG := by
  funext i
  idx_vars i
  pointwise [val_main_v196, val_main_v195, val_main_v75, val_main_v74]
  simp only [dgpF A H]
  refine Finset.sum_congr rfl fun r _ => ?_
  exact (mul_comm _ _).trans (congrArg (· * _) (rd_at A.h r i1).symm)

theorem res_db (H : Args.Tame A) : val_main_v40 (F := Ideal) A.h A.wg A.wu A.wd A.cw A.cb A.dy = A.DB := by
  funext i
  idx_vars i
  pointwise [val_main_v40, val_main_v39, val_main_cst_1]
  simp only [dgateF A H]
  rfl

theorem res_dw (H : Args.Tame A) : val_main_v69 (F := Ideal) A.h A.wg A.wu A.wd A.cw A.cb A.dy = A.DW := by
  funext i
  idx_vars i
  pointwise [val_main_v69, val_main_v58, val_main_v48, val_main_v57, val_main_v68, val_main_v47, val_main_v56, val_main_v67, val_main_v46, val_main_v55, val_main_v66, val_main_v43, val_main_v52, val_main_v63, val_main_v42, val_main_v51, val_main_v62, val_main_v41, val_main_v50, val_main_v61, val_main_cst_2, val_main_cst_3, val_main_cst_4, val_main_cst_6, val_main_cst_7, val_main_cst_8, val_main_cst_10, val_main_cst_11, val_main_cst_12]
  simp only [dgateF A H, gpbF_0, gpbF_1, gpbF_2, Finset.univ_unique, Finset.sum_singleton]
  have e : ∀ k : ℕ, (∑ r : Fin 8192, A.gpb k r.val i1 * A.dgate r.val i1) = ∑ r : Fin 8192, A.dgate r.val i1 * A.gpb k r.val i1 := fun k =>
    Finset.sum_congr rfl fun r _ => mul_comm _ _
  have hi : i0 = 0 ∨ i0 = 1 ∨ i0 = 2 := by omega
  rcases hi with rfl | rfl | rfl
  · rw [dif_neg (by decide), dif_neg (by decide), dif_pos (by decide), zero_add, zero_add]
    exact e 2
  · rw [dif_neg (by decide), dif_pos (by decide), dif_neg (by decide), zero_add, add_zero]
    exact e 1
  · rw [dif_pos (by decide), dif_neg (by decide), dif_neg (by decide), add_zero, add_zero]
    exact e 0

theorem wg0 (d : Fin 1024) (f : Fin 1408) : val_main_v78 (F := Ideal) A.wg (ix2 d f) = A.wg (ix2 d (col 0 f)) := by
  have hc := col_val 0 (by decide) f
  pointwise [val_main_v78]
  all_goals blk_point []

theorem wu0 (d : Fin 1024) (f : Fin 1408) : val_main_v79 (F := Ideal) A.wu (ix2 d f) = A.wu (ix2 d (col 0 f)) := by
  have hc := col_val 0 (by decide) f
  pointwise [val_main_v79]
  all_goals blk_point []

theorem dh0 (H : Args.Tame A) (r : Fin 8192) (d : Fin 1024) : val_main_v132 (F := Ideal) A.h A.wg A.wu A.wd A.cw A.cb A.dy (ix2 r d) = A.DH (ix3 0 r d) := by
  pointwise [val_main_v132, val_main_v116, val_main_v131]
  simp only [dup0, dgp0 A H, wg0, wu0]
  exact add_comm _ _

theorem wg1 (d : Fin 1024) (f : Fin 1408) : val_main_v133 (F := Ideal) A.wg (ix2 d f) = A.wg (ix2 d (col 1 f)) := by
  have hc := col_val 1 (by decide) f
  pointwise [val_main_v133]
  all_goals blk_point []

theorem wu1 (d : Fin 1024) (f : Fin 1408) : val_main_v134 (F := Ideal) A.wu (ix2 d f) = A.wu (ix2 d (col 1 f)) := by
  have hc := col_val 1 (by decide) f
  pointwise [val_main_v134]
  all_goals blk_point []

theorem dh1 (H : Args.Tame A) (r : Fin 8192) (d : Fin 1024) : val_main_v187 (F := Ideal) A.h A.wg A.wu A.wd A.cw A.cb A.dy (ix2 r d) = A.DH (ix3 1 r d) := by
  pointwise [val_main_v187, val_main_v171, val_main_v186]
  simp only [dup1, dgp1 A H, wg1, wu1]
  exact add_comm _ _

theorem res_dh (H : Args.Tame A) : val_main_v191 (F := Ideal) A.h A.wg A.wu A.wd A.cw A.cb A.dy = A.DH := by
  funext i
  idx_vars i
  pointwise [val_main_v191, val_main_v190, val_main_v188, val_main_v189]
  have hi : i0 = 0 ∨ i0 = 1 := by omega
  rcases hi with rfl | rfl
  · rw [dif_pos (by decide)]
    exact dh0 A H i1 i2
  · rw [dif_neg (by decide)]
    exact dh1 A H i1 i2

end Cert.ReferenceIdeal.Grad
-- ==== Proof.Pre.lean ====
module

public import proofs.«01_k».proof.Proof.Ref
public import proofs.«01_k».proof.Defs

@[expose] public section

set_option maxRecDepth 16384

noncomputable section

/-! The precondition makes the gradient of the hidden rows times the up product finite. -/
namespace Cert.ReferenceIdeal.Grad
open Cert.KernelIdeal.Grad (Args rd rd_of_lt rd_of_ge)
open Idealize.ShloMosaic Idealize.ShloMosaic.TcCoe Idealize.SL.Sem

/-- the side conditions the precondition's operations take -/
theorem pre_facts : Cert.Pre_finite.Facts := ⟨by decide, by decide, by decide⟩

/-- a value that is a real number -/
def IsReal (x : EReal) : Prop := ∃ a : ℝ, x = (a : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} (g : Fin n → EReal) (h : ∀ k, IsReal (g k)) : IsReal (∑ k, g k) := by
  choose a ha using h
  refine ⟨∑ k, a k, ?_⟩
  simp only [ha]
  exact (map_sum (⟨⟨fun r : ℝ => (r : EReal), EReal.coe_zero⟩, EReal.coe_add⟩ : ℝ →+ EReal) a Finset.univ).symm

theorem IsReal.ne {x : EReal} (h : IsReal x) : x ≠ ⊤ ∧ x ≠ ⊥ := by
  obtain ⟨a, rfl⟩ := h
  exact ⟨EReal.coe_ne_top a, EReal.coe_ne_bot a⟩

/-- `x - x` is 0 at the real `x` alone -/
theorem isReal_of_sub (x : EReal) (h : x - x = 0) : IsReal x := by
  induction x using EReal.rec with
  | bot => exact absurd h (by decide)
  | top => exact absurd h (by decide)
  | coe a => exact ⟨a, rfl⟩

theorem isReal_of_cmp (x : EReal) (h : Ideal.cmp .oeq (x - x) 0 = 1#1) : IsReal x := by
  refine isReal_of_sub x ?_
  by_contra hne
  simp [Ideal.cmp, hne] at h

theorem real_rd (x : FVec Ideal S8192x1024 .f32) (h : ∀ i, IsReal (x i)) (r : ℕ) (d : Fin 1024) : IsReal (rd x r d) := by
  by_cases hr : r < 8192
  · rw [rd_of_lt _ _ _ hr]; exact h _
  · rw [rd_of_ge _ _ _ (by omega)]; exact ⟨0, rfl⟩

theorem tame (A : Args) (h0 : ∀ i, IsReal (A.h i)) (h2 : ∀ i, IsReal (A.wu i)) (h3 : ∀ i, IsReal (A.wd i)) (h6 : ∀ i, IsReal (A.dy i)) :
    Args.Tame A := fun r f =>
  ((IsReal.sum _ fun d => (real_rd A.dy h6 r d).mul (h3 _)).mul (IsReal.sum _ fun k => (real_rd A.h h0 r k).mul (h2 _))).ne

attribute [local instance] pre_facts

theorem tame_of_pre (A : Args)
    (h0 : (Cert.Pre_finite.fn (F := Ideal) A.h A.wg A.wu A.wd A.cw A.cb A.dy).1 = (fun _ => 1#1))
    (h2 : (Cert.Pre_finite.fn (F := Ideal) A.h A.wg A.wu A.wd A.cw A.cb A.dy).2.1 = (fun _ => 1#1))
    (h3 : (Cert.Pre_finite.fn (F := Ideal) A.h A.wg A.wu A.wd A.cw A.cb A.dy).2.2.1 = (fun _ => 1#1))
    (h6 : (Cert.Pre_finite.fn (F := Ideal) A.h A.wg A.wu A.wd A.cw A.cb A.dy).2.2.2 = (fun _ => 1#1)) : Args.Tame A := by
  refine tame A (fun i => isReal_of_cmp _ ?_) (fun i => isReal_of_cmp _ ?_) (fun i => isReal_of_cmp _ ?_) (fun i => isReal_of_cmp _ ?_)
  · refine Eq.trans ?_ (congrFun h0 i)
    idx_vars i
    pointwise [Cert.Pre_finite.fn]
  · refine Eq.trans ?_ (congrFun h2 i)
    idx_vars i
    pointwise [Cert.Pre_finite.fn]
  · refine Eq.trans ?_ (congrFun h3 i)
    idx_vars i
    pointwise [Cert.Pre_finite.fn]
  · refine Eq.trans ?_ (congrFun h6 i)
    idx_vars i
    pointwise [Cert.Pre_finite.fn]

end Cert.ReferenceIdeal.Grad
-- ==== Proof.FwdA.lean ====
module

public import proofs.«01_k».proof.Proof.Pre
public import proofs.«01_k».proof.Proof.Gen.Kernel2Ideal.Value
public import proofs.«01_k».proof.Proof.Gen.Reference2Ideal.Read

@[expose] public section

set_option maxRecDepth 16384

noncomputable section

/-! The forward kernel: what each grid point leaves in the output blocks and in the rows it hands on, as functions of its
input blocks and of the rows the point before handed on. -/
namespace Cert.Kernel2Ideal.Fwd
open Cert.Kernel2Ideal Cert.Kernel2Ideal.Gen
open Idealize.ShloMosaic Idealize.ShloMosaic.TcCoe Idealize.SL.Sem

variable {F : FTy → Type} [FloatOps F]

/-- what a grid point reads -/
structure Blk (F : FTy → Type) [FloatOps F] where
  /-- the rows -/
  x : Vec F S512x1024 .f32
  /-- the scale of the norm -/
  g : Vec F S1x1024 .f32
  /-- the transposed gate weight -/
  wg : Vec F S2816x1024 .bf16
  /-- the transposed up weight -/
  wu : Vec F S2816x1024 .bf16
  /-- the down weight -/
  wd : Vec F S2816x1024 .bf16
  /-- the taps -/
  cw : Vec F S3x2816 .f32
  /-- the bias -/
  cb : Vec F S1x2816 .f32
  /-- the last eight rows of the gate product of the block before -/
  cy : Vec F S8x2816 .f32

namespace Blk
variable (p : Blk F)
/-- tap 0 -/
def w0 : Vec F S1x2816 .f32 := View.ld p.cw (Rect.unit ![0, 0] ![1, 2816] inb_S3x2816_S1x2816_0_0)
/-- tap 1 -/
def w1 : Vec F S1x2816 .f32 := View.ld p.cw (Rect.unit ![1, 0] ![1, 2816] inb_S3x2816_S1x2816_1_0)
/-- tap 2 -/
def w2 : Vec F S1x2816 .f32 := View.ld p.cw (Rect.unit ![2, 0] ![1, 2816] inb_S3x2816_S1x2816_2_0)
/-- the row before the block -/
def c1 : Vec F S1x2816 .f32 := View.ld p.cy (Rect.unit ![7, 0] ![1, 2816] inb_S8x2816_S1x2816_7_0)
/-- the row before that -/
def c2 : Vec F S1x2816 .f32 := View.ld p.cy (Rect.unit ![6, 0] ![1, 2816] inb_S8x2816_S1x2816_6_0)
/-- the normed rows as they are stored -/
def hS : FVec F S512x1024 .bf16 := k0_pay3 p.x p.g
/-- the gate product -/
def gp : FVec F S512x2816 .f32 := k0_pay4 p.x p.g p.wg
/-- the gate product as it is stored -/
def gpS : FVec F S512x2816 .bf16 := k0_pay5 p.x p.g p.wg
/-- the up product -/
def up : FVec F S512x2816 .f32 := k0_pay10 p.hS p.wu
/-- the up product as it is stored -/
def upS : FVec F S512x2816 .bf16 := k0_pay11 p.hS p.wu
/-- the convolved gate -/
def gate : FVec F S512x2816 .f32 :=
  k0_pay8 p.gp p.c1 p.c2 (k0_pay6 p.x p.g p.wg) (k0_pay7 p.x p.g p.wg p.c1) p.w0 p.w1 p.w2 p.cb
/-- the rows of the residual stream -/
def x2 : FVec F S512x1024 .f32 := k0_pay1 p.x p.gate p.up p.wd
/-- the rows handed on to the next block -/
def carry : FVec F S8x2816 .f32 := k0_pay9 p.gp
end Blk

theorem out0_A_7_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S8x2816 .f32) (harg12 : arg12.IsWhole) (hc0 : cond0_0 i)
    (x0 : Vec F S512x1024 .f32) (x1 : Vec F S1x1024 .f32) (x2 : Vec F S2816x1024 .bf16) (x3 : Vec F S2816x1024 .bf16) (x4 : Vec F S2816x1024 .bf16) (x5 : Vec F S3x2816 .f32) (x6 : Vec F S1x2816 .f32) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = Blk.gpS ⟨x0, x1, x2, x3, x4, x5, x6, k0_pay2⟩ := by
  frame_out
  rfl

theorem out0_A_8_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S8x2816 .f32) (harg12 : arg12.IsWhole) (hc0 : cond0_0 i)
    (x0 : Vec F S512x1024 .f32) (x1 : Vec F S1x1024 .f32) (x2 : Vec F S2816x1024 .bf16) (x3 : Vec F S2816x1024 .bf16) (x4 : Vec F S2816x1024 .bf16) (x5 : Vec F S3x2816 .f32) (x6 : Vec F S1x2816 .f32) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = Blk.upS ⟨x0, x1, x2, x3, x4, x5, x6, k0_pay2⟩ := by
  frame_out
  rfl

theorem out0_A_9_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S8x2816 .f32) (harg12 : arg12.IsWhole) (hc0 : cond0_0 i)
    (x0 : Vec F S512x1024 .f32) (x1 : Vec F S1x1024 .f32) (x2 : Vec F S2816x1024 .bf16) (x3 : Vec F S2816x1024 .bf16) (x4 : Vec F S2816x1024 .bf16) (x5 : Vec F S3x2816 .f32) (x6 : Vec F S1x2816 .f32) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = Blk.hS ⟨x0, x1, x2, x3, x4, x5, x6, k0_pay2⟩ := by
  frame_out
  rfl

theorem out0_A_10_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S8x2816 .f32) (harg12 : arg12.IsWhole) (hc0 : cond0_0 i)
    (x0 : Vec F S512x1024 .f32) (x1 : Vec F S1x1024 .f32) (x2 : Vec F S2816x1024 .bf16) (x3 : Vec F S2816x1024 .bf16) (x4 : Vec F S2816x1024 .bf16) (x5 : Vec F S3x2816 .f32) (x6 : Vec F S1x2816 .f32) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = Blk.x2 ⟨x0, x1, x2, x3, x4, x5, x6, k0_pay2⟩ := by
  frame_out
  rw [View.readCov_fill (s := S8x2816) (off := ![0, 0]) arg12.view inb_S8x2816_S8x2816_0_0 _ _ _ (by decide),
    View.readCov_fill (s := S8x2816) (off := ![0, 0]) arg12.view inb_S8x2816_S8x2816_0_0 _ _ _ (by decide)]
  rfl

theorem sout0_A_0_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S8x2816 .f32) (harg12 : arg12.IsWhole) (hc0 : cond0_0 i)
    (x0 : Vec F S512x1024 .f32) (x1 : Vec F S1x1024 .f32) (x2 : Vec F S2816x1024 .bf16) (x3 : Vec F S2816x1024 .bf16) (x4 : Vec F S2816x1024 .bf16) (x5 : Vec F S3x2816 .f32) (x6 : Vec F S1x2816 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = Blk.carry ⟨x0, x1, x2, x3, x4, x5, x6, k0_pay2⟩ := by
  frame_out
  rfl

theorem out0_B_7_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S8x2816 .f32) (harg12 : arg12.IsWhole) (hc0 : ¬cond0_0 i)
    (x0 : Vec F S512x1024 .f32) (x1 : Vec F S1x1024 .f32) (x2 : Vec F S2816x1024 .bf16) (x3 : Vec F S2816x1024 .bf16) (x4 : Vec F S2816x1024 .bf16) (x5 : Vec F S3x2816 .f32) (x6 : Vec F S1x2816 .f32) (xs0 : Vec F S8x2816 .f32) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = Blk.gpS ⟨x0, x1, x2, x3, x4, x5, x6, xs0⟩ := by
  frame_out
  rfl

theorem out0_B_8_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S8x2816 .f32) (harg12 : arg12.IsWhole) (hc0 : ¬cond0_0 i)
    (x0 : Vec F S512x1024 .f32) (x1 : Vec F S1x1024 .f32) (x2 : Vec F S2816x1024 .bf16) (x3 : Vec F S2816x1024 .bf16) (x4 : Vec F S2816x1024 .bf16) (x5 : Vec F S3x2816 .f32) (x6 : Vec F S1x2816 .f32) (xs0 : Vec F S8x2816 .f32) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = Blk.upS ⟨x0, x1, x2, x3, x4, x5, x6, xs0⟩ := by
  frame_out
  rfl

theorem out0_B_9_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S8x2816 .f32) (harg12 : arg12.IsWhole) (hc0 : ¬cond0_0 i)
    (x0 : Vec F S512x1024 .f32) (x1 : Vec F S1x1024 .f32) (x2 : Vec F S2816x1024 .bf16) (x3 : Vec F S2816x1024 .bf16) (x4 : Vec F S2816x1024 .bf16) (x5 : Vec F S3x2816 .f32) (x6 : Vec F S1x2816 .f32) (xs0 : Vec F S8x2816 .f32) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = Blk.hS ⟨x0, x1, x2, x3, x4, x5, x6, xs0⟩ := by
  frame_out
  rfl

theorem out0_B_10_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S8x2816 .f32) (harg12 : arg12.IsWhole) (hc0 : ¬cond0_0 i)
    (x0 : Vec F S512x1024 .f32) (x1 : Vec F S1x1024 .f32) (x2 : Vec F S2816x1024 .bf16) (x3 : Vec F S2816x1024 .bf16) (x4 : Vec F S2816x1024 .bf16) (x5 : Vec F S3x2816 .f32) (x6 : Vec F S1x2816 .f32) (xs0 : Vec F S8x2816 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = Blk.x2 ⟨x0, x1, x2, x3, x4, x5, x6, xs0⟩ := by
  frame_out
  rfl

theorem sout0_B_0_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .bf16) (harg10 : arg10.IsWhole) (arg11 : Memref sig .tc .vmem S512x1024 .f32) (harg11 : arg11.IsWhole) (arg12 : Memref sig .tc .vmem S8x2816 .f32) (harg12 : arg12.IsWhole) (hc0 : ¬cond0_0 i)
    (x0 : Vec F S512x1024 .f32) (x1 : Vec F S1x1024 .f32) (x2 : Vec F S2816x1024 .bf16) (x3 : Vec F S2816x1024 .bf16) (x4 : Vec F S2816x1024 .bf16) (x5 : Vec F S3x2816 .f32) (x6 : Vec F S1x2816 .f32) (xs0 : Vec F S8x2816 .f32) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = Blk.carry ⟨x0, x1, x2, x3, x4, x5, x6, xs0⟩ := by
  frame_out
  rfl

variable (m : (l : Loc nD τ sig) → Buf (Elt F) l)

/-- what point `t` reads, over the rows `s` handed on to it -/
def blk (c : Dev nD) (t : Fin cfg0.N) (s : Vec F S8x2816 .f32) : Blk F :=
  ⟨iblk m c 0 t, iblk m c 1 t, iblk m c 2 t, iblk m c 3 t, iblk m c 4 t, iblk m c 5 t, iblk m c 6 t, s⟩

/-- what the first point leaves -/
theorem outs_first (c : Dev nD) (t : Fin cfg0.N) (h0 : t.val % 16 = 0) :
    outsAt0 m c t.val t.isLt = ((blk m c t k0_pay2).gpS, (blk m c t k0_pay2).upS, (blk m c t k0_pay2).hS,
      (blk m c t k0_pay2).x2, (blk m c t k0_pay2).carry) := by
  rw [outsAt0_A m c t h0, out0_A_7_eq, out0_A_8_eq, out0_A_9_eq, out0_A_10_eq, sout0_A_0_eq]
  rfl

/-- what a later point leaves -/
theorem outs_next (c : Dev nD) (t : Fin cfg0.N) (h0 : ¬t.val % 16 = 0) (s : Vec F S8x2816 .f32)
    (hs : (outsAt0 m c (t.val - 1) (Nat.lt_of_le_of_lt (Nat.sub_le _ _) t.isLt)).2.2.2.2 = s) :
    outsAt0 m c t.val t.isLt = ((blk m c t s).gpS, (blk m c t s).upS, (blk m c t s).hS,
      (blk m c t s).x2, (blk m c t s).carry) := by
  rw [outsAt0_B m c t h0, hs, out0_B_7_eq, out0_B_8_eq, out0_B_9_eq, out0_B_10_eq, sout0_B_0_eq]
  rfl

end Cert.Kernel2Ideal.Fwd
end
-- ==== Proof.FwdB.lean ====
module

public import proofs.«01_k».proof.Proof.FwdA

@[expose] public section

set_option maxRecDepth 16384

noncomputable section

/-! The forward feed-forward block, entry by entry, over the extended reals; and what a point of the forward kernel leaves,
entry by entry, when its blocks are those of the arrays. The gate, its sigmoid and the hidden rows are those the gradient
is taken at (`Args`), over the normed rows. -/
namespace Cert.Kernel2Ideal.Fwd
open Cert.Kernel2Ideal Cert.Kernel2Ideal.Gen
open Idealize.ShloMosaic Idealize.ShloMosaic.TcCoe Idealize.SL.Sem
open Cert.KernelIdeal.Grad (Args rd rd_of_lt rd_of_ge select_word)

/-- the seven argument arrays -/
structure Ins where
  /-- the rows -/
  x : FVec Ideal S8192x1024 .f32
  /-- the scale of the norm -/
  g : FVec Ideal S1x1024 .f32
  /-- the gate weight -/
  wg : FVec Ideal S1024x2816 .f32
  /-- the up weight -/
  wu : FVec Ideal S1024x2816 .f32
  /-- the down weight -/
  wd : FVec Ideal S2816x1024 .f32
  /-- the taps of the convolution -/
  cw : FVec Ideal S3x2816 .f32
  /-- the bias of the convolution -/
  cb : FVec Ideal S1x2816 .f32

namespace Ins
variable (A : Ins)
/-- one over the root mean square of a row -/
def rs (r : ℕ) : EReal :=
  Ideal.rsqrt (Ideal.div (∑ k : Fin 1024, rd A.x r k * rd A.x r k) (Ideal.ofBits FTy.f32 0x44800000#32)
    + Ideal.ofBits FTy.f32 0x358637BD#32)
/-- the normed rows -/
def H : FVec Ideal S8192x1024 .bf16 := fun i => A.x i * A.rs (i 0).val * A.g (ix2 0 (i 1))
/-- the arrays of the gated part, over the normed rows; nothing here reads a cotangent -/
def args : Args := ⟨A.H, A.wg, A.wu, A.wd, A.cw, A.cb, fun _ => 0⟩
/-- the gate product -/
def GP : FVec Ideal S8192x2816 .bf16 := fun i => A.args.gp (i 0).val (i 1)
/-- the up product -/
def UP : FVec Ideal S8192x2816 .bf16 := fun i => A.args.up (i 0).val (i 1)
/-- the rows of the residual stream -/
def X2 : FVec Ideal S8192x1024 .f32 := fun i => A.x i + ∑ f : Fin 2816, A.args.act (i 0).val f * A.wd (ix2 f (i 1))
end Ins

/-- the blocks of point `p` are block `b` of the rows of the arrays, and the rows handed on to it end with the two rows of
the gate product before the block -/
structure Has (A : Ins) (p : Blk Ideal) (b : ℕ) : Prop where
  hb : b < 16
  x : ∀ r d, p.x (ix2 r d) = rd A.x (512 * b + r.val) d
  g : ∀ d, p.g (ix2 0 d) = A.g (ix2 0 d)
  wg : ∀ f d, p.wg (ix2 f d) = A.wg (ix2 d f)
  wu : ∀ f d, p.wu (ix2 f d) = A.wu (ix2 d f)
  wd : ∀ f d, p.wd (ix2 f d) = A.wd (ix2 f d)
  cw : ∀ q f, p.cw (ix2 q f) = A.cw (ix2 q f)
  cb : ∀ f, p.cb (ix2 0 f) = A.cb (ix2 0 f)
  cy1 : ∀ f, p.cy (ix2 7 f) = A.args.gpb 1 (512 * b) f
  cy2 : ∀ f, p.cy (ix2 6 f) = A.args.gpb 2 (512 * b) f

namespace Has
variable {A : Ins} {p : Blk Ideal} {b : ℕ} (K : Has A p b)
include K

theorem h (r : Fin 512) (d : Fin 1024) : p.hS (ix2 r d) = rd A.args.h (512 * b + r.val) d := by
  have hb := K.hb
  have hr := r.isLt
  rw [rd_of_lt _ _ _ (by omega)]
  show _ = A.x (ix2 ⟨512 * b + r.val, _⟩ d) * A.rs (512 * b + r.val) * A.g (ix2 0 d)
  unfold Blk.hS Ins.rs
  pointwise [k0_pay3]
  simp only [K.x, K.g]
  rw [rd_of_lt _ _ d (by omega)]

theorem gp (r : Fin 512) (f : Fin 2816) : p.gp (ix2 r f) = A.args.gp (512 * b + r.val) f := by
  have e := K.h r
  unfold Blk.hS at e
  unfold Blk.gp
  pointwise [k0_pay4]
  simp only [e, K.wg]
  rfl

theorem up (r : Fin 512) (f : Fin 2816) : p.up (ix2 r f) = A.args.up (512 * b + r.val) f := by
  unfold Blk.up
  pointwise [k0_pay10]
  simp only [K.h, K.wu]
  rfl

theorem gpS (r : Fin 512) (f : Fin 2816) : p.gpS (ix2 r f) = A.args.gp (512 * b + r.val) f := by
  rw [← K.gp]
  unfold Blk.gpS Blk.gp
  pointwise [k0_pay5]

theorem upS (r : Fin 512) (f : Fin 2816) : p.upS (ix2 r f) = A.args.up (512 * b + r.val) f := by
  rw [← K.up]
  unfold Blk.upS Blk.up
  pointwise [k0_pay11]

theorem carry (r : Fin 8) (f : Fin 2816) : p.carry (ix2 r f) = A.args.gp (512 * b + 504 + r.val) f := by
  unfold Blk.carry
  pointwise [k0_pay9]
  rw [K.gp]
  dsimp only
  rw [Nat.add_assoc]

theorem w0 (f : Fin 2816) : p.w0 (ix2 0 f) = A.cw (ix2 0 f) := by
  rw [← K.cw]; unfold Blk.w0
  exact View.ld_unit_apply_of _ _ _ _ _ _ (by intro a; fin_cases a <;> simp)

theorem w1 (f : Fin 2816) : p.w1 (ix2 0 f) = A.cw (ix2 1 f) := by
  rw [← K.cw]; unfold Blk.w1
  exact View.ld_unit_apply_of _ _ _ _ _ _ (by intro a; fin_cases a <;> simp)

theorem w2 (f : Fin 2816) : p.w2 (ix2 0 f) = A.cw (ix2 2 f) := by
  rw [← K.cw]; unfold Blk.w2
  exact View.ld_unit_apply_of _ _ _ _ _ _ (by intro a; fin_cases a <;> simp)

theorem c1 (f : Fin 2816) : p.c1 (ix2 0 f) = A.args.gpb 1 (512 * b) f := by
  rw [← K.cy1]; unfold Blk.c1
  exact View.ld_unit_apply_of _ _ _ _ _ _ (by intro a; fin_cases a <;> simp)

theorem c2 (f : Fin 2816) : p.c2 (ix2 0 f) = A.args.gpb 2 (512 * b) f := by
  rw [← K.cy2]; unfold Blk.c2
  exact View.ld_unit_apply_of _ _ _ _ _ _ (by intro a; fin_cases a <;> simp)

/-- the row one before -/
theorem back1 (r : Fin 512) (f : Fin 2816) (u : EReal) (hu : u = A.args.gp (512 * b + (r.val + 512 - 1) % 512) f) :
    (if r.val < 8 then (if r.val = 0 then A.args.gpb 1 (512 * b) f else u) else u) = A.args.gpb 1 (512 * b + r.val) f := by
  have hr := r.isLt
  have key : ¬r.val = 0 → u = A.args.gpb 1 (512 * b + r.val) f := fun h => by
    rw [hu, Args.gpb, if_neg (by omega)]; congr 1; omega
  by_cases h0 : r.val = 0
  · rw [if_pos (by omega), if_pos h0, h0]; rfl
  · rw [if_neg h0, key h0, ite_self]

/-- the row two before -/
theorem back2 (r : Fin 512) (f : Fin 2816) (u : EReal) (hu : u = A.args.gp (512 * b + (r.val + 512 - 2) % 512) f) :
    (if r.val < 8 then (if r.val = 1 then A.args.gpb 1 (512 * b) f else if r.val = 0 then A.args.gpb 2 (512 * b) f else u)
      else u) = A.args.gpb 2 (512 * b + r.val) f := by
  have hr := r.isLt
  have key : ¬r.val < 2 → u = A.args.gpb 2 (512 * b + r.val) f := fun h => by
    rw [hu, Args.gpb, if_neg (by omega)]; congr 1; omega
  by_cases h1 : r.val = 1
  · rw [if_pos (by omega), if_pos h1, h1, Args.gpb, Args.gpb]
    by_cases hz : b = 0
    · rw [if_pos (by omega), if_pos (by omega)]
    · rw [if_neg (by omega), if_neg (by omega)]; congr 1
  · by_cases h0 : r.val = 0
    · rw [if_pos (by omega), if_neg h1, if_pos h0, h0]; rfl
    · rw [if_neg h1, if_neg h0, key (by omega), ite_self]

set_option maxHeartbeats 1000000 in
theorem gate (r : Fin 512) (f : Fin 2816) : p.gate (ix2 r f) = A.args.gate (512 * b + r.val) f := by
  have hr := r.isLt
  have e : ∀ r : Fin 512, k0_pay4 p.x p.g p.wg (ix2 r f) = A.args.gp (512 * b + r.val) f := fun r => K.gp r f
  unfold Blk.gate
  pointwise [k0_pay8, k0_pay7, k0_pay6]
  simp only [K.c1, K.c2, K.w0, K.w1, K.w2, K.cb, K.gp, e]
  unfold Args.gate
  refine congrArg₂ (· + ·) (congrArg₂ (· + ·) (congrArg₂ (· + ·) (congrArg (· * _) ?_) (congrArg (· * _) ?_)) rfl) rfl
  · rw [← K.back2 r f _ rfl]
    by_cases h : r.val < 8
    · rw [dif_pos h, if_pos h, select_word _ _ (by omega) (by omega), select_word _ _ (by omega) (by omega)]
    · rw [dif_neg h, if_neg h]; congr 1; omega
  · rw [← K.back1 r f _ rfl]
    by_cases h : r.val < 8
    · rw [dif_pos h, if_pos h, select_word _ _ (by omega) (by omega)]
    · rw [dif_neg h, if_neg h]; congr 1; omega

theorem x2 (r : Fin 512) (d : Fin 1024) :
    p.x2 (ix2 r d) = rd A.x (512 * b + r.val) d + ∑ f : Fin 2816, A.args.act (512 * b + r.val) f * A.wd (ix2 f d) := by
  unfold Blk.x2
  pointwise [k0_pay1]
  simp only [K.x, K.gate, K.up, K.wd]
  rfl

end Has
end Cert.Kernel2Ideal.Fwd
end
-- ==== Proof.FwdC.lean ====
module

public import proofs.«01_k».proof.Proof.FwdB

@[expose] public section

set_option maxRecDepth 16384

noncomputable section

/-! The blocks of the forward kernel's points are those of the seven arrays, the rows handed on are the gate product's, and
the four result arrays are those of the forward feed-forward block. -/
namespace Cert.Kernel2Ideal.Fwd
open Cert.Kernel2Ideal Cert.Kernel2Ideal.Gen
open Idealize.ShloMosaic Idealize.ShloMosaic.TcCoe Idealize.SL.Sem
open Cert.KernelIdeal.Grad (Args rd rd_of_lt rd_of_ge)

variable (m : (l : Loc nD τ sig) → Buf (Elt Ideal) l) (c : Dev nD)

/-- the seven arrays in the launch memory -/
def ins : Ins where
  x := m ((c : Thread nD τ).loc main_arg0)
  g := m ((c : Thread nD τ).loc main_arg1)
  wg := m ((c : Thread nD τ).loc main_arg2)
  wu := m ((c : Thread nD τ).loc main_arg3)
  wd := m ((c : Thread nD τ).loc main_arg4)
  cw := m ((c : Thread nD τ).loc main_arg5)
  cb := m ((c : Thread nD τ).loc main_arg6)

/-- the index maps of the windows, decided over the points -/
theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] :=
  (by decide +kernel : ∀ t : Fin grid0.N, _)

variable (t : Fin cfg0.N)

theorem at_x (r : Fin 512) (d : Fin 1024) : iblk m c 0 t (ix2 r d) = rd (ins m c).x (512 * t.val + r.val) d := by
  have hr := r.isLt
  have ht : t.val < 16 := t.isLt
  rw [rd_of_lt _ _ _ (by omega), ins]
  dsimp only
  blk_point [iblk, V, idx t]

theorem at_g (d : Fin 1024) : iblk m c 1 t (ix2 0 d) = (ins m c).g (ix2 0 d) := by
  rw [ins]
  dsimp only
  blk_point [iblk, V, idx t]

theorem at_wg (f : Fin 2816) (d : Fin 1024) : iblk m c 2 t (ix2 f d) = (ins m c).wg (ix2 d f) := by
  rw [ins]
  dsimp only
  blk_simp [iblk]
  entry_read
  pointwise
  blk_point [idx t]

theorem at_wu (f : Fin 2816) (d : Fin 1024) : iblk m c 3 t (ix2 f d) = (ins m c).wu (ix2 d f) := by
  rw [ins]
  dsimp only
  blk_simp [iblk]
  entry_read
  pointwise
  blk_point [idx t]

theorem at_wd (f : Fin 2816) (d : Fin 1024) : iblk m c 4 t (ix2 f d) = (ins m c).wd (ix2 f d) := by
  rw [ins]
  dsimp only
  blk_simp [iblk]
  entry_read
  pointwise
  blk_point [idx t]

theorem at_cw (q : Fin 3) (f : Fin 2816) : iblk m c 5 t (ix2 q f) = (ins m c).cw (ix2 q f) := by
  rw [ins]
  dsimp only
  blk_point [iblk, V, idx t]

theorem at_cb (f : Fin 2816) : iblk m c 6 t (ix2 0 f) = (ins m c).cb (ix2 0 f) := by
  rw [ins]
  dsimp only
  blk_point [iblk, V, idx t]

/-- a point's blocks are those of the arrays, over rows handed on that end with the two before the block -/
theorem has_of (s : Vec Ideal S8x2816 .f32) (h1 : ∀ f, s (ix2 7 f) = (ins m c).args.gpb 1 (512 * t.val) f)
    (h2 : ∀ f, s (ix2 6 f) = (ins m c).args.gpb 2 (512 * t.val) f) : Has (ins m c) (blk m c t s) t.val where
  hb := t.isLt
  x := at_x m c t
  g := at_g m c t
  wg := at_wg m c t
  wu := at_wu m c t
  wd := at_wd m c t
  cw := at_cw m c t
  cb := at_cb m c t
  cy1 := h1
  cy2 := h2

/-- the rows handed on to each point, and what it leaves over them -/
theorem point (n : ℕ) : ∀ t : Fin cfg0.N, t.val = n → ∃ s : Vec Ideal S8x2816 .f32, Has (ins m c) (blk m c t s) t.val
    ∧ outsAt0 m c t.val t.isLt = ((blk m c t s).gpS, (blk m c t s).upS, (blk m c t s).hS, (blk m c t s).x2, (blk m c t s).carry) := by
  induction n with
  | zero =>
    intro t ht
    have hz : ∀ (r : Fin 8) (f : Fin 2816), k0_pay2 (F := Ideal) (ix2 r f) = 0 := fun r f => by pointwise [k0_pay2]
    have e := outs_first m c t (by omega)
    refine ⟨k0_pay2 (F := Ideal), ?_, e⟩
    refine has_of m c t _ (fun f => ?_) (fun f => ?_)
    · rw [Args.gpb, if_pos (by omega)]; exact hz 7 f
    · rw [Args.gpb, if_pos (by omega)]; exact hz 6 f
  | succ n ih =>
    intro t ht
    have hN : t.val < 16 := t.isLt
    obtain ⟨s, hs, es⟩ := ih ⟨t.val - 1, Nat.lt_of_le_of_lt (Nat.sub_le _ _) t.isLt⟩ (by dsimp only; omega)
    have e := outs_next m c t (by omega) _ (congrArg (fun o => o.2.2.2.2) es)
    dsimp only at e
    refine ⟨_, ?_, e⟩
    refine has_of m c t _ (fun f => ?_) (fun f => ?_)
    · rw [hs.carry, Args.gpb, if_neg (by omega)]
      exact congrArg (fun r => (ins m c).args.gp r f) (by show 512 * (t.val - 1) + 504 + 7 = 512 * t.val - 1; omega)
    · rw [hs.carry, Args.gpb, if_neg (by omega)]
      exact congrArg (fun r => (ins m c).args.gp r f) (by show 512 * (t.val - 1) + 504 + 6 = 512 * t.val - 2; omega)

theorem final_gp : (dats m 0 c).arrAt 7 cfg0.N = (ins m c).GP := by
  refine (dats m 0 c).arrAt_eq_of_covers 7 _ (by decide +kernel) fun t _ y => ?_
  obtain ⟨s, hs, es⟩ := point m c t.val t rfl
  blk_simp
  rw [after0_7, es]
  idx_vars y
  have h0 := y0.isLt
  have ht : t.val < 16 := t.isLt
  have e : ((View.whole main_v5_0).slice (win0_7.rect t)).emb (ix2 y0 y1) = ix2 ⟨512 * t.val + y0.val, by omega⟩ y1 := by
    blk_ext [idx t]
  rw [e]
  exact hs.gpS y0 y1

theorem final_up : (dats m 0 c).arrAt 8 cfg0.N = (ins m c).UP := by
  refine (dats m 0 c).arrAt_eq_of_covers 8 _ (by decide +kernel) fun t _ y => ?_
  obtain ⟨s, hs, es⟩ := point m c t.val t rfl
  blk_simp
  rw [after0_8, es]
  idx_vars y
  have h0 := y0.isLt
  have ht : t.val < 16 := t.isLt
  have e : ((View.whole main_v5_1).slice (win0_8.rect t)).emb (ix2 y0 y1) = ix2 ⟨512 * t.val + y0.val, by omega⟩ y1 := by
    blk_ext [idx t]
  rw [e]
  exact hs.upS y0 y1

theorem final_h : (dats m 0 c).arrAt 9 cfg0.N = (ins m c).H := by
  refine (dats m 0 c).arrAt_eq_of_covers 9 _ (by decide +kernel) fun t _ y => ?_
  obtain ⟨s, hs, es⟩ := point m c t.val t rfl
  blk_simp
  rw [after0_9, es]
  idx_vars y
  have h0 := y0.isLt
  have ht : t.val < 16 := t.isLt
  have e : ((View.whole main_v5_2).slice (win0_9.rect t)).emb (ix2 y0 y1) = ix2 ⟨512 * t.val + y0.val, by omega⟩ y1 := by
    blk_ext [idx t]
  rw [e]
  exact (hs.h y0 y1).trans (rd_of_lt _ _ _ (by omega))

theorem final_x2 : (dats m 0 c).arrAt 10 cfg0.N = (ins m c).X2 := by
  refine (dats m 0 c).arrAt_eq_of_covers 10 _ (by decide +kernel) fun t _ y => ?_
  obtain ⟨s, hs, es⟩ := point m c t.val t rfl
  blk_simp
  rw [after0_10, es]
  idx_vars y
  have h0 := y0.isLt
  have ht : t.val < 16 := t.isLt
  have e : ((View.whole main_v5_3).slice (win0_10.rect t)).emb (ix2 y0 y1) = ix2 ⟨512 * t.val + y0.val, by omega⟩ y1 := by
    blk_ext [idx t]
  rw [e]
  exact (hs.x2 y0 y1).trans (congrArg (· + _) (rd_of_lt _ _ _ (by omega)))

end Cert.Kernel2Ideal.Fwd
end
-- ==== Proof.FwdD.lean ====
module

public import proofs.«01_k».proof.Proof.FwdC

@[expose] public section

set_option maxRecDepth 16384

noncomputable section

/-! The forward reference's results are the four arrays of the forward feed-forward block. -/
namespace Cert.Reference2Ideal.Fwd
open Cert.Reference2Ideal Cert.Reference2Ideal.Gen Cert.Reference2Ideal.Read
open Cert.KernelIdeal.Grad (Args rd rd_of_lt)
open Cert.ReferenceIdeal.Grad (rd_at)
open Cert.Kernel2Ideal.Fwd (Ins)
open Idealize.ShloMosaic Idealize.ShloMosaic.TcCoe Idealize.SL.Sem

variable (A : Ins)

theorem hR (r : Fin 8192) (d : Fin 1024) : val_main_v11 (F := Ideal) A.x A.g (ix2 r d) = A.args.h (ix2 r d) := by
  show _ = A.x (ix2 r d) * A.rs r.val * A.g (ix2 0 d)
  unfold Ins.rs
  simp only [rd_at]
  pointwise [val_main_v11, val_main_v10, val_main_v9, val_main_v8, val_main_v7, val_main_v6, val_main_v5, val_main_cst_1, val_main_v4, val_main_v3, val_main_cst_0, val_main_v2, val_main_v1, val_main_cst, val_main_v0]

theorem gpR (r : Fin 8192) (f : Fin 2816) : val_main_v12 (F := Ideal) A.x A.g A.wg (ix2 r f) = A.args.gp r.val f := by
  unfold Args.gp
  simp only [rd_at]
  pointwise [val_main_v12]
  simp only [hR]
  rfl

theorem upR (r : Fin 8192) (f : Fin 2816) : val_main_v38 (F := Ideal) A.x A.g A.wu (ix2 r f) = A.args.up r.val f := by
  unfold Args.up
  simp only [rd_at]
  pointwise [val_main_v38]
  simp only [hR]
  rfl

theorem gpbR_2 (r : Fin 8192) (f : Fin 2816) : val_main_v15 (F := Ideal) A.x A.g A.wg (ix2 r f) = A.args.gpb 2 r.val f := by
  have hr := r.isLt
  unfold Args.gpb
  pointwise [val_main_v15, val_main_v14, val_main_v13, val_main_cst_2]
  by_cases h : r.val < 2
  · rw [if_pos h, dif_pos (by omega)]
  · rw [if_neg h, dif_neg (by omega)]
    refine (gpR A _ f).trans (congrArg (fun n => A.args.gp n f) ?_)
    try dsimp only
    all_goals omega

theorem gpbR_1 (r : Fin 8192) (f : Fin 2816) : val_main_v21 (F := Ideal) A.x A.g A.wg (ix2 r f) = A.args.gpb 1 r.val f := by
  have hr := r.isLt
  unfold Args.gpb
  pointwise [val_main_v21, val_main_v14, val_main_v13, val_main_cst_2]
  by_cases h : r.val < 1
  · rw [if_pos h, dif_pos (by omega)]
  · rw [if_neg h, dif_neg (by omega)]
    refine (gpR A _ f).trans (congrArg (fun n => A.args.gp n f) ?_)
    try dsimp only
    all_goals omega

theorem gpbR_0 (r : Fin 8192) (f : Fin 2816) : val_main_v28 (F := Ideal) A.x A.g A.wg (ix2 r f) = A.args.gp r.val f := by
  pointwise [val_main_v28, val_main_v14, val_main_v13, val_main_cst_2]
  exact gpR A r f

theorem wR_0 (r : Fin 8192) (f : Fin 2816) : val_main_v19 (F := Ideal) A.cw (ix2 r f) = A.cw (ix2 0 f) := by
  pointwise [val_main_v16, val_main_v17, val_main_v18, val_main_v19]

theorem wR_1 (r : Fin 8192) (f : Fin 2816) : val_main_v25 (F := Ideal) A.cw (ix2 r f) = A.cw (ix2 1 f) := by
  pointwise [val_main_v22, val_main_v23, val_main_v24, val_main_v25]

theorem wR_2 (r : Fin 8192) (f : Fin 2816) : val_main_v32 (F := Ideal) A.cw (ix2 r f) = A.cw (ix2 2 f) := by
  pointwise [val_main_v29, val_main_v30, val_main_v31, val_main_v32]

theorem bR (r : Fin 8192) (f : Fin 2816) : val_main_v35 (F := Ideal) A.cb (ix2 r f) = A.cb (ix2 0 f) := by
  pointwise [val_main_v35]

theorem gateR (r : Fin 8192) (f : Fin 2816) :
    val_main_v36 (F := Ideal) A.x A.g A.wg A.cw A.cb (ix2 r f) = A.args.gate r.val f := by
  unfold Args.gate
  pointwise [val_main_v36, val_main_v34, val_main_v33, val_main_v27, val_main_v26, val_main_v20]
  rw [gpbR_2, gpbR_1, gpbR_0, wR_0, wR_1, wR_2, bR]
  rfl

theorem siluR (r : Fin 8192) (f : Fin 2816) :
    val_main_v37 (F := Ideal) A.x A.g A.wg A.cw A.cb (ix2 r f) = A.args.silu r.val f := by
  unfold Args.silu Args.sg
  pointwise [val_main_v37, val_main_call0_v0, val_main_call0_v1, val_main_call0_v2, val_main_call0_v3, val_main_call0_v4, val_main_call0_v5, val_main_call0_cst, val_main_call0_cst_0]
  rw [gateR, zero_sub]

theorem actR (r : Fin 8192) (f : Fin 2816) :
    val_main_v39 (F := Ideal) A.x A.g A.wg A.wu A.cw A.cb (ix2 r f) = A.args.act r.val f := by
  unfold Args.act
  pointwise [val_main_v39]
  rw [siluR, upR]

theorem res_gp : val_main_v43 (F := Ideal) A.x A.g A.wg = A.GP := by
  funext i
  idx_vars i
  refine Eq.trans ?_ (gpR A i0 i1)
  pointwise [val_main_v43, val_main_v42, val_main_v12]

theorem res_up : val_main_v45 (F := Ideal) A.x A.g A.wu = A.UP := by
  funext i
  idx_vars i
  refine Eq.trans ?_ (upR A i0 i1)
  pointwise [val_main_v45, val_main_v44, val_main_v38]

theorem res_h : val_main_v46 (F := Ideal) A.x A.g = A.H := by
  funext i
  idx_vars i
  refine Eq.trans ?_ (hR A i0 i1)
  pointwise [val_main_v46]

theorem res_x2 : val_main_v41 (F := Ideal) A.x A.g A.wg A.wu A.wd A.cw A.cb = A.X2 := by
  funext i
  idx_vars i
  pointwise [val_main_v41, val_main_v40]
  simp only [actR]
  rfl

end Cert.Reference2Ideal.Fwd
end
-- ==== Proof.PleA.lean ====
module

public import proofs.«01_k».proof.Proof.FwdD
public import proofs.«01_k».proof.Proof.Gen.Kernel3Ideal.Value
public import proofs.«01_k».proof.Proof.Gen.Reference3Ideal.Read

@[expose] public section

set_option maxRecDepth 16384

noncomputable section

/-! The embedding kernel: what each grid point leaves in the output blocks and in the scratch, as functions of its input
blocks and of the sums the points before left. -/
namespace Cert.Kernel3Ideal.Ple
open Cert.Kernel3Ideal Cert.Kernel3Ideal.Gen
open Idealize.ShloMosaic Idealize.ShloMosaic.TcCoe Idealize.SL.Sem

variable {F : FTy → Type} [FloatOps F]

/-- what a grid point reads -/
structure Blk (F : FTy → Type) [FloatOps F] where
  /-- the rows -/
  x : Vec F S512x1024 .f32
  /-- the embedding -/
  e : Vec F S512x256 .f32
  /-- the target -/
  t : Vec F S512x1024 .f32
  /-- the scale of the norm -/
  g : Vec F S1x1024 .f32
  /-- the gate weight -/
  wg : Vec F S1024x1024 .bf16
  /-- the projection weight -/
  wp : Vec F S256x1024 .bf16
  /-- the loss so far -/
  lo : Vec F S8x128 .f32
  /-- the gradient of the projection weight so far -/
  ap : Vec F S256x1024 .f32
  /-- the gradient of the scale so far -/
  ag : Vec F S1x1024 .f32
  /-- the gradient of the gate weight so far -/
  aw : Vec F S1024x1024 .f32

namespace Blk
variable (p : Blk F)
/-- one over the root mean square -/
def r : FVec F S512x1 .f32 := k0_pay10 p.x
/-- the rows over their root mean square -/
def xh : FVec F S512x1024 .f32 := k0_pay11 p.x
/-- the normed rows -/
def h : FVec F S512x1024 .bf16 := k0_pay12 p.x p.g
/-- the gate -/
def pg : FVec F S512x1024 .f32 := k0_pay13 p.x p.g p.wg
/-- the embedding, as the products take it -/
def eb : FVec F S512x256 .bf16 := k0_pay14 p.e
/-- the projected embedding -/
def pp : FVec F S512x1024 .f32 := k0_pay15 p.e p.wp
/-- the last rows of the layer -/
def y : FVec F S512x1024 .f32 := k0_pay16 p.x p.g p.wg p.e p.wp
/-- the gradient of the last rows -/
def dy : FVec F S512x1024 .f32 := k0_pay19 p.y p.t
/-- the gradient before the sigmoid -/
def dpre : FVec F S512x1024 .bf16 := k0_pay20 p.pg p.pp p.y p.t
/-- the loss, with this block's -/
def loss : FVec F S8x128 .f32 := k0_pay18 p.y p.t p.lo
/-- the gradient of the projection weight, with this block's -/
def dwp : FVec F S256x1024 .f32 := k0_pay21 p.pg p.eb p.y p.t p.ap
/-- the gradient of the gate weight, with this block's -/
def dw : FVec F S1024x1024 .f32 := k0_pay22 p.h p.pg p.pp p.y p.t p.aw
/-- the gradient of the scale, with this block's -/
def dg : FVec F S1x1024 .f32 := k0_pay2 p.xh p.dpre p.wg p.ag
/-- the gradient of the rows -/
def dx : FVec F S512x1024 .f32 := k0_pay3 p.r p.xh p.g p.dy p.dpre p.wg
/-- the gradient of the rows, rounded -/
def dxb : FVec F S512x1024 .bf16 := k0_pay4 p.r p.xh p.g p.dy p.dpre p.wg
/-- the gradient of the gate weight, rounded -/
def dwb : FVec F S1024x1024 .bf16 := k0_pay5 p.dw
end Blk

theorem out0_A_6_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) :
    out0_A_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = Blk.dx ⟨x0, x1, x2, x3, x4, x5, k0_pay6, k0_pay8, k0_pay9, k0_pay7⟩ := by
  frame_out
  rfl

theorem out0_A_7_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) :
    out0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = Blk.dxb ⟨x0, x1, x2, x3, x4, x5, k0_pay6, k0_pay8, k0_pay9, k0_pay7⟩ := by
  frame_out
  rfl

theorem out0_A_8_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) :
    out0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = Blk.loss ⟨x0, x1, x2, x3, x4, x5, k0_pay6, k0_pay8, k0_pay9, k0_pay7⟩ := by
  frame_out
  rfl

theorem out0_A_10_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) :
    out0_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = Blk.dwp ⟨x0, x1, x2, x3, x4, x5, k0_pay6, k0_pay8, k0_pay9, k0_pay7⟩ := by
  frame_out
  rfl

theorem out0_A_11_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) :
    out0_A_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = Blk.dg ⟨x0, x1, x2, x3, x4, x5, k0_pay6, k0_pay8, k0_pay9, k0_pay7⟩ := by
  frame_out
  rfl

theorem sout0_A_0_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = Blk.dw ⟨x0, x1, x2, x3, x4, x5, k0_pay6, k0_pay8, k0_pay9, k0_pay7⟩ := by
  frame_out
  rfl

theorem out0_B_6_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_B_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dx ⟨x0, x1, x2, x3, x4, x5, xo8, xo10, xo11, xs0⟩ := by
  frame_out
  rfl

theorem out0_B_7_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dxb ⟨x0, x1, x2, x3, x4, x5, xo8, xo10, xo11, xs0⟩ := by
  frame_out
  rfl

theorem out0_B_8_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.loss ⟨x0, x1, x2, x3, x4, x5, xo8, xo10, xo11, xs0⟩ := by
  frame_out
  rfl

theorem out0_B_10_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dwp ⟨x0, x1, x2, x3, x4, x5, xo8, xo10, xo11, xs0⟩ := by
  frame_out
  rfl

theorem out0_B_11_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dg ⟨x0, x1, x2, x3, x4, x5, xo8, xo10, xo11, xs0⟩ := by
  frame_out
  rfl

theorem sout0_B_0_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : ¬cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dw ⟨x0, x1, x2, x3, x4, x5, xo8, xo10, xo11, xs0⟩ := by
  frame_out
  rfl

theorem out0_C_6_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dx ⟨x0, x1, x2, x3, x4, x5, xo8, xo10, xo11, xs0⟩ := by
  frame_out
  rfl

theorem out0_C_7_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dxb ⟨x0, x1, x2, x3, x4, x5, xo8, xo10, xo11, xs0⟩ := by
  frame_out
  rfl

theorem out0_C_8_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.loss ⟨x0, x1, x2, x3, x4, x5, xo8, xo10, xo11, xs0⟩ := by
  frame_out
  rfl

theorem out0_C_10_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dwp ⟨x0, x1, x2, x3, x4, x5, xo8, xo10, xo11, xs0⟩ := by
  frame_out
  rfl

theorem out0_C_11_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dg ⟨x0, x1, x2, x3, x4, x5, xo8, xo10, xo11, xs0⟩ := by
  frame_out
  rfl

theorem sout0_C_0_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    sout0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dw ⟨x0, x1, x2, x3, x4, x5, xo8, xo10, xo11, xs0⟩ := by
  frame_out
  rfl

theorem out0_C_9_eq (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x128 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1024x1024 .f32) (harg13 : arg13.IsWhole) (hc0 : ¬cond0_0 i) (hc1 : cond0_1 i)
    (x0 : Vec F S512x1024 .f32) (x1 : Vec F S512x256 .f32) (x2 : Vec F S512x1024 .f32) (x3 : Vec F S1x1024 .f32) (x4 : Vec F S1024x1024 .bf16) (x5 : Vec F S256x1024 .bf16) (xo8 : Vec F S8x128 .f32) (xo10 : Vec F S256x1024 .f32) (xo11 : Vec F S1x1024 .f32) (xs0 : Vec F S1024x1024 .f32) :
    out0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xo8 xo10 xo11 xs0 = Blk.dwb ⟨x0, x1, x2, x3, x4, x5, xo8, xo10, xo11, xs0⟩ := by
  frame_out
  rfl

variable (m : (l : Loc nD τ sig) → Buf (Elt F) l)

/-- what point `t` reads, over the sums the points before left -/
def blk (c : Dev nD) (t : Fin cfg0.N) (lo : Vec F S8x128 .f32) (ap : Vec F S256x1024 .f32) (ag : Vec F S1x1024 .f32)
    (aw : Vec F S1024x1024 .f32) : Blk F :=
  ⟨iblk m c 0 t, iblk m c 1 t, iblk m c 2 t, iblk m c 3 t, iblk m c 4 t, iblk m c 5 t, lo, ap, ag, aw⟩

/-- the contents `o` are what a point that reads `p` leaves, but for the rounded gate weight's gradient -/
def Left (o : Vec F S512x1024 .f32 × Vec F S512x1024 .bf16 × Vec F S8x128 .f32 × Vec F S1024x1024 .bf16
    × Vec F S256x1024 .f32 × Vec F S1x1024 .f32 × Vec F S1024x1024 .f32) (p : Blk F) : Prop :=
  o.1 = p.dx ∧ o.2.1 = p.dxb ∧ o.2.2.1 = p.loss ∧ o.2.2.2.2.1 = p.dwp ∧ o.2.2.2.2.2.1 = p.dg ∧ o.2.2.2.2.2.2 = p.dw

/-- what a first point leaves -/
theorem outs_first (c : Dev nD) (t : Fin cfg0.N) (h0 : t.val % 16 = 0) :
    Left (outsAt0 m c t.val t.isLt) (blk m c t k0_pay6 k0_pay8 k0_pay9 k0_pay7) := by
  rw [outsAt0_A m c t h0 (by omega), out0_A_6_eq, out0_A_7_eq, out0_A_8_eq, out0_A_10_eq, out0_A_11_eq, sout0_A_0_eq]
  exact ⟨rfl, rfl, rfl, rfl, rfl, rfl⟩

/-- the contents the point before left -/
def prev (c : Dev nD) (t : Fin cfg0.N) := outsAt0 m c (t.val - 1) (Nat.lt_of_le_of_lt (Nat.sub_le _ _) t.isLt)

/-- what a later point reads -/
def blkN (c : Dev nD) (t : Fin cfg0.N) : Blk F :=
  blk m c t (prev m c t).2.2.1 (prev m c t).2.2.2.2.1 (prev m c t).2.2.2.2.2.1 (prev m c t).2.2.2.2.2.2

/-- what a point after the first leaves -/
theorem outs_next (c : Dev nD) (t : Fin cfg0.N) (h0 : ¬t.val % 16 = 0) :
    Left (outsAt0 m c t.val t.isLt) (blkN m c t) := by
  by_cases h1 : t.val % 16 = 15
  · rw [outsAt0_C m c t h0 h1, out0_C_6_eq, out0_C_7_eq, out0_C_8_eq, out0_C_10_eq, out0_C_11_eq, sout0_C_0_eq]
    exact ⟨rfl, rfl, rfl, rfl, rfl, rfl⟩
  · rw [outsAt0_B m c t h0 h1, out0_B_6_eq, out0_B_7_eq, out0_B_8_eq, out0_B_10_eq, out0_B_11_eq, sout0_B_0_eq]
    exact ⟨rfl, rfl, rfl, rfl, rfl, rfl⟩

/-- the rounded gradient the last point leaves -/
theorem outs_last (c : Dev nD) (t : Fin cfg0.N) (h0 : ¬t.val % 16 = 0) (h1 : t.val % 16 = 15) :
    (outsAt0 m c t.val t.isLt).2.2.2.1 = (blkN m c t).dwb := by
  rw [outsAt0_C m c t h0 h1, out0_C_9_eq]
  rfl

end Cert.Kernel3Ideal.Ple
end
-- ==== Proof.PleB.lean ====
module

public import proofs.«01_k».proof.Proof.PleA

@[expose] public section

set_option maxRecDepth 16384

noncomputable section

/-! The embedding and the loss, forward and backward, entry by entry, over the extended reals; and what a point of the
kernel leaves, entry by entry, when its blocks are those of the arrays. -/
namespace Cert.Kernel3Ideal.Ple
open Cert.Kernel3Ideal Cert.Kernel3Ideal.Gen
open Idealize.ShloMosaic Idealize.ShloMosaic.TcCoe Idealize.SL.Sem
open Cert.KernelIdeal.Grad (rd rd_of_lt rd_of_ge)

/-- the six argument arrays -/
structure Ins where
  /-- the rows -/
  x : FVec Ideal S8192x1024 .f32
  /-- the embedding -/
  e : FVec Ideal S8192x256 .f32
  /-- the target -/
  t : FVec Ideal S8192x1024 .f32
  /-- the scale of the norm -/
  g : FVec Ideal S1x1024 .f32
  /-- the gate weight -/
  wg : FVec Ideal S1024x1024 .f32
  /-- the projection weight -/
  wp : FVec Ideal S256x1024 .f32

/-- row `r` of the embedding; rows past the end are 0 -/
def re (x : FVec Ideal S8192x256 .f32) (r : ℕ) (k : Fin 256) : EReal :=
  if h : r < 8192 then x (ix2 ⟨r, h⟩ k) else 0

theorem re_of_lt (x : FVec Ideal S8192x256 .f32) (r : ℕ) (k : Fin 256) (h : r < 8192) : re x r k = x (ix2 ⟨r, h⟩ k) :=
  dif_pos h

/-- the number of columns, 1024 -/
def cD : EReal := Ideal.ofBits FTy.f32 0x44800000#32
/-- 1/1024 -/
def cI : EReal := Ideal.ofBits FTy.f32 0x3A800000#32
/-- a half -/
def cH : EReal := Ideal.ofBits FTy.f32 0x3F000000#32

theorem cH_eq : cH = ((1 / 2 : ℝ) : EReal) := by
  simp [cH, cI, cD, Ideal.ofBits, Ideal.ieee]
  rw [← EReal.coe_mul]
  norm_num
theorem cI_eq : cI = ((1 / 1024 : ℝ) : EReal) := by
  simp [cH, cI, cD, Ideal.ofBits, Ideal.ieee]
  rw [← EReal.coe_mul]
  norm_num
theorem cD_eq : cD = ((1024 : ℝ) : EReal) := by
  simp [cH, cI, cD, Ideal.ofBits, Ideal.ieee]
  rw [← EReal.coe_mul]
  norm_num
theorem c2_eq : Ideal.ofBits FTy.f32 0x40000000#32 = ((2 : ℝ) : EReal) := by
  simp [cH, cI, cD, Ideal.ofBits, Ideal.ieee]
  rw [← EReal.coe_mul]
  norm_num
theorem cN_eq : Ideal.ofBits FTy.f32 0xBF000000#32 = ((-(1 / 2) : ℝ) : EReal) := by
  simp [cH, cI, cD, Ideal.ofBits, Ideal.ieee]
  rw [← EReal.coe_mul]
  norm_num
theorem eps_eq : ∃ e : ℝ, 0 < e ∧ Ideal.ofBits FTy.f32 0x358637BD#32 = (e : EReal) := by
  refine ⟨8796093 * (2 ^ 43)⁻¹, by positivity, ?_⟩
  simp [cH, cI, cD, Ideal.ofBits, Ideal.ieee]

theorem half_sum {n : ℕ} (f : Fin n → EReal) : cH * ∑ r, f r = ∑ r, cH * f r := by
  rw [cH_eq]
  have hd : ∀ y z : EReal, ((1 / 2 : ℝ) : EReal) * (y + z) = ((1 / 2 : ℝ) : EReal) * y + ((1 / 2 : ℝ) : EReal) * z := fun y z =>
    EReal.left_distrib_of_nonneg_of_ne_top (EReal.coe_nonneg.mpr (by norm_num)) (EReal.coe_ne_top _) y z
  exact map_sum (⟨⟨fun y => ((1 / 2 : ℝ) : EReal) * y, mul_zero _⟩, hd⟩ : EReal →+ EReal) f Finset.univ

namespace Ins
variable (A : Ins)
/-- the mean square of a row, and the small constant of the norm -/
def ms (r : ℕ) : EReal := Ideal.div (∑ k : Fin 1024, rd A.x r k * rd A.x r k) cD + Ideal.ofBits FTy.f32 0x358637BD#32
/-- one over the root mean square -/
def rs (r : ℕ) : EReal := Ideal.rsqrt (A.ms r)
/-- the rows over their root mean square -/
def xh (r : ℕ) (d : Fin 1024) : EReal := rd A.x r d * A.rs r
/-- the normed rows -/
def h (r : ℕ) (d : Fin 1024) : EReal := A.xh r d * A.g (ix2 0 d)
/-- the gate product -/
def pre (r : ℕ) (f : Fin 1024) : EReal := ∑ k : Fin 1024, A.h r k * A.wg (ix2 k f)
/-- the gate -/
def pg (r : ℕ) (f : Fin 1024) : EReal := Ideal.div 1 (1 + Ideal.exp (0 - A.pre r f))
/-- the projected embedding -/
def pp (r : ℕ) (f : Fin 1024) : EReal := ∑ k : Fin 256, re A.e r k * A.wp (ix2 k f)
/-- the error of the last rows -/
def err (r : ℕ) (f : Fin 1024) : EReal := rd A.x r f + A.pg r f * A.pp r f - rd A.t r f
/-- the gradient of the last rows -/
def dy (r : ℕ) (f : Fin 1024) : EReal := A.err r f * cI
/-- the gradient before the sigmoid -/
def dpre (r : ℕ) (f : Fin 1024) : EReal := A.dy r f * A.pp r f * A.pg r f * (1 - A.pg r f)
/-- the gradient of the normed rows -/
def dh (r : ℕ) (d : Fin 1024) : EReal := ∑ f : Fin 1024, A.dpre r f * A.wg (ix2 d f)
/-- … times the scale -/
def gd (r : ℕ) (d : Fin 1024) : EReal := A.dh r d * A.g (ix2 0 d)
/-- the gradient of the rows -/
def dx (r : ℕ) (d : Fin 1024) : EReal :=
  A.dy r d + A.rs r * (A.gd r d - A.xh r d * Ideal.div (∑ k : Fin 1024, A.gd r k * A.xh r k) cD)
/-- the mean square error of a row -/
def lr (r : ℕ) : EReal := Ideal.div (∑ f : Fin 1024, A.err r f * A.err r f) cD

/-- the gradient of the rows -/
def DX : FVec Ideal S8192x1024 .f32 := fun i => A.dx (i 0).val (i 1)
/-- … rounded -/
def DXB : FVec Ideal S8192x1024 .bf16 := fun i => A.dx (i 0).val (i 1)
/-- the loss, spread over a tile -/
def LOSS : FVec Ideal S8x128 .f32 := fun _ => cH * ∑ r : Fin 8192, A.lr r.val
/-- the gradient of the gate weight -/
def DW : FVec Ideal S1024x1024 .bf16 := fun i => ∑ r : Fin 8192, A.h r.val (i 0) * A.dpre r.val (i 1)
/-- the gradient of the projection weight -/
def DWP : FVec Ideal S256x1024 .f32 := fun i => ∑ r : Fin 8192, re A.e r.val (i 0) * (A.dy r.val (i 1) * A.pg r.val (i 1))
/-- the gradient of the scale -/
def DG : FVec Ideal S1x1024 .f32 := fun i => ∑ r : Fin 8192, A.dh r.val (i 1) * A.xh r.val (i 1)
end Ins

/-- the blocks of point `p` are block `b` of the rows of the arrays -/
structure Has (A : Ins) (p : Blk Ideal) (b : ℕ) : Prop where
  x : ∀ r d, p.x (ix2 r d) = rd A.x (512 * b + r.val) d
  e : ∀ r d, p.e (ix2 r d) = re A.e (512 * b + r.val) d
  t : ∀ r d, p.t (ix2 r d) = rd A.t (512 * b + r.val) d
  g : ∀ d, p.g (ix2 0 d) = A.g (ix2 0 d)
  wg : ∀ k f, p.wg (ix2 k f) = A.wg (ix2 k f)
  wp : ∀ k f, p.wp (ix2 k f) = A.wp (ix2 k f)

namespace Has
variable {A : Ins} {p : Blk Ideal} {b : ℕ} (K : Has A p b)
include K

theorem r (r : Fin 512) : p.r (ix2 r 0) = A.rs (512 * b + r.val) := by
  unfold Blk.r Ins.rs Ins.ms
  pointwise [k0_pay10]
  simp only [K.x]
  rfl

theorem xh (r : Fin 512) (d : Fin 1024) : p.xh (ix2 r d) = A.xh (512 * b + r.val) d := by
  have e := K.r r
  unfold Blk.r at e
  unfold Blk.xh Ins.xh
  pointwise [k0_pay11]
  rw [e, K.x]

theorem h (r : Fin 512) (d : Fin 1024) : p.h (ix2 r d) = A.h (512 * b + r.val) d := by
  have e := K.xh r d
  unfold Blk.xh at e
  unfold Blk.h Ins.h
  pointwise [k0_pay12]
  rw [e, K.g]

theorem pg (r : Fin 512) (f : Fin 1024) : p.pg (ix2 r f) = A.pg (512 * b + r.val) f := by
  have e := K.h r
  unfold Blk.h at e
  unfold Blk.pg Ins.pg Ins.pre
  pointwise [k0_pay13]
  simp only [e, K.wg]

theorem eb (r : Fin 512) (k : Fin 256) : p.eb (ix2 r k) = re A.e (512 * b + r.val) k := by
  rw [← K.e]
  unfold Blk.eb
  pointwise [k0_pay14]

theorem pp (r : Fin 512) (f : Fin 1024) : p.pp (ix2 r f) = A.pp (512 * b + r.val) f := by
  have e := K.eb r
  unfold Blk.eb at e
  unfold Blk.pp Ins.pp
  pointwise [k0_pay15]
  simp only [e, K.wp]

theorem err (r : Fin 512) (f : Fin 1024) : k0_pay17 p.y p.t (ix2 r f) = A.err (512 * b + r.val) f := by
  have e1 := K.pg r f
  have e2 := K.pp r f
  unfold Blk.pg at e1
  unfold Blk.pp at e2
  unfold Blk.y Ins.err
  pointwise [k0_pay17, k0_pay16]
  rw [e1, e2, K.x, K.t]

theorem dy (r : Fin 512) (f : Fin 1024) : p.dy (ix2 r f) = A.dy (512 * b + r.val) f := by
  have e := K.err r f
  unfold Blk.dy Ins.dy
  pointwise [k0_pay19]
  rw [e]
  rfl

theorem dpre (r : Fin 512) (f : Fin 1024) : p.dpre (ix2 r f) = A.dpre (512 * b + r.val) f := by
  have e := K.dy r f
  unfold Blk.dy at e
  unfold Blk.dpre Ins.dpre
  pointwise [k0_pay20]
  rw [e, K.pp, K.pg]

theorem dh (r : Fin 512) (d : Fin 1024) : k0_pay1 p.dpre p.wg (ix2 r d) = A.dh (512 * b + r.val) d := by
  unfold Ins.dh
  pointwise [k0_pay1]
  simp only [K.dpre, K.wg]

theorem dx (r : Fin 512) (d : Fin 1024) : p.dx (ix2 r d) = A.dx (512 * b + r.val) d := by
  unfold Blk.dx Ins.dx Ins.gd
  pointwise [k0_pay3]
  simp only [K.dh, K.xh, K.r, K.dy, K.g]
  rfl

theorem dxb (r : Fin 512) (d : Fin 1024) : p.dxb (ix2 r d) = A.dx (512 * b + r.val) d := by
  rw [← K.dx]
  unfold Blk.dxb Blk.dx
  pointwise [k0_pay4]

theorem loss (i : Fin 8) (j : Fin 128) : p.loss (ix2 i j) = p.lo (ix2 i j) + ∑ r : Fin 512, cH * A.lr (512 * b + r.val) := by
  unfold Blk.loss Ins.lr
  pointwise [k0_pay18]
  simp only [K.err, Fin.sum_univ_one]
  refine congrArg (_ + ·) ?_
  exact half_sum _

theorem dwp (k : Fin 256) (f : Fin 1024) : p.dwp (ix2 k f) = p.ap (ix2 k f)
    + ∑ r : Fin 512, re A.e (512 * b + r.val) k * (A.dy (512 * b + r.val) f * A.pg (512 * b + r.val) f) := by
  have e := fun r => K.dy r f
  unfold Blk.dy at e
  unfold Blk.dwp
  pointwise [k0_pay21]
  simp only [e, K.eb, K.pg]

theorem dw (k : Fin 1024) (f : Fin 1024) : p.dw (ix2 k f) = p.aw (ix2 k f)
    + ∑ r : Fin 512, A.h (512 * b + r.val) k * A.dpre (512 * b + r.val) f := by
  have e := fun r => K.dpre r f
  unfold Blk.dpre at e
  unfold Blk.dw
  pointwise [k0_pay22]
  simp only [e, K.h]

theorem dg (d : Fin 1024) : p.dg (ix2 0 d) = p.ag (ix2 0 d)
    + ∑ r : Fin 512, A.dh (512 * b + r.val) d * A.xh (512 * b + r.val) d := by
  unfold Blk.dg
  pointwise [k0_pay2]
  simp only [K.dh, K.xh]

end Has
end Cert.Kernel3Ideal.Ple
end
-- ==== Proof.PleC.lean ====
module

public import proofs.«01_k».proof.Proof.PleB

@[expose] public section

set_option maxRecDepth 16384

noncomputable section

/-! The blocks of the embedding kernel's points are those of the six arrays, its sums run over the rows seen so far, and
the six result arrays are the loss and its gradients. -/
namespace Cert.Kernel3Ideal.Ple
open Cert.Kernel3Ideal Cert.Kernel3Ideal.Gen
open Idealize.ShloMosaic Idealize.ShloMosaic.TcCoe Idealize.SL.Sem
open Cert.KernelIdeal.Grad (rd rd_of_lt rd_of_ge)

variable (m : (l : Loc nD τ sig) → Buf (Elt Ideal) l) (c : Dev nD)

/-- the six arrays in the launch memory -/
def ins : Ins where
  x := m ((c : Thread nD τ).loc main_arg0)
  e := m ((c : Thread nD τ).loc main_arg1)
  t := m ((c : Thread nD τ).loc main_arg2)
  g := m ((c : Thread nD τ).loc main_arg3)
  wg := m ((c : Thread nD τ).loc main_arg4)
  wp := m ((c : Thread nD τ).loc main_arg5)

/-- the index maps of the windows, decided over the points -/
theorem idx : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0]
    ∧ win0_7.index t = ![t.val, 0] ∧ win0_8.index t = ![0, 0] ∧ win0_9.index t = ![0, 0]
    ∧ win0_10.index t = ![0, 0] ∧ win0_11.index t = ![0, 0] :=
  (by decide +kernel : ∀ t : Fin grid0.N, _)

variable (t : Fin cfg0.N)

theorem at_x (r : Fin 512) (d : Fin 1024) : iblk m c 0 t (ix2 r d) = rd (ins m c).x (512 * t.val + r.val) d := by
  have hr := r.isLt
  have ht : t.val < 16 := t.isLt
  rw [rd_of_lt _ _ _ (by omega), ins]
  dsimp only
  blk_point [iblk, V, idx t]

theorem at_e (r : Fin 512) (d : Fin 256) : iblk m c 1 t (ix2 r d) = re (ins m c).e (512 * t.val + r.val) d := by
  have hr := r.isLt
  have ht : t.val < 16 := t.isLt
  rw [re_of_lt _ _ _ (by omega), ins]
  dsimp only
  blk_point [iblk, V, idx t]

theorem at_t (r : Fin 512) (d : Fin 1024) : iblk m c 2 t (ix2 r d) = rd (ins m c).t (512 * t.val + r.val) d := by
  have hr := r.isLt
  have ht : t.val < 16 := t.isLt
  rw [rd_of_lt _ _ _ (by omega), ins]
  dsimp only
  blk_point [iblk, V, idx t]

theorem at_g (d : Fin 1024) : iblk m c 3 t (ix2 0 d) = (ins m c).g (ix2 0 d) := by
  rw [ins]
  dsimp only
  blk_point [iblk, V, idx t]

theorem at_wg (k f : Fin 1024) : iblk m c 4 t (ix2 k f) = (ins m c).wg (ix2 k f) := by
  rw [ins]
  dsimp only
  blk_simp [iblk]
  entry_read
  pointwise
  blk_point [idx t]

theorem at_wp (k : Fin 256) (f : Fin 1024) : iblk m c 5 t (ix2 k f) = (ins m c).wp (ix2 k f) := by
  rw [ins]
  dsimp only
  blk_simp [iblk]
  entry_read
  pointwise
  blk_point [idx t]

/-- a point's blocks are those of the arrays -/
theorem has (lo : Vec Ideal S8x128 .f32) (ap : Vec Ideal S256x1024 .f32) (ag : Vec Ideal S1x1024 .f32)
    (aw : Vec Ideal S1024x1024 .f32) : Has (ins m c) (blk m c t lo ap ag aw) t.val where
  x := at_x m c t
  e := at_e m c t
  t := at_t m c t
  g := at_g m c t
  wg := at_wg m c t
  wp := at_wp m c t

/-- A quantity that starts at 0 and to which each point adds its block of rows is after a point the sum over the rows up
to that block's end. -/
theorem upto (term : ℕ → EReal) (v : (n : ℕ) → n < cfg0.N → EReal)
    (first : ∀ (n : ℕ) (hn : n < cfg0.N), n % 16 = 0 → v n hn = 0 + ∑ r : Fin 512, term (512 * n + r.val))
    (next : ∀ (n : ℕ) (hn : n < cfg0.N), ¬n % 16 = 0 →
      v n hn = v (n - 1) (Nat.lt_of_le_of_lt (Nat.sub_le _ _) hn) + ∑ r : Fin 512, term (512 * n + r.val)) :
    ∀ (n : ℕ) (hn : n < cfg0.N), v n hn = ∑ r ∈ Finset.range (512 * (n + 1)), term r := by
  have ext : ∀ b : ℕ, (∑ r ∈ Finset.range (512 * b), term r) + ∑ r : Fin 512, term (512 * b + r.val)
      = ∑ r ∈ Finset.range (512 * (b + 1)), term r := fun b => by
    rw [Nat.mul_add, Finset.sum_range_add, Finset.sum_range (fun r => term (512 * b + r))]
  intro n
  induction n with
  | zero =>
    intro hn
    rw [first 0 hn rfl, ← ext 0, Nat.mul_zero, Finset.range_zero, Finset.sum_empty]
  | succ n ih =>
    intro hn
    have hN : n + 1 < 16 := hn
    rw [next _ hn (by omega), ← ext (n + 1)]
    exact congrArg (· + _) (ih (Nat.lt_of_succ_lt hn))

/-- … so after the last point it is the sum over all the rows. -/
theorem upto_last (term : ℕ → EReal) (n : ℕ) (hn : n < cfg0.N) (h : n % 16 = 15) :
    (∑ r ∈ Finset.range (512 * (n + 1)), term r) = ∑ r : Fin 8192, term r.val := by
  have hN : n < 16 := hn
  have e : n = 15 := by omega
  rw [e, show 512 * (15 + 1) = 8192 from rfl, Finset.sum_range]

theorem pay6_at (i : Fin 8) (j : Fin 128) : k0_pay6 (F := Ideal) (ix2 i j) = 0 := by pointwise [k0_pay6]
theorem pay7_at (k f : Fin 1024) : k0_pay7 (F := Ideal) (ix2 k f) = 0 := by pointwise [k0_pay7]
theorem pay8_at (k : Fin 256) (f : Fin 1024) : k0_pay8 (F := Ideal) (ix2 k f) = 0 := by pointwise [k0_pay8]
theorem pay9_at (d : Fin 1024) : k0_pay9 (F := Ideal) (ix2 0 d) = 0 := by pointwise [k0_pay9]

theorem dx_at (r : Fin 512) (d : Fin 1024) : (outsAt0 m c t.val t.isLt).1 (ix2 r d) = (ins m c).dx (512 * t.val + r.val) d := by
  by_cases h0 : t.val % 16 = 0
  · rw [(outs_first m c t h0).1]
    exact (has m c t _ _ _ _).dx r d
  · rw [(outs_next m c t h0).1]
    exact (has m c t _ _ _ _).dx r d

theorem dxb_at (r : Fin 512) (d : Fin 1024) : (outsAt0 m c t.val t.isLt).2.1 (ix2 r d) = (ins m c).dx (512 * t.val + r.val) d := by
  by_cases h0 : t.val % 16 = 0
  · rw [(outs_first m c t h0).2.1]
    exact (has m c t _ _ _ _).dxb r d
  · rw [(outs_next m c t h0).2.1]
    exact (has m c t _ _ _ _).dxb r d

theorem loss_at (i : Fin 8) (j : Fin 128) : (outsAt0 m c t.val t.isLt).2.2.1 (ix2 i j)
    = ∑ r ∈ Finset.range (512 * (t.val + 1)), cH * (ins m c).lr r := by
  refine upto (fun r => cH * (ins m c).lr r) (fun n hn => (outsAt0 m c n hn).2.2.1 (ix2 i j)) ?_ ?_ t.val t.isLt
  · intro n hn h
    refine (congrFun (outs_first m c ⟨n, hn⟩ h).2.2.1 (ix2 i j)).trans ?_
    refine ((has m c ⟨n, hn⟩ _ _ _ _).loss i j).trans (congrArg (· + _) (pay6_at i j))
  · intro n hn h
    refine (congrFun (outs_next m c ⟨n, hn⟩ h).2.2.1 (ix2 i j)).trans ?_
    exact (has m c ⟨n, hn⟩ _ _ _ _).loss i j

theorem dwp_at (k : Fin 256) (f : Fin 1024) : (outsAt0 m c t.val t.isLt).2.2.2.2.1 (ix2 k f)
    = ∑ r ∈ Finset.range (512 * (t.val + 1)), re (ins m c).e r k * ((ins m c).dy r f * (ins m c).pg r f) := by
  refine upto (fun r => re (ins m c).e r k * ((ins m c).dy r f * (ins m c).pg r f)) (fun n hn => (outsAt0 m c n hn).2.2.2.2.1 (ix2 k f)) ?_ ?_ t.val t.isLt
  · intro n hn h
    refine (congrFun (outs_first m c ⟨n, hn⟩ h).2.2.2.1 (ix2 k f)).trans ?_
    refine ((has m c ⟨n, hn⟩ _ _ _ _).dwp k f).trans (congrArg (· + _) (pay8_at k f))
  · intro n hn h
    refine (congrFun (outs_next m c ⟨n, hn⟩ h).2.2.2.1 (ix2 k f)).trans ?_
    exact (has m c ⟨n, hn⟩ _ _ _ _).dwp k f

theorem dg_at (d : Fin 1024) : (outsAt0 m c t.val t.isLt).2.2.2.2.2.1 (ix2 0 d)
    = ∑ r ∈ Finset.range (512 * (t.val + 1)), (ins m c).dh r d * (ins m c).xh r d := by
  refine upto (fun r => (ins m c).dh r d * (ins m c).xh r d) (fun n hn => (outsAt0 m c n hn).2.2.2.2.2.1 (ix2 0 d)) ?_ ?_ t.val t.isLt
  · intro n hn h
    refine (congrFun (outs_first m c ⟨n, hn⟩ h).2.2.2.2.1 (ix2 0 d)).trans ?_
    refine ((has m c ⟨n, hn⟩ _ _ _ _).dg d).trans (congrArg (· + _) (pay9_at d))
  · intro n hn h
    refine (congrFun (outs_next m c ⟨n, hn⟩ h).2.2.2.2.1 (ix2 0 d)).trans ?_
    exact (has m c ⟨n, hn⟩ _ _ _ _).dg d

theorem dw_at (k f : Fin 1024) : (outsAt0 m c t.val t.isLt).2.2.2.2.2.2 (ix2 k f)
    = ∑ r ∈ Finset.range (512 * (t.val + 1)), (ins m c).h r k * (ins m c).dpre r f := by
  refine upto (fun r => (ins m c).h r k * (ins m c).dpre r f) (fun n hn => (outsAt0 m c n hn).2.2.2.2.2.2 (ix2 k f)) ?_ ?_ t.val t.isLt
  · intro n hn h
    refine (congrFun (outs_first m c ⟨n, hn⟩ h).2.2.2.2.2 (ix2 k f)).trans ?_
    refine ((has m c ⟨n, hn⟩ _ _ _ _).dw k f).trans (congrArg (· + _) (pay7_at k f))
  · intro n hn h
    refine (congrFun (outs_next m c ⟨n, hn⟩ h).2.2.2.2.2 (ix2 k f)).trans ?_
    exact (has m c ⟨n, hn⟩ _ _ _ _).dw k f

theorem pay5_at (w : Vec Ideal S1024x1024 .f32) (k f : Fin 1024) : k0_pay5 (F := Ideal) w (ix2 k f) = w (ix2 k f) := by
  pointwise [k0_pay5]

theorem dwb_at (h1 : t.val % 16 = 15) (k f : Fin 1024) : (outsAt0 m c t.val t.isLt).2.2.2.1 (ix2 k f) = (ins m c).DW (ix2 k f) := by
  rw [outs_last m c t (by omega) h1]
  refine (pay5_at _ k f).trans ?_
  rw [← (outs_next m c t (by omega)).2.2.2.2.2]
  exact (dw_at m c t k f).trans (upto_last _ _ t.isLt h1)

theorem final_dx : (dats m 0 c).arrAt 6 cfg0.N = (ins m c).DX := by
  refine (dats m 0 c).arrAt_eq_of_covers 6 _ (by decide +kernel) fun t _ y => ?_
  blk_simp
  rw [after0_6]
  idx_vars y
  have h0 := y0.isLt
  have ht : t.val < 16 := t.isLt
  have e : ((View.whole main_v2_0).slice (win0_6.rect t)).emb (ix2 y0 y1) = ix2 ⟨512 * t.val + y0.val, by omega⟩ y1 := by
    blk_ext [idx t]
  rw [e]
  exact dx_at m c t y0 y1

theorem final_dxb : (dats m 0 c).arrAt 7 cfg0.N = (ins m c).DXB := by
  refine (dats m 0 c).arrAt_eq_of_covers 7 _ (by decide +kernel) fun t _ y => ?_
  blk_simp
  rw [after0_7]
  idx_vars y
  have h0 := y0.isLt
  have ht : t.val < 16 := t.isLt
  have e : ((View.whole main_v2_1).slice (win0_7.rect t)).emb (ix2 y0 y1) = ix2 ⟨512 * t.val + y0.val, by omega⟩ y1 := by
    blk_ext [idx t]
  rw [e]
  exact dxb_at m c t y0 y1

theorem final_loss : (dats m 0 c).arrAt 8 cfg0.N = (ins m c).LOSS := by
  refine (dats m 0 c).arrAt_eq_of_covers 8 _ (by decide +kernel) fun t hf y => ?_
  have hl := (flush0_8 t).mp hf
  blk_simp
  rw [after0_8]
  idx_vars y
  exact (loss_at m c t y0 y1).trans ((upto_last (fun r => cH * (ins m c).lr r) _ t.isLt hl).trans (half_sum _).symm)

theorem final_dw : (dats m 0 c).arrAt 9 cfg0.N = (ins m c).DW := by
  refine (dats m 0 c).arrAt_eq_of_covers 9 _ (by decide +kernel) fun t hf y => ?_
  have hl := (flush0_9 t).mp hf
  blk_simp
  rw [after0_9]
  idx_vars y
  have e : ((View.whole main_v2_3).slice (win0_9.rect t)).emb (ix2 y0 y1) = ix2 y0 y1 := by
    blk_ext [idx t]
  rw [e]
  exact dwb_at m c t hl y0 y1

theorem final_dwp : (dats m 0 c).arrAt 10 cfg0.N = (ins m c).DWP := by
  refine (dats m 0 c).arrAt_eq_of_covers 10 _ (by decide +kernel) fun t hf y => ?_
  have hl := (flush0_10 t).mp hf
  blk_simp
  rw [after0_10]
  idx_vars y
  have e : ((View.whole main_v2_4).slice (win0_10.rect t)).emb (ix2 y0 y1) = ix2 y0 y1 := by
    blk_ext [idx t]
  rw [e]
  exact (dwp_at m c t y0 y1).trans (upto_last _ _ t.isLt hl)

theorem final_dg : (dats m 0 c).arrAt 11 cfg0.N = (ins m c).DG := by
  refine (dats m 0 c).arrAt_eq_of_covers 11 _ (by decide +kernel) fun t hf y => ?_
  have hl := (flush0_11 t).mp hf
  blk_simp
  rw [after0_11]
  idx_vars y
  obtain rfl : y0 = 0 := Subsingleton.elim _ _
  have e : ((View.whole main_v2_5).slice (win0_11.rect t)).emb (ix2 0 y1) = ix2 0 y1 := by
    blk_ext [idx t]
  rw [e]
  exact (dg_at m c t y1).trans (upto_last _ _ t.isLt hl)

end Cert.Kernel3Ideal.Ple
end
-- ==== Proof.PleD.lean ====
module

public import proofs.«01_k».proof.Proof.PleC

@[expose] public section

set_option maxRecDepth 16384

noncomputable section

/-! The embedding reference's results are the loss and its gradients. The gradient of the rows is so when the inputs are
real: the norm's gradient is then the same real number in the two orders. -/
namespace Cert.Reference3Ideal.Ple
open Cert.Reference3Ideal Cert.Reference3Ideal.Gen Cert.Reference3Ideal.Read
open Cert.KernelIdeal.Grad (rd rd_of_lt)
open Cert.ReferenceIdeal.Grad (rd_at IsReal IsReal.mul IsReal.sum isReal_of_cmp real_rd)
open Cert.Kernel3Ideal.Ple (Ins re re_of_lt cD cI cH cD_eq cI_eq cH_eq c2_eq cN_eq eps_eq)
open Idealize.ShloMosaic Idealize.ShloMosaic.TcCoe Idealize.SL.Sem

/-! ### Real numbers -/

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem sum_coe {n : ℕ} (a : Fin n → ℝ) : (∑ k, (a k : EReal)) = ((∑ k, a k : ℝ) : EReal) :=
  (map_sum (⟨⟨fun r : ℝ => (r : EReal), EReal.coe_zero⟩, EReal.coe_add⟩ : ℝ →+ EReal) a Finset.univ).symm

theorem real_one : IsReal 1 := ⟨1, EReal.coe_one.symm⟩

/-- the sigmoid of a real is real -/
theorem real_sigmoid {x : EReal} (hx : IsReal x) : IsReal (Ideal.div 1 (1 + Ideal.exp (0 - x))) := by
  obtain ⟨g, rfl⟩ := hx
  have hne : (1 : ℝ) + Real.exp (0 - g) ≠ 0 := by positivity
  refine ⟨1 / (1 + Real.exp (0 - g)), ?_⟩
  rw [← EReal.coe_zero, ← EReal.coe_sub, Ideal.exp_coe, ← EReal.coe_one, ← EReal.coe_add, Ideal.div_coe hne, EReal.coe_one, one_mul]

/-- The gradient through the norm, in the two orders: with `r` one over the root of `s`, they are the same real number. -/
theorem norm_grad (dy : EReal) (x g : Fin 1024 → EReal) (hx : ∀ k, IsReal (x k)) (hg : ∀ k, IsReal (g k)) (d : Fin 1024)
    (r s : ℝ) (hs : s ≠ 0) (hr : r * r * s = 1) :
    dy + g d * (r : EReal) + x d * Ideal.div ((∑ k, x k * g k) * (Ideal.ofBits FTy.f32 0xBF000000#32 * Ideal.div (r : EReal) (s : EReal))) cD
      + Ideal.div ((∑ k, x k * g k) * (Ideal.ofBits FTy.f32 0xBF000000#32 * Ideal.div (r : EReal) (s : EReal))) cD * x d
    = dy + (r : EReal) * (g d - x d * (r : EReal) * Ideal.div (∑ k, g k * (x k * (r : EReal))) cD) := by
  choose X hX using hx
  choose G hG using hg
  have h1 : (∑ k, x k * g k) = ((∑ k, X k * G k : ℝ) : EReal) := by
    rw [← sum_coe]; simp only [hX, hG, EReal.coe_mul]
  have h2 : (∑ k, g k * (x k * (r : EReal))) = ((r * ∑ k, X k * G k : ℝ) : EReal) := by
    rw [Finset.mul_sum, ← sum_coe]
    refine Finset.sum_congr rfl fun k _ => ?_
    rw [hX, hG]; norm_cast; ring
  rw [h1, h2, cD_eq, cN_eq, Ideal.div_coe hs, Ideal.div_coe (by norm_num), Ideal.div_coe (by norm_num), hX d, hG d]
  generalize (∑ k, X k * G k) = S
  rw [add_assoc, add_assoc]
  refine congrArg (dy + ·) ?_
  norm_cast
  have e : 1 / s = r * r := by field_simp; linarith
  rw [e]
  ring

variable (A : Ins)

/-- every argument array is real -/
structure Tame : Prop where
  x : ∀ i, IsReal (A.x i)
  e : ∀ i, IsReal (A.e i)
  t : ∀ i, IsReal (A.t i)
  g : ∀ i, IsReal (A.g i)
  wg : ∀ i, IsReal (A.wg i)
  wp : ∀ i, IsReal (A.wp i)

namespace Tame
variable {A} (T : Tame A)
include T

theorem rdx (r : ℕ) (d : Fin 1024) : IsReal (rd A.x r d) := real_rd A.x T.x r d

/-- the mean square is a positive real, and one over its root is real -/
theorem norm (r : ℕ) : ∃ a s : ℝ, A.rs r = (a : EReal) ∧ A.ms r = (s : EReal) ∧ s ≠ 0 ∧ a * a * s = 1 := by
  obtain ⟨ε, hε, e⟩ := eps_eq
  choose X hX using T.rdx r
  have hp : 0 < (∑ k, X k * X k) * (1 / 1024) + ε := by
    have : 0 ≤ ∑ k, X k * X k := Finset.sum_nonneg fun k _ => mul_self_nonneg (X k)
    positivity
  have hm : A.ms r = (((∑ k, X k * X k) * (1 / 1024) + ε : ℝ) : EReal) := by
    unfold Ins.ms
    rw [e, cD_eq, Ideal.div_coe (by norm_num)]
    simp only [hX, ← EReal.coe_mul, sum_coe, ← EReal.coe_add]
  generalize (∑ k, X k * X k) * (1 / 1024) + ε = s at hp hm
  refine ⟨(√s)⁻¹, s, ?_, hm, hp.ne', ?_⟩
  · unfold Ins.rs
    rw [hm, Ideal.rsqrt_coe, if_neg (not_lt.mpr hp.le), if_neg hp.ne']
  · have h := Real.mul_self_sqrt hp.le
    have h0 : √s ≠ 0 := (Real.sqrt_pos.mpr hp).ne'
    field_simp
    nlinarith [h]

theorem xh (r : ℕ) (d : Fin 1024) : IsReal (A.xh r d) := by
  obtain ⟨a, s, h, _⟩ := T.norm r
  exact (T.rdx r d).mul ⟨a, h⟩

theorem pg (r : ℕ) (f : Fin 1024) : IsReal (A.pg r f) :=
  real_sigmoid (IsReal.sum _ fun k => ((T.xh r k).mul (T.g _)).mul (T.wg _))

theorem re (r : ℕ) (k : Fin 256) : IsReal (re A.e r k) := by
  unfold Cert.Kernel3Ideal.Ple.re
  split
  · exact T.e _
  · exact ⟨0, rfl⟩

theorem pp (r : ℕ) (f : Fin 1024) : IsReal (A.pp r f) := IsReal.sum _ fun k => (T.re r k).mul (T.wp _)

theorem dy (r : ℕ) (f : Fin 1024) : IsReal (A.dy r f) :=
  (IsReal.sub (IsReal.add (T.rdx r f) ((T.pg r f).mul (T.pp r f))) (real_rd A.t T.t r f)).mul ⟨_, cI_eq⟩

theorem gd (r : ℕ) (d : Fin 1024) : IsReal (A.gd r d) :=
  (IsReal.sum _ fun f => ((((T.dy r f).mul (T.pp r f)).mul (T.pg r f)).mul (IsReal.sub real_one (T.pg r f))).mul (T.wg _)).mul (T.g _)

/-- the gradient of the rows, in the reference's order -/
theorem dx (r : ℕ) (d : Fin 1024) :
    A.dy r d + A.gd r d * A.rs r
      + rd A.x r d * Ideal.div ((∑ k, rd A.x r k * A.gd r k) * (Ideal.ofBits FTy.f32 0xBF000000#32 * Ideal.div (A.rs r) (A.ms r))) cD
      + Ideal.div ((∑ k, rd A.x r k * A.gd r k) * (Ideal.ofBits FTy.f32 0xBF000000#32 * Ideal.div (A.rs r) (A.ms r))) cD * rd A.x r d
    = A.dx r d := by
  obtain ⟨a, s, ha, hs, h0, h1⟩ := T.norm r
  unfold Ins.dx Ins.xh
  rw [ha, hs]
  exact norm_grad (A.dy r d) (rd A.x r) (A.gd r) (T.rdx r) (T.gd r) d a s h0 h1

end Tame

/-! ### The reference, entry by entry -/

theorem msR (r : Fin 8192) : val_main_v6 (F := Ideal) A.x (ix2 r 0) = A.ms r.val := by
  unfold Ins.ms
  simp only [rd_at]
  pointwise [val_main_v6, val_main_v5, val_main_cst_1, val_main_v4, val_main_v3, val_main_cst_0, val_main_v2, val_main_v1, val_main_cst, val_main_v0]
  rfl

theorem rsR (r : Fin 8192) : val_main_v7 (F := Ideal) A.x (ix2 r 0) = A.rs r.val := by
  unfold Ins.rs
  rw [← msR]
  pointwise [val_main_v7]

theorem nR (r : Fin 8192) : val_main_v10 (F := Ideal) A.x (ix2 r 0)
    = Ideal.ofBits FTy.f32 0xBF000000#32 * Ideal.div (A.rs r.val) (A.ms r.val) := by
  pointwise [val_main_v10, val_main_v9, val_main_cst_2, val_main_v8]
  rw [rsR, msR]

theorem xhR (r : Fin 8192) (d : Fin 1024) : val_main_v12 (F := Ideal) A.x (ix2 r d) = A.xh r.val d := by
  unfold Ins.xh
  pointwise [val_main_v12, val_main_v11]
  rw [rsR, rd_at]

theorem hR (r : Fin 8192) (d : Fin 1024) : val_main_v14 (F := Ideal) A.x A.g (ix2 r d) = A.h r.val d := by
  unfold Ins.h
  pointwise [val_main_v14, val_main_v13]
  rw [xhR]

theorem preR (r : Fin 8192) (f : Fin 1024) : val_main_v15 (F := Ideal) A.x A.g A.wg (ix2 r f) = A.pre r.val f := by
  unfold Ins.pre
  pointwise [val_main_v15]
  simp only [hR]

theorem pgR (r : Fin 8192) (f : Fin 1024) : val_main_v21 (F := Ideal) A.x A.g A.wg (ix2 r f) = A.pg r.val f := by
  unfold Ins.pg
  pointwise [val_main_v21, val_main_v20, val_main_cst_4, val_main_v19, val_main_v18, val_main_cst_3, val_main_v17, val_main_v16]
  rw [preR, zero_sub]

theorem ppR (r : Fin 8192) (f : Fin 1024) : val_main_v25 (F := Ideal) A.e A.wp (ix2 r f) = A.pp r.val f := by
  unfold Ins.pp
  pointwise [val_main_v25]
  refine Finset.sum_congr rfl fun k _ => ?_
  rw [re_of_lt _ _ _ r.isLt]

theorem errR (r : Fin 8192) (f : Fin 1024) :
    val_main_v28 (F := Ideal) A.x A.e A.t A.g A.wg A.wp (ix2 r f) = A.err r.val f := by
  unfold Ins.err
  pointwise [val_main_v28, val_main_v27, val_main_v26]
  rw [pgR, ppR, rd_at, rd_at]

/-- the two orders of the factor of the error -/
theorem dy_order (u : EReal) :
    Ideal.div (cH * 1) cD * (Ideal.ofBits FTy.f32 0x40000000#32 * u) = u * cI := by
  rw [cH_eq, cD_eq, c2_eq, cI_eq, Ideal.div_coe (by norm_num), mul_one, ← mul_assoc, mul_comm u]
  refine congrArg (· * u) ?_
  norm_cast
  norm_num

theorem dyR (r : Fin 8192) (f : Fin 1024) :
    val_main_v42 (F := Ideal) A.x A.e A.t A.g A.wg A.wp (ix2 r f) = A.dy r.val f := by
  unfold Ins.dy
  rw [← dy_order, ← errR]
  pointwise [val_main_v42, val_main_v41, val_main_v40, val_main_v39, val_main_cst_13, val_main_v38, val_main_v37, val_main_cst_12, val_main_cst_11, val_main_v31, val_main_v30, val_main_cst_6]
  rfl

theorem dpreR (r : Fin 8192) (f : Fin 1024) :
    val_main_v47 (F := Ideal) A.x A.e A.t A.g A.wg A.wp (ix2 r f) = A.dpre r.val f := by
  unfold Ins.dpre
  pointwise [val_main_v47, val_main_v44, val_main_v24, val_main_v23, val_main_v22, val_main_cst_5]
  rw [dyR, ppR, pgR, mul_assoc (A.dy _ _ * _)]

theorem dhR (r : Fin 8192) (d : Fin 1024) :
    val_main_v50 (F := Ideal) A.x A.e A.t A.g A.wg A.wp (ix2 r d) = A.dh r.val d := by
  unfold Ins.dh
  pointwise [val_main_v50]
  simp only [dpreR]

theorem gdR (r : Fin 8192) (d : Fin 1024) :
    val_main_v55 (F := Ideal) A.x A.e A.t A.g A.wg A.wp (ix2 r d) = A.gd r.val d := by
  unfold Ins.gd
  pointwise [val_main_v55, val_main_v54]
  rw [dhR]

theorem uR (r : Fin 8192) : val_main_v64 (F := Ideal) A.x A.e A.t A.g A.wg A.wp (ix2 r 0)
    = Ideal.div ((∑ k, rd A.x r.val k * A.gd r.val k) * (Ideal.ofBits FTy.f32 0xBF000000#32 * Ideal.div (A.rs r.val) (A.ms r.val))) cD := by
  simp only [rd_at]
  pointwise [val_main_v64, val_main_v63, val_main_cst_16, val_main_v62, val_main_v58, val_main_v57, val_main_cst_15, val_main_v56]
  simp only [nR, gdR]
  rfl

theorem dxR (T : Tame A) (r : Fin 8192) (d : Fin 1024) :
    val_main_v70 (F := Ideal) A.x A.e A.t A.g A.wg A.wp (ix2 r d) = A.dx r.val d := by
  rw [← T.dx]
  pointwise [val_main_v70, val_main_v69, val_main_v68, val_main_v67, val_main_v66, val_main_v65, val_main_cst_17, val_main_v61, val_main_v60, val_main_v59]
  simp only [Fin.sum_univ_one, uR, dyR, gdR, rsR, rd_at]

theorem res_dx (T : Tame A) : val_main_v70 (F := Ideal) A.x A.e A.t A.g A.wg A.wp = A.DX := by
  funext i
  idx_vars i
  exact dxR A T i0 i1

theorem res_dxb (T : Tame A) : val_main_v71 (F := Ideal) A.x A.e A.t A.g A.wg A.wp = A.DXB := by
  funext i
  idx_vars i
  refine Eq.trans ?_ (dxR A T i0 i1)
  pointwise [val_main_v71]

theorem res_loss : val_main_v72 (F := Ideal) A.x A.e A.t A.g A.wg A.wp = A.LOSS := by
  funext i
  idx_vars i
  show _ = cH * ∑ r : Fin 8192, A.lr r.val
  unfold Ins.lr
  pointwise [val_main_v72, val_main_v36, val_main_cst_10, val_main_v35, val_main_cst_9, val_main_v34, val_main_v33, val_main_cst_8, val_main_v32, val_main_cst_7, val_main_v29]
  simp only [errR]
  rfl

theorem res_dw : val_main_v73 (F := Ideal) A.x A.e A.t A.g A.wg A.wp = A.DW := by
  funext i
  idx_vars i
  show _ = ∑ r : Fin 8192, A.h r.val i0 * A.dpre r.val i1
  pointwise [val_main_v73, val_main_v49, val_main_v48]
  simp only [dpreR, hR]
  exact Finset.sum_congr rfl fun r _ => mul_comm _ _

theorem res_dwp : val_main_v46 (F := Ideal) A.x A.e A.t A.g A.wg A.wp = A.DWP := by
  funext i
  idx_vars i
  show _ = ∑ r : Fin 8192, re A.e r.val i0 * (A.dy r.val i1 * A.pg r.val i1)
  pointwise [val_main_v46, val_main_v45, val_main_v43]
  simp only [dyR, pgR]
  refine Finset.sum_congr rfl fun r _ => ?_
  rw [re_of_lt _ _ _ r.isLt, mul_comm, mul_comm (A.pg _ _)]

theorem res_dg : val_main_v53 (F := Ideal) A.x A.e A.t A.g A.wg A.wp = A.DG := by
  funext i
  idx_vars i
  obtain rfl : i0 = 0 := Subsingleton.elim _ _
  show _ = ∑ r : Fin 8192, A.dh r.val i1 * A.xh r.val i1
  pointwise [val_main_v53, val_main_v52, val_main_cst_14, val_main_v51]
  simp only [dhR, xhR]
  exact Finset.sum_congr rfl fun r _ => mul_comm _ _

/-! ### The precondition -/

/-- the side conditions the precondition's operations take -/
theorem pre_facts : Cert.Pre_finite3.Facts := ⟨by decide, by decide, by decide, by decide, by decide⟩

attribute [local instance] pre_facts

theorem tame_of_pre
    (h0 : (Cert.Pre_finite3.fn (F := Ideal) A.x A.e A.t A.g A.wg A.wp).1 = (fun _ => 1#1))
    (h1 : (Cert.Pre_finite3.fn (F := Ideal) A.x A.e A.t A.g A.wg A.wp).2.1 = (fun _ => 1#1))
    (h2 : (Cert.Pre_finite3.fn (F := Ideal) A.x A.e A.t A.g A.wg A.wp).2.2.1 = (fun _ => 1#1))
    (h3 : (Cert.Pre_finite3.fn (F := Ideal) A.x A.e A.t A.g A.wg A.wp).2.2.2.1 = (fun _ => 1#1))
    (h4 : (Cert.Pre_finite3.fn (F := Ideal) A.x A.e A.t A.g A.wg A.wp).2.2.2.2.1 = (fun _ => 1#1))
    (h5 : (Cert.Pre_finite3.fn (F := Ideal) A.x A.e A.t A.g A.wg A.wp).2.2.2.2.2 = (fun _ => 1#1)) : Tame A := by
  refine ⟨fun i => isReal_of_cmp _ ?_, fun i => isReal_of_cmp _ ?_, fun i => isReal_of_cmp _ ?_, fun i => isReal_of_cmp _ ?_,
    fun i => isReal_of_cmp _ ?_, fun i => isReal_of_cmp _ ?_⟩
  · refine Eq.trans ?_ (congrFun h0 i)
    idx_vars i
    pointwise [Cert.Pre_finite3.fn]
  · refine Eq.trans ?_ (congrFun h1 i)
    idx_vars i
    pointwise [Cert.Pre_finite3.fn]
  · refine Eq.trans ?_ (congrFun h2 i)
    idx_vars i
    pointwise [Cert.Pre_finite3.fn]
  · refine Eq.trans ?_ (congrFun h3 i)
    idx_vars i
    pointwise [Cert.Pre_finite3.fn]
  · refine Eq.trans ?_ (congrFun h4 i)
    idx_vars i
    pointwise [Cert.Pre_finite3.fn]
  · refine Eq.trans ?_ (congrFun h5 i)
    idx_vars i
    pointwise [Cert.Pre_finite3.fn]

end Cert.Reference3Ideal.Ple
end
-- ==== Proof.InP.lean ====
module

public import proofs.«01_k».proof.Proof.PleD
public import proofs.«01_k».proof.Kernel4Ideal

@[expose] public section

set_option maxRecDepth 16384

noncomputable section

/-! The backward pass of the input projection, entry by entry, over the extended reals: the norm of the heads, its
gradient in the two orders, and the gradients of the projection. -/
namespace Cert.Kernel4Ideal.Inp
open Cert.Kernel4Ideal
open Idealize.ShloMosaic Idealize.ShloMosaic.TcCoe Idealize.SL.Sem
open Cert.KernelIdeal.Grad (rd rd_of_lt rd_of_ge)
open Cert.ReferenceIdeal.Grad (IsReal IsReal.mul IsReal.sum real_rd)
open Cert.Reference3Ideal.Ple (IsReal.add IsReal.sub sum_coe norm_grad)
open Cert.Kernel3Ideal.Ple (cD cD_eq cN_eq eps_eq)

/-! ### The norm of a row's heads -/

/-- column `c` of the head of column `j` -/
def hc (j : Fin 512) (c : Fin 64) : Fin 512 := ⟨64 * (j.val / 64) + c.val, by omega⟩

theorem hc_hc (j : Fin 512) (c c' : Fin 64) : hc (hc j c) c' = hc j c' := by
  unfold hc
  ext
  dsimp only
  omega

/-- 1/64 -/
def cS : EReal := Ideal.ofBits FTy.f32 0x3C800000#32
/-- the small constant of the norm -/
def cE : EReal := Ideal.ofBits FTy.f32 0x358637BD#32
/-- the number of columns of a head, 64 -/
def cC : EReal := Ideal.ofBits FTy.f32 0x42800000#32

theorem cS_eq : cS = ((1 / 64 : ℝ) : EReal) := by
  simp [cS, Ideal.ofBits, Ideal.ieee]
  rw [← EReal.coe_mul]
  norm_num
theorem cC_eq : cC = ((64 : ℝ) : EReal) := by
  simp [cC, Ideal.ofBits, Ideal.ieee]
  rw [← EReal.coe_mul]
  norm_num

section
variable (z d s : Fin 512 → EReal)
/-- the mean square of the head of column `j`, and the small constant -/
def hv (j : Fin 512) : EReal := (∑ c : Fin 64, z (hc j c) * z (hc j c)) * cS + cE
/-- one over its root -/
def hr (j : Fin 512) : EReal := Ideal.rsqrt (hv z j)
/-- the columns over the root mean square of their heads -/
def hn (j : Fin 512) : EReal := z j * hr z j
/-- the gradient of the columns, `d` the cotangent and `s` the scale -/
def hg (j : Fin 512) : EReal :=
  hr z j * (d j * s j - hn z j * ((∑ c : Fin 64, d (hc j c) * s (hc j c) * hn z (hc j c)) * cS))

theorem hv_hc (j : Fin 512) (c : Fin 64) : hv z (hc j c) = hv z j := by
  unfold hv
  simp only [hc_hc]

theorem hr_hc (j : Fin 512) (c : Fin 64) : hr z (hc j c) = hr z j := by
  unfold hr
  rw [hv_hc]

variable {z d s}

/-- the mean square is a positive real, and one over its root is real -/
theorem head_norm (hz : ∀ j, IsReal (z j)) (j : Fin 512) :
    ∃ a v : ℝ, hr z j = (a : EReal) ∧ hv z j = (v : EReal) ∧ v ≠ 0 ∧ a * a * v = 1 := by
  obtain ⟨ε, hε, e⟩ := eps_eq
  choose X hX using hz
  have hp : 0 < (∑ c : Fin 64, X (hc j c) * X (hc j c)) * (1 / 64) + ε := by
    have : 0 ≤ ∑ c : Fin 64, X (hc j c) * X (hc j c) := Finset.sum_nonneg fun k _ => mul_self_nonneg _
    positivity
  have hm : hv z j = (((∑ c : Fin 64, X (hc j c) * X (hc j c)) * (1 / 64) + ε : ℝ) : EReal) := by
    unfold hv cE
    rw [e, cS_eq]
    simp only [hX, ← EReal.coe_mul, sum_coe, ← EReal.coe_add]
  generalize (∑ c : Fin 64, X (hc j c) * X (hc j c)) * (1 / 64) + ε = v at hp hm
  refine ⟨(√v)⁻¹, v, ?_, hm, hp.ne', ?_⟩
  · unfold hr
    rw [hm, Ideal.rsqrt_coe, if_neg (not_lt.mpr hp.le), if_neg hp.ne']
  · have h := Real.mul_self_sqrt hp.le
    have h0 : √v ≠ 0 := (Real.sqrt_pos.mpr hp).ne'
    field_simp
    nlinarith [h]

theorem real_hn (hz : ∀ j, IsReal (z j)) (j : Fin 512) : IsReal (hn z j) := by
  obtain ⟨a, _, h, _⟩ := head_norm hz j
  exact (hz j).mul ⟨a, h⟩

theorem real_hg (hz : ∀ j, IsReal (z j)) (hd : ∀ j, IsReal (d j)) (hs : ∀ j, IsReal (s j)) (j : Fin 512) :
    IsReal (hg z d s j) := by
  obtain ⟨a, _, h, _⟩ := head_norm hz j
  exact IsReal.mul ⟨a, h⟩ (IsReal.sub ((hd j).mul (hs j)) ((real_hn hz j).mul
    (IsReal.mul (IsReal.sum _ fun c => ((hd _).mul (hs _)).mul (real_hn hz _)) ⟨_, cS_eq⟩)))

/-- the gradient of the columns, in the reference's order -/
theorem head_grad (hz : ∀ j, IsReal (z j)) (hd : ∀ j, IsReal (d j)) (hs : ∀ j, IsReal (s j)) (j : Fin 512) :
    d j * s j * hr z j
      + z j * Ideal.div ((∑ c : Fin 64, z (hc j c) * (d (hc j c) * s (hc j c)))
          * (Ideal.ofBits FTy.f32 0xBF000000#32 * Ideal.div (hr z j) (hv z j))) cC
      + Ideal.div ((∑ c : Fin 64, z (hc j c) * (d (hc j c) * s (hc j c)))
          * (Ideal.ofBits FTy.f32 0xBF000000#32 * Ideal.div (hr z j) (hv z j))) cC * z j
    = hg z d s j := by
  obtain ⟨a, v, ha, hv', h0, h1⟩ := head_norm hz j
  have hn' : ∀ c, hn z (hc j c) = z (hc j c) * (a : EReal) := fun c => by rw [hn, hr_hc, ha]
  unfold hg
  simp only [hn']
  rw [hn, ha, hv']
  choose X hX using hz
  choose D hD using hd
  choose T hT using hs
  have h1' : (∑ c : Fin 64, z (hc j c) * (d (hc j c) * s (hc j c)))
      = ((∑ c : Fin 64, X (hc j c) * (D (hc j c) * T (hc j c)) : ℝ) : EReal) := by
    rw [← sum_coe]; simp only [hX, hD, hT, EReal.coe_mul]
  have h2' : (∑ c : Fin 64, d (hc j c) * s (hc j c) * (z (hc j c) * (a : EReal)))
      = ((a * ∑ c : Fin 64, X (hc j c) * (D (hc j c) * T (hc j c)) : ℝ) : EReal) := by
    rw [Finset.mul_sum, ← sum_coe]
    refine Finset.sum_congr rfl fun k _ => ?_
    rw [hX, hD, hT]; norm_cast; ring
  rw [h1', h2', cC_eq, cS_eq, cN_eq, Ideal.div_coe h0, Ideal.div_coe (by norm_num), hX j, hD j, hT j]
  generalize (∑ c : Fin 64, X (hc j c) * (D (hc j c) * T (hc j c))) = S
  norm_cast
  have e : 1 / v = a * a := by field_simp; linarith
  rw [e]
  ring
end

/-- A row of real numbers against the table that marks the columns of one head, in two parts, is the sum over the head. -/
theorem seg_sum (v : Fin 256 → EReal) (hv : ∀ i, IsReal (v i)) (B : Fin 256 → Fin 256 → EReal)
    (hB : ∀ i j, B i j = if i.val / 64 = j.val / 64 then 1 else 0) (j : Fin 256) :
    (∑ i, v i * B i j) + (∑ i, (v i - v i) * B i j) = ∑ c : Fin 64, v ⟨64 * (j.val / 64) + c.val, by omega⟩ := by
  have h0 : ∀ i, v i - v i = 0 := fun i => by
    obtain ⟨a, h⟩ := hv i
    rw [h, ← EReal.coe_sub, sub_self, EReal.coe_zero]
  simp only [h0, zero_mul, Finset.sum_const_zero, add_zero, hB]
  have hq : j.val / 64 < 4 := by omega
  rw [← (finProdFinEquiv (m := 4) (n := 64)).sum_comp, Fintype.sum_prod_type]
  have hval : ∀ (a : Fin 4) (b : Fin 64), (finProdFinEquiv (a, b)).val / 64 = a.val := fun a b => by
    have hb := b.isLt
    rw [finProdFinEquiv_apply_val]
    show (b.val + 64 * a.val) / 64 = a.val
    omega
  simp only [hval]
  rw [Finset.sum_eq_single (⟨j.val / 64, hq⟩ : Fin 4)]
  · refine Finset.sum_congr rfl fun c _ => ?_
    rw [if_pos rfl, mul_one]
    refine congrArg v (Fin.ext ?_)
    rw [finProdFinEquiv_apply_val]
    exact Nat.add_comm _ _
  · intro a _ ha
    refine Finset.sum_eq_zero fun c _ => ?_
    rw [if_neg (fun h => ha (Fin.ext h)), mul_zero]
  · intro h
    exact absurd (Finset.mem_univ _) h

/-! ### Joined columns -/

/-- four blocks of columns joined, at an entry -/
theorem cat4 {α : Type} {R : ℕ} (a : (⟨2, ![R, 1536]⟩ : Shape).Idx → α) (b c d : (⟨2, ![R, 512]⟩ : Shape).Idx → α)
    (h : Shape.Concatenates [⟨2, ![R, 1536]⟩, ⟨2, ![R, 512]⟩, ⟨2, ![R, 512]⟩, ⟨2, ![R, 512]⟩] (⟨2, ![R, 3072]⟩ : Shape) 1)
    (r : Fin R) (f : Fin 3072) :
    concatenate (⟨2, ![R, 3072]⟩ : Shape) 1 [⟨⟨2, ![R, 1536]⟩, a⟩, ⟨⟨2, ![R, 512]⟩, b⟩, ⟨⟨2, ![R, 512]⟩, c⟩, ⟨⟨2, ![R, 512]⟩, d⟩] h (ix2 r f)
    = if h1 : f.val < 1536 then a (ix2 r ⟨f.val, h1⟩)
      else if h2 : f.val < 2048 then b (ix2 r ⟨f.val - 1536, by omega⟩)
      else if h3 : f.val < 2560 then c (ix2 r ⟨f.val - 2048, by omega⟩)
      else d (ix2 r ⟨f.val - 2560, by omega⟩) := by
  have hf := f.isLt
  split
  case isTrue h1 =>
    refine concatenate_apply_piece (t := (⟨2, ![R, 3072]⟩ : Shape)) 1
      ([⟨⟨2, ![R, 1536]⟩, a⟩, ⟨⟨2, ![R, 512]⟩, b⟩, ⟨⟨2, ![R, 512]⟩, c⟩, ⟨⟨2, ![R, 512]⟩, d⟩] : List ((s : Shape) × (s.Idx → α)))
      h (ix2 r f) 0 (show 0 < 4 by decide) ⟨2, ![R, 1536]⟩ a rfl rfl 0 rfl
      (ix2 r ⟨f.val, h1⟩) ?_ ?_
    · intro b hb
      match b with
      | ⟨0, _⟩ => rfl
      | ⟨1, _⟩ => exact absurd rfl hb
    · exact Nat.zero_add _
  case isFalse h1 =>
  split
  case isTrue h2 =>
    refine concatenate_apply_piece (t := (⟨2, ![R, 3072]⟩ : Shape)) 1
      ([⟨⟨2, ![R, 1536]⟩, a⟩, ⟨⟨2, ![R, 512]⟩, b⟩, ⟨⟨2, ![R, 512]⟩, c⟩, ⟨⟨2, ![R, 512]⟩, d⟩] : List ((s : Shape) × (s.Idx → α)))
      h (ix2 r f) 1 (show 1 < 4 by decide) ⟨2, ![R, 512]⟩ b rfl rfl 1536 rfl
      (ix2 r ⟨f.val - 1536, by omega⟩) ?_ ?_
    · intro b hb
      match b with
      | ⟨0, _⟩ => rfl
      | ⟨1, _⟩ => exact absurd rfl hb
    · show 1536 + (f.val - 1536) = f.val
      omega
  case isFalse h2 =>
  split
  case isTrue h3 =>
    refine concatenate_apply_piece (t := (⟨2, ![R, 3072]⟩ : Shape)) 1
      ([⟨⟨2, ![R, 1536]⟩, a⟩, ⟨⟨2, ![R, 512]⟩, b⟩, ⟨⟨2, ![R, 512]⟩, c⟩, ⟨⟨2, ![R, 512]⟩, d⟩] : List ((s : Shape) × (s.Idx → α)))
      h (ix2 r f) 2 (show 2 < 4 by decide) ⟨2, ![R, 512]⟩ c rfl rfl 2048 rfl
      (ix2 r ⟨f.val - 2048, by omega⟩) ?_ ?_
    · intro b hb
      match b with
      | ⟨0, _⟩ => rfl
      | ⟨1, _⟩ => exact absurd rfl hb
    · show 2048 + (f.val - 2048) = f.val
      omega
  case isFalse h3 =>
    refine concatenate_apply_piece (t := (⟨2, ![R, 3072]⟩ : Shape)) 1
      ([⟨⟨2, ![R, 1536]⟩, a⟩, ⟨⟨2, ![R, 512]⟩, b⟩, ⟨⟨2, ![R, 512]⟩, c⟩, ⟨⟨2, ![R, 512]⟩, d⟩] : List ((s : Shape) × (s.Idx → α)))
      h (ix2 r f) 3 (show 3 < 4 by decide) ⟨2, ![R, 512]⟩ d rfl rfl 2560 rfl
      (ix2 r ⟨f.val - 2560, by omega⟩) ?_ ?_
    · intro b hb
      match b with
      | ⟨0, _⟩ => rfl
      | ⟨1, _⟩ => exact absurd rfl hb
    · show 2560 + (f.val - 2560) = f.val
      omega

/-- two halves joined, at an entry -/
theorem cat2 {α : Type} {R : ℕ} (a b : (⟨2, ![R, 256]⟩ : Shape).Idx → α)
    (h : Shape.Concatenates [⟨2, ![R, 256]⟩, ⟨2, ![R, 256]⟩] (⟨2, ![R, 512]⟩ : Shape) 1) (r : Fin R) (f : Fin 512) :
    concatenate (⟨2, ![R, 512]⟩ : Shape) 1 [⟨⟨2, ![R, 256]⟩, a⟩, ⟨⟨2, ![R, 256]⟩, b⟩] h (ix2 r f)
    = if h1 : f.val < 256 then a (ix2 r ⟨f.val, h1⟩) else b (ix2 r ⟨f.val - 256, by omega⟩) := by
  have hf := f.isLt
  split
  case isTrue h1 =>
    refine concatenate_apply_piece (t := (⟨2, ![R, 512]⟩ : Shape)) 1
      ([⟨⟨2, ![R, 256]⟩, a⟩, ⟨⟨2, ![R, 256]⟩, b⟩] : List ((s : Shape) × (s.Idx → α)))
      h (ix2 r f) 0 (show 0 < 2 by decide) ⟨2, ![R, 256]⟩ a rfl rfl 0 rfl
      (ix2 r ⟨f.val, h1⟩) ?_ ?_
    · intro b hb
      match b with
      | ⟨0, _⟩ => rfl
      | ⟨1, _⟩ => exact absurd rfl hb
    · exact Nat.zero_add _
  case isFalse h1 =>
    refine concatenate_apply_piece (t := (⟨2, ![R, 512]⟩ : Shape)) 1
      ([⟨⟨2, ![R, 256]⟩, a⟩, ⟨⟨2, ![R, 256]⟩, b⟩] : List ((s : Shape) × (s.Idx → α)))
      h (ix2 r f) 1 (show 1 < 2 by decide) ⟨2, ![R, 256]⟩ b rfl rfl 256 rfl
      (ix2 r ⟨f.val - 256, by omega⟩) ?_ ?_
    · intro b hb
      match b with
      | ⟨0, _⟩ => rfl
      | ⟨1, _⟩ => exact absurd rfl hb
    · show 256 + (f.val - 256) = f.val
      omega

/-! ### The arrays -/

/-- row `r` of an array of 512 columns; rows past the end are 0 -/
def rq (x : FVec Ideal S8192x512 .f32) (r : ℕ) (k : Fin 512) : EReal :=
  if h : r < 8192 then x (ix2 ⟨r, h⟩ k) else 0
theorem rq_of_lt (x : FVec Ideal S8192x512 .f32) (r : ℕ) (k : Fin 512) (h : r < 8192) : rq x r k = x (ix2 ⟨r, h⟩ k) :=
  dif_pos h
theorem rq_at (x : FVec Ideal S8192x512 .f32) (r : Fin 8192) (k : Fin 512) : rq x r.val k = x (ix2 r k) :=
  rq_of_lt _ _ _ r.isLt
/-- row `r` of an array of 1536 columns; rows past the end are 0 -/
def rc (x : FVec Ideal S8192x1536 .f32) (r : ℕ) (k : Fin 1536) : EReal :=
  if h : r < 8192 then x (ix2 ⟨r, h⟩ k) else 0
theorem rc_of_lt (x : FVec Ideal S8192x1536 .f32) (r : ℕ) (k : Fin 1536) (h : r < 8192) : rc x r k = x (ix2 ⟨r, h⟩ k) :=
  dif_pos h
theorem rc_at (x : FVec Ideal S8192x1536 .f32) (r : Fin 8192) (k : Fin 1536) : rc x r.val k = x (ix2 r k) :=
  rc_of_lt _ _ _ r.isLt

/-- the ten argument arrays -/
structure Ins where
  /-- the rows -/
  x : FVec Ideal S8192x1024 .f32
  /-- the scale of the norm -/
  g : FVec Ideal S1x1024 .f32
  /-- the weight -/
  w : FVec Ideal S1024x3072 .f32
  /-- the scale of the queries -/
  qg : FVec Ideal S1x512 .f32
  /-- the scale of the keys -/
  kg : FVec Ideal S1x512 .f32
  /-- the cotangent of the rows from the layer's own path -/
  dx1 : FVec Ideal S8192x1024 .f32
  /-- the cotangent of the columns of the convolution -/
  dzc : FVec Ideal S8192x1536 .f32
  /-- the cotangent of the normed queries -/
  dq : FVec Ideal S8192x512 .f32
  /-- the cotangent of the normed keys -/
  dk : FVec Ideal S8192x512 .f32
  /-- the cotangent of the values -/
  dv : FVec Ideal S8192x512 .f32

namespace Ins
variable (A : Ins)
/-- the mean square of a row, and the small constant of the norm -/
def ms (r : ℕ) : EReal := Ideal.div (∑ k : Fin 1024, rd A.x r k * rd A.x r k) cD + cE
/-- one over the root mean square -/
def rs (r : ℕ) : EReal := Ideal.rsqrt (A.ms r)
/-- the rows over their root mean square -/
def xh (r : ℕ) (d : Fin 1024) : EReal := rd A.x r d * A.rs r
/-- the normed rows -/
def h (r : ℕ) (d : Fin 1024) : EReal := A.xh r d * A.g (ix2 0 d)
/-- the projected rows -/
def z (r : ℕ) (f : Fin 3072) : EReal := ∑ k : Fin 1024, A.h r k * A.w (ix2 k f)
/-- the projected queries -/
def zq (r : ℕ) (j : Fin 512) : EReal := A.z r ⟨1536 + j.val, by omega⟩
/-- the projected keys -/
def zk (r : ℕ) (j : Fin 512) : EReal := A.z r ⟨2048 + j.val, by omega⟩
/-- the gradient of the projected queries -/
def gq (r : ℕ) (j : Fin 512) : EReal := hg (A.zq r) (rq A.dq r) (fun j => A.qg (ix2 0 j)) j
/-- the gradient of the projected keys -/
def gk (r : ℕ) (j : Fin 512) : EReal := hg (A.zk r) (rq A.dk r) (fun j => A.kg (ix2 0 j)) j
/-- the gradient of the projected rows -/
def dz (r : ℕ) (f : Fin 3072) : EReal :=
  if h1 : f.val < 1536 then rc A.dzc r ⟨f.val, h1⟩
  else if h2 : f.val < 2048 then A.gq r ⟨f.val - 1536, by omega⟩
  else if h3 : f.val < 2560 then A.gk r ⟨f.val - 2048, by omega⟩
  else rq A.dv r ⟨f.val - 2560, by omega⟩
/-- the gradient of the normed rows -/
def dh (r : ℕ) (d : Fin 1024) : EReal := ∑ f : Fin 3072, A.dz r f * A.w (ix2 d f)
/-- … times the scale -/
def gd (r : ℕ) (d : Fin 1024) : EReal := A.dh r d * A.g (ix2 0 d)
/-- the gradient of the rows -/
def dx (r : ℕ) (d : Fin 1024) : EReal :=
  rd A.dx1 r d + A.rs r * (A.gd r d - A.xh r d * Ideal.div (∑ k : Fin 1024, A.gd r k * A.xh r k) cD)

/-- the gradient of the weight -/
def dw (k : Fin 1024) (f : Fin 3072) : EReal := ∑ r : Fin 8192, A.h r.val k * A.dz r.val f

/-- the gradient of the rows -/
def DX : FVec Ideal S8192x1024 .f32 := fun i => A.dx (i 0).val (i 1)
/-- the gradient of the weight, in eight blocks of columns -/
def DW : FVec Ideal S8x1024x384 .bf16 := fun i =>
  A.dw (i 1) ⟨384 * (i 0).val + (i 2).val, by
    have h0 : (i 0).val < 8 := (i 0).isLt
    have h2 : (i 2).val < 384 := (i 2).isLt
    omega⟩
/-- the gradient of the scale -/
def DG : FVec Ideal S1x1024 .f32 := fun i => ∑ r : Fin 8192, A.dh r.val (i 1) * A.xh r.val (i 1)
/-- the gradient of the queries' scale -/
def DQG : FVec Ideal S1x512 .f32 := fun i => ∑ r : Fin 8192, rq A.dq r.val (i 1) * hn (A.zq r.val) (i 1)
/-- the gradient of the keys' scale -/
def DKG : FVec Ideal S1x512 .f32 := fun i => ∑ r : Fin 8192, rq A.dk r.val (i 1) * hn (A.zk r.val) (i 1)
end Ins

variable (A : Ins)

/-- every argument array but the residual's gradient is real -/
structure Tame : Prop where
  x : ∀ i, IsReal (A.x i)
  g : ∀ i, IsReal (A.g i)
  w : ∀ i, IsReal (A.w i)
  qg : ∀ i, IsReal (A.qg i)
  kg : ∀ i, IsReal (A.kg i)
  dzc : ∀ i, IsReal (A.dzc i)
  dq : ∀ i, IsReal (A.dq i)
  dk : ∀ i, IsReal (A.dk i)
  dv : ∀ i, IsReal (A.dv i)

theorem real_rq (x : FVec Ideal S8192x512 .f32) (hx : ∀ i, IsReal (x i)) (r : ℕ) (k : Fin 512) : IsReal (rq x r k) := by
  unfold rq
  split
  · exact hx _
  · exact ⟨0, rfl⟩
theorem real_rc (x : FVec Ideal S8192x1536 .f32) (hx : ∀ i, IsReal (x i)) (r : ℕ) (k : Fin 1536) : IsReal (rc x r k) := by
  unfold rc
  split
  · exact hx _
  · exact ⟨0, rfl⟩

namespace Tame
variable {A} (T : Tame A)
include T

theorem rdx (r : ℕ) (d : Fin 1024) : IsReal (rd A.x r d) := real_rd A.x T.x r d

/-- the mean square is a positive real, and one over its root is real -/
theorem norm (r : ℕ) : ∃ a s : ℝ, A.rs r = (a : EReal) ∧ A.ms r = (s : EReal) ∧ s ≠ 0 ∧ a * a * s = 1 := by
  obtain ⟨ε, hε, e⟩ := eps_eq
  choose X hX using T.rdx r
  have hp : 0 < (∑ k, X k * X k) * (1 / 1024) + ε := by
    have : 0 ≤ ∑ k, X k * X k := Finset.sum_nonneg fun k _ => mul_self_nonneg (X k)
    positivity
  have hm : A.ms r = (((∑ k, X k * X k) * (1 / 1024) + ε : ℝ) : EReal) := by
    unfold Ins.ms cE
    rw [e, cD_eq, Ideal.div_coe (by norm_num)]
    simp only [hX, ← EReal.coe_mul, sum_coe, ← EReal.coe_add]
  generalize (∑ k, X k * X k) * (1 / 1024) + ε = s at hp hm
  refine ⟨(√s)⁻¹, s, ?_, hm, hp.ne', ?_⟩
  · unfold Ins.rs
    rw [hm, Ideal.rsqrt_coe, if_neg (not_lt.mpr hp.le), if_neg hp.ne']
  · have h := Real.mul_self_sqrt hp.le
    have h0 : √s ≠ 0 := (Real.sqrt_pos.mpr hp).ne'
    field_simp
    nlinarith [h]

theorem h (r : ℕ) (d : Fin 1024) : IsReal (A.h r d) := by
  obtain ⟨a, s, h, _⟩ := T.norm r
  exact ((T.rdx r d).mul ⟨a, h⟩).mul (T.g _)

theorem z (r : ℕ) (f : Fin 3072) : IsReal (A.z r f) := IsReal.sum _ fun k => (T.h r k).mul (T.w _)

theorem dz (r : ℕ) (f : Fin 3072) : IsReal (A.dz r f) := by
  unfold Ins.dz
  split
  · exact real_rc _ T.dzc _ _
  split
  · exact real_hg (fun _ => T.z r _) (real_rq _ T.dq r) (fun _ => T.qg _) _
  split
  · exact real_hg (fun _ => T.z r _) (real_rq _ T.dk r) (fun _ => T.kg _) _
  · exact real_rq _ T.dv _ _

theorem gd (r : ℕ) (d : Fin 1024) : IsReal (A.gd r d) :=
  (IsReal.sum _ fun f => (T.dz r f).mul (T.w _)).mul (T.g _)

/-- the gradient of the rows, in the reference's order -/
theorem dx (r : ℕ) (d : Fin 1024) :
    rd A.dx1 r d + A.gd r d * A.rs r
      + rd A.x r d * Ideal.div ((∑ k, rd A.x r k * A.gd r k) * (Ideal.ofBits FTy.f32 0xBF000000#32 * Ideal.div (A.rs r) (A.ms r))) cD
      + Ideal.div ((∑ k, rd A.x r k * A.gd r k) * (Ideal.ofBits FTy.f32 0xBF000000#32 * Ideal.div (A.rs r) (A.ms r))) cD * rd A.x r d
    = A.dx r d := by
  obtain ⟨a, s, ha, hs, h0, h1⟩ := T.norm r
  unfold Ins.dx Ins.xh
  rw [ha, hs]
  exact norm_grad (rd A.dx1 r d) (rd A.x r) (A.gd r) (T.rdx r) (T.gd r) d a s h0 h1

end Tame
end Cert.Kernel4Ideal.Inp
end
-- ==== Proof.InA.lean ====
module

public import proofs.«01_k».proof.Proof.InP
public import proofs.«01_k».proof.Proof.Gen.Kernel4Ideal.Value

@[expose] public section

set_option maxRecDepth 16384

noncomputable section

/-! The backward pass of the input projection: what each grid point leaves in the output blocks and in the scratch, as
functions of its input blocks and of the sums the points before left. -/
namespace Cert.Kernel4Ideal.Inp
open Cert.Kernel4Ideal Cert.Kernel4Ideal.Gen
open Idealize.ShloMosaic Idealize.ShloMosaic.TcCoe Idealize.SL.Sem

variable {F : FTy → Type} [FloatOps F]

/-- what a grid point reads -/
structure Pt (F : FTy → Type) [FloatOps F] where
  /-- the cotangent of the normed queries -/
  dq : Vec F S512x512 .f32
  /-- the cotangent of the normed keys -/
  dk : Vec F S512x512 .f32
  /-- the cotangent of the values -/
  dv : Vec F S512x512 .f32
  /-- the cotangent of the columns of the convolution -/
  dzc : Vec F S512x1536 .bf16
  /-- the projected queries and keys -/
  zqk : Vec F S512x1024 .bf16
  /-- the rows -/
  x : Vec F S512x1024 .f32
  /-- the cotangent of the rows from the layer's own path -/
  dx1 : Vec F S512x1024 .f32
  /-- the scale of the norm -/
  g : Vec F S1x1024 .f32
  /-- the weight -/
  w : Vec F S1024x3072 .bf16
  /-- the scale of the queries -/
  qg : Vec F S1x512 .f32
  /-- the scale of the keys -/
  kg : Vec F S1x512 .f32
  /-- the table that marks the columns of one head -/
  bd : Vec F S256x256 .bf16

namespace Pt
variable (p : Pt F)
/-- the projected queries -/
def zq : Vec F S512x512 .bf16 := View.ld p.zqk (Rect.unit ![0, 0] S512x512.size inb_S512x1024_S512x512_0_0)
/-- the projected keys -/
def zk : Vec F S512x512 .bf16 := View.ld p.zqk (Rect.unit ![0, 512] S512x512.size inb_S512x1024_S512x512_0_512)
/-- the mean squares of the queries' heads -/
def vq : FVec F S512x512 .f32 := k0_pay16 p.zq p.bd p.bd p.bd p.bd
/-- the mean squares of the keys' heads, over the small constant -/
def vk : FVec F S512x512 .f32 := k0_pay26 p.zk p.bd p.bd p.bd p.bd
/-- the gradient of the projected queries -/
def dzq : FVec F S512x512 .bf16 :=
  k0_pay24 (k0_pay17 p.vq) (k0_pay18 (k0_pay15 p.zq) p.vq) (k0_pay20 p.dq p.qg)
    (k0_pay22 p.dq (k0_pay15 p.zq) p.vq p.qg p.bd p.bd) (k0_pay23 p.dq (k0_pay15 p.zq) p.vq p.qg p.bd p.bd)
/-- the sums the keys' gradient takes from -/
def sk : FVec F S512x512 .f32 := k0_pay31 p.dk (k0_pay25 p.zk) p.vk p.kg p.bd p.bd p.bd p.bd
/-- the gradient of all projected columns -/
def dz : FVec F S512x3072 .bf16 :=
  k0_pay33 (k0_pay14 p.dzc) p.dzq (k0_pay27 p.vk) (k0_pay28 (k0_pay25 p.zk) p.vk) (k0_pay30 p.dk p.kg) p.sk k0_pay32 p.dv
/-- the gradient of the normed rows -/
def dh : FVec F S512x1024 .f32 :=
  k0_pay37 (k0_pay14 p.dzc) p.dzq (k0_pay27 p.vk) (k0_pay28 (k0_pay25 p.zk) p.vk) (k0_pay30 p.dk p.kg) p.sk k0_pay32 p.dv p.w
/-- the gradient of the rows -/
def dx : FVec F S512x1024 .f32 := k0_pay1 (k0_pay34 p.x) (k0_pay35 p.x) p.g p.dh p.dx1
/-- the gradient of the scale, with this block's -/
def dg (a : Vec F S1x1024 .f32) : FVec F S1x1024 .f32 :=
  k0_pay38 (k0_pay14 p.dzc) p.dzq (k0_pay27 p.vk) (k0_pay28 (k0_pay25 p.zk) p.vk) (k0_pay30 p.dk p.kg) p.sk k0_pay32 p.dv p.x p.w a
/-- the gradient of the queries' scale, with this block's -/
def dqg (a : Vec F S1x512 .f32) : FVec F S1x512 .f32 := k0_pay19 p.dq (k0_pay15 p.zq) p.vq a
/-- the gradient of the keys' scale, with this block's -/
def dkg (a : Vec F S1x512 .f32) : FVec F S1x512 .f32 := k0_pay29 p.dk (k0_pay25 p.zk) p.vk a
/-- the gradient of the weight, with this block's -/
def dw (a : Vec F S1024x3072 .f32) : FVec F S1024x3072 .f32 :=
  k0_pay36 (k0_pay14 p.dzc) p.dzq (k0_pay27 p.vk) (k0_pay28 (k0_pay25 p.zk) p.vk) (k0_pay30 p.dk p.kg) p.sk k0_pay32 p.dv p.x p.g a
end Pt

/-- the weight's gradient `a` copied out, 384 columns at a time, over the array `f` -/
def put (c : Dev nD) (f : HbBuf0 (F := F) c hbM0_0) (a : Vec F S1024x3072 .f32) : HbBuf0 (F := F) c hbM0_0 :=
  (View.write (Elt F) (((Memref.whole main_v24_1).slice (Rect.unit (s := S8x1024x384) ![7, 0, 0] S1x1024x384.size inb_S8x1024x384_S1x1024x384_7_0_0) (fun _ => rfl)).squeeze S1024x384 squeezes_S1x1024x384_S1024x384).view (View.write (Elt F) (((Memref.whole main_v24_1).slice (Rect.unit (s := S8x1024x384) ![6, 0, 0] S1x1024x384.size inb_S8x1024x384_S1x1024x384_6_0_0) (fun _ => rfl)).squeeze S1024x384 squeezes_S1x1024x384_S1024x384).view (View.write (Elt F) (((Memref.whole main_v24_1).slice (Rect.unit (s := S8x1024x384) ![5, 0, 0] S1x1024x384.size inb_S8x1024x384_S1x1024x384_5_0_0) (fun _ => rfl)).squeeze S1024x384 squeezes_S1x1024x384_S1024x384).view (View.write (Elt F) (((Memref.whole main_v24_1).slice (Rect.unit (s := S8x1024x384) ![4, 0, 0] S1x1024x384.size inb_S8x1024x384_S1x1024x384_4_0_0) (fun _ => rfl)).squeeze S1024x384 squeezes_S1x1024x384_S1024x384).view (View.write (Elt F) (((Memref.whole main_v24_1).slice (Rect.unit (s := S8x1024x384) ![3, 0, 0] S1x1024x384.size inb_S8x1024x384_S1x1024x384_3_0_0) (fun _ => rfl)).squeeze S1024x384 squeezes_S1x1024x384_S1024x384).view (View.write (Elt F) (((Memref.whole main_v24_1).slice (Rect.unit (s := S8x1024x384) ![2, 0, 0] S1x1024x384.size inb_S8x1024x384_S1x1024x384_2_0_0) (fun _ => rfl)).squeeze S1024x384 squeezes_S1x1024x384_S1024x384).view (View.write (Elt F) (((Memref.whole main_v24_1).slice (Rect.unit (s := S8x1024x384) ![1, 0, 0] S1x1024x384.size inb_S8x1024x384_S1x1024x384_1_0_0) (fun _ => rfl)).squeeze S1024x384 squeezes_S1x1024x384_S1024x384).view (View.write (Elt F) (((Memref.whole main_v24_1).slice (Rect.unit (s := S8x1024x384) ![0, 0, 0] S1x1024x384.size inb_S8x1024x384_S1x1024x384_0_0_0) (fun _ => rfl)).squeeze S1024x384 squeezes_S1x1024x384_S1024x384).view f
      (k0_pay4 (View.ld a (Rect.unit ![0, 0] S1024x384.size inb_S1024x3072_S1024x384_0_0))) Finset.univ)
      (k0_pay5 (View.ld a (Rect.unit ![0, 384] S1024x384.size inb_S1024x3072_S1024x384_0_384))) Finset.univ)
      (k0_pay6 (View.ld a (Rect.unit ![0, 768] S1024x384.size inb_S1024x3072_S1024x384_0_768))) Finset.univ)
      (k0_pay7 (View.ld a (Rect.unit ![0, 1152] S1024x384.size inb_S1024x3072_S1024x384_0_1152))) Finset.univ)
      (k0_pay8 (View.ld a (Rect.unit ![0, 1536] S1024x384.size inb_S1024x3072_S1024x384_0_1536))) Finset.univ)
      (k0_pay9 (View.ld a (Rect.unit ![0, 1920] S1024x384.size inb_S1024x3072_S1024x384_0_1920))) Finset.univ)
      (k0_pay2 (View.ld a (Rect.unit ![0, 2304] S1024x384.size inb_S1024x3072_S1024x384_0_2304))) Finset.univ)
      (k0_pay3 (View.ld a (Rect.unit ![0, 2688] S1024x384.size inb_S1024x3072_S1024x384_0_2688))) Finset.univ)

theorem out0_A_12_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) :
    out0_A_12 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 = Pt.dx ⟨x0, x1, x2, x3, x4, x5, x6, x7, x8, x9, x10, x11⟩  := by
  frame_out
  rfl

theorem out0_A_13_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) :
    out0_A_13 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 = Pt.dg ⟨x0, x1, x2, x3, x4, x5, x6, x7, x8, x9, x10, x11⟩ k0_pay11 := by
  frame_out
  rfl

theorem out0_A_14_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) :
    out0_A_14 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 = Pt.dqg ⟨x0, x1, x2, x3, x4, x5, x6, x7, x8, x9, x10, x11⟩ k0_pay12 := by
  frame_out
  rfl

theorem out0_A_15_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) :
    out0_A_15 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 = Pt.dkg ⟨x0, x1, x2, x3, x4, x5, x6, x7, x8, x9, x10, x11⟩ k0_pay13 := by
  frame_out
  rfl

theorem sout0_A_0_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) :
    sout0_A_0 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 = Pt.dw ⟨x0, x1, x2, x3, x4, x5, x6, x7, x8, x9, x10, x11⟩ k0_pay10 := by
  frame_out
  rfl

theorem out0_B_12_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32) :
    out0_B_12 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 xo13 xo14 xo15 xs0 = Pt.dx ⟨x0, x1, x2, x3, x4, x5, x6, x7, x8, x9, x10, x11⟩  := by
  frame_out
  rfl

theorem out0_B_13_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32) :
    out0_B_13 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 xo13 xo14 xo15 xs0 = Pt.dg ⟨x0, x1, x2, x3, x4, x5, x6, x7, x8, x9, x10, x11⟩ xo13 := by
  frame_out
  rfl

theorem out0_B_14_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32) :
    out0_B_14 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 xo13 xo14 xo15 xs0 = Pt.dqg ⟨x0, x1, x2, x3, x4, x5, x6, x7, x8, x9, x10, x11⟩ xo14 := by
  frame_out
  rfl

theorem out0_B_15_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32) :
    out0_B_15 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 xo13 xo14 xo15 xs0 = Pt.dkg ⟨x0, x1, x2, x3, x4, x5, x6, x7, x8, x9, x10, x11⟩ xo15 := by
  frame_out
  rfl

theorem sout0_B_0_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32) :
    sout0_B_0 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 xo13 xo14 xo15 xs0 = Pt.dw ⟨x0, x1, x2, x3, x4, x5, x6, x7, x8, x9, x10, x11⟩ xs0 := by
  frame_out
  rfl

theorem out0_C_12_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32) :
    out0_C_12 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 xo13 xo14 xo15 xs0 = Pt.dx ⟨x0, x1, x2, x3, x4, x5, x6, x7, x8, x9, x10, x11⟩  := by
  frame_out
  rfl

theorem out0_C_13_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32) :
    out0_C_13 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 xo13 xo14 xo15 xs0 = Pt.dg ⟨x0, x1, x2, x3, x4, x5, x6, x7, x8, x9, x10, x11⟩ xo13 := by
  frame_out
  rfl

theorem out0_C_14_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32) :
    out0_C_14 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 xo13 xo14 xo15 xs0 = Pt.dqg ⟨x0, x1, x2, x3, x4, x5, x6, x7, x8, x9, x10, x11⟩ xo14 := by
  frame_out
  rfl

theorem out0_C_15_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32) :
    out0_C_15 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 xo13 xo14 xo15 xs0 = Pt.dkg ⟨x0, x1, x2, x3, x4, x5, x6, x7, x8, x9, x10, x11⟩ xo15 := by
  frame_out
  rfl

theorem sout0_C_0_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32) :
    sout0_C_0 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 hc0 hc1 x0 x1 x2 x3 x4 x5 x6 x7 x8 x9 x10 x11 xo13 xo14 xo15 xs0 = Pt.dw ⟨x0, x1, x2, x3, x4, x5, x6, x7, x8, x9, x10, x11⟩ xs0 := by
  frame_out
  rfl

end Cert.Kernel4Ideal.Inp
end
-- ==== Proof.InB.lean ====
module

public import proofs.«01_k».proof.Proof.InA

@[expose] public section

set_option maxRecDepth 16384

noncomputable section

/-! The body at the first point, from its blocks to what it leaves in each buffer; the array of the weight's gradient is not touched. -/
namespace Cert.Kernel4Ideal.Inp
open Cert.Kernel4Ideal Cert.Kernel4Ideal.Gen
open Cert.KernelIdeal.Stage (read_store)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at the first point, from its blocks to what it leaves in each buffer; the array of the weight's gradient is not touched. -/
theorem runA (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16)
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ semVal ((c : Thread nD τ), SemLoc.dma 24) 0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (Pt.dx (⟨x0, x1, x2, x3, x4, x5, x6, x7, x8, x9, x10, x11⟩ : Pt F)) ∗ owns (c : Thread nD τ) arg15 fullShare (Pt.dg (⟨x0, x1, x2, x3, x4, x5, x6, x7, x8, x9, x10, x11⟩ : Pt F) k0_pay11) ∗ owns (c : Thread nD τ) arg16 fullShare (Pt.dqg (⟨x0, x1, x2, x3, x4, x5, x6, x7, x8, x9, x10, x11⟩ : Pt F) k0_pay12) ∗ owns (c : Thread nD τ) arg17 fullShare (Pt.dkg (⟨x0, x1, x2, x3, x4, x5, x6, x7, x8, x9, x10, x11⟩ : Pt F) k0_pay13) ∗ owns (c : Thread nD τ) arg18 fullShare (Pt.dw (⟨x0, x1, x2, x3, x4, x5, x6, x7, x8, x9, x10, x11⟩ : Pt F) k0_pay10) ∗ (∃ d, owns (c : Thread nD τ) arg19 fullShare d) ∗ semVal ((c : Thread nD τ), SemLoc.dma 24) 0 ∗ (∃ W', owes (c : Thread nD τ) 0 W')) -∗ K ⟨⟩))
      ⊢ wp frame (wpE (defs₀ (F := F)) Variants.none c none) Set.univ (cc0_inproj_bwd i arg1 harg1 arg2 harg2 arg3 harg3 arg4 harg4 arg5 harg5 arg6 harg6 arg7 harg7 arg8 harg8 arg9 harg9 arg10 harg10 arg11 harg11 arg12 harg12 arg13 harg13 (Memref.whole main_v24_1) (Memref.isWhole_whole _) arg15 harg15 arg16 harg16 arg17 harg17 arg18 harg18 arg19 harg19 cc0_scratch2) K := by
  simp only [cc0_inproj_bwd_eq_skeleton]; unfold cc0_inproj_bwd_skel
  simp only [k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, Hq0, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro
    rw [View.read_writes_eq_canon _ _ _ (View.cover_of_tiledL _ S512x1024.size (by sl_kernel_rfl))]
    frame_out; rfl
  isplitl [H13]
  · iexists _; isplitr; swap; · iexact H13
    ipureintro
    rw [View.read_writes_eq_canon _ _ _ (View.cover_of_tiledL _ S1x1024.size (by sl_kernel_rfl))]
    frame_out; rfl
  isplitl [H14]
  · iexists _; isplitr; swap; · iexact H14
    ipureintro
    rw [View.read_writes_eq_canon _ _ _ (View.cover_of_tiledL _ S1x512.size (by sl_kernel_rfl))]
    frame_out; rfl
  isplitl [H15]
  · iexists _; isplitr; swap; · iexact H15
    ipureintro
    rw [View.read_writes_eq_canon _ _ _ (View.cover_of_tiledL _ S1x512.size (by sl_kernel_rfl))]
    frame_out; rfl
  isplitl [HS0]
  · iexists _; isplitr; swap; · iexact HS0
    ipureintro
    rw [View.read_writes_eq_canon _ _ _ (View.cover_of_tiledL _ S1024x3072.size (by sl_kernel_rfl))]
    frame_out; rfl
  isplitl [HS1]
  · iexists _, _; isplitr; swap; · iexact HS1
    ipureintro; rfl
  isplitl [Hq0]; · iexact Hq0
  iexists _; iexact HW

end Cert.Kernel4Ideal.Inp

end
-- ==== Proof.InC.lean ====
module

public import proofs.«01_k».proof.Proof.InB

@[expose] public section

set_option maxRecDepth 16384

noncomputable section

/-! The body at a middle point, from its blocks and the sums so far to what it leaves in each buffer; the array of the weight's gradient is not touched. -/
namespace Cert.Kernel4Ideal.Inp
open Cert.Kernel4Ideal Cert.Kernel4Ideal.Gen
open Cert.KernelIdeal.Stage (read_store)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a middle point, from its blocks and the sums so far to what it leaves in each buffer; the array of the weight's gradient is not touched. -/
theorem runB (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : ¬cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32)
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg15 fullShare xo13 ∗ owns (c : Thread nD τ) arg16 fullShare xo14 ∗ owns (c : Thread nD τ) arg17 fullShare xo15 ∗ owns (c : Thread nD τ) arg18 fullShare xs0 ∗ (∃ d, owns (c : Thread nD τ) arg19 fullShare d) ∗ semVal ((c : Thread nD τ), SemLoc.dma 24) 0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (Pt.dx (⟨x0, x1, x2, x3, x4, x5, x6, x7, x8, x9, x10, x11⟩ : Pt F)) ∗ owns (c : Thread nD τ) arg15 fullShare (Pt.dg (⟨x0, x1, x2, x3, x4, x5, x6, x7, x8, x9, x10, x11⟩ : Pt F) xo13) ∗ owns (c : Thread nD τ) arg16 fullShare (Pt.dqg (⟨x0, x1, x2, x3, x4, x5, x6, x7, x8, x9, x10, x11⟩ : Pt F) xo14) ∗ owns (c : Thread nD τ) arg17 fullShare (Pt.dkg (⟨x0, x1, x2, x3, x4, x5, x6, x7, x8, x9, x10, x11⟩ : Pt F) xo15) ∗ owns (c : Thread nD τ) arg18 fullShare (Pt.dw (⟨x0, x1, x2, x3, x4, x5, x6, x7, x8, x9, x10, x11⟩ : Pt F) xs0) ∗ (∃ d, owns (c : Thread nD τ) arg19 fullShare d) ∗ semVal ((c : Thread nD τ), SemLoc.dma 24) 0 ∗ (∃ W', owes (c : Thread nD τ) 0 W')) -∗ K ⟨⟩))
      ⊢ wp frame (wpE (defs₀ (F := F)) Variants.none c none) Set.univ (cc0_inproj_bwd i arg1 harg1 arg2 harg2 arg3 harg3 arg4 harg4 arg5 harg5 arg6 harg6 arg7 harg7 arg8 harg8 arg9 harg9 arg10 harg10 arg11 harg11 arg12 harg12 arg13 harg13 (Memref.whole main_v24_1) (Memref.isWhole_whole _) arg15 harg15 arg16 harg16 arg17 harg17 arg18 harg18 arg19 harg19 cc0_scratch2) K := by
  simp only [cc0_inproj_bwd_eq_skeleton]; unfold cc0_inproj_bwd_skel
  simp only [k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%fs0, %hfs0, HS0⟩, ⟨%ds1, %fs1, -, HS1⟩, Hq0, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf13; obtain rfl := harg16.eq_unread hf14; obtain rfl := harg17.eq_unread hf15; obtain rfl := harg18.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro
    rw [View.read_writes_eq_canon _ _ _ (View.cover_of_tiledL _ S512x1024.size (by sl_kernel_rfl))]
    frame_out; rfl
  isplitl [H13]
  · iexists _; isplitr; swap; · iexact H13
    ipureintro
    rw [View.read_writes_eq_canon _ _ _ (View.cover_of_tiledL _ S1x1024.size (by sl_kernel_rfl))]
    frame_out; rfl
  isplitl [H14]
  · iexists _; isplitr; swap; · iexact H14
    ipureintro
    rw [View.read_writes_eq_canon _ _ _ (View.cover_of_tiledL _ S1x512.size (by sl_kernel_rfl))]
    frame_out; rfl
  isplitl [H15]
  · iexists _; isplitr; swap; · iexact H15
    ipureintro
    rw [View.read_writes_eq_canon _ _ _ (View.cover_of_tiledL _ S1x512.size (by sl_kernel_rfl))]
    frame_out; rfl
  isplitl [HS0]
  · iexists _; isplitr; swap; · iexact HS0
    ipureintro
    rw [View.read_writes_eq_canon _ _ _ (View.cover_of_tiledL _ S1024x3072.size (by sl_kernel_rfl))]
    frame_out; rfl
  isplitl [HS1]
  · iexists _, _; isplitr; swap; · iexact HS1
    ipureintro; rfl
  isplitl [Hq0]; · iexact Hq0
  iexists _; iexact HW

end Cert.Kernel4Ideal.Inp

end
-- ==== Proof.InD.lean ====
module

public import proofs.«01_k».proof.Proof.InC

@[expose] public section

set_option maxRecDepth 16384

noncomputable section

/-! The body at the last point: as at a middle point, and the weight's gradient is copied out to its array. -/
namespace Cert.Kernel4Ideal.Inp
open Cert.Kernel4Ideal Cert.Kernel4Ideal.Gen
open Cert.KernelIdeal.Stage (read_store)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at the last point: as at a middle point, and the weight's gradient is copied out to its array. -/
theorem runC (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1536 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S256x256 .bf16) (harg12 : arg12.IsWhole) (arg13 : Memref sig .tc .vmem S512x1024 .f32) (harg13 : arg13.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1024x3072 .f32) (harg18 : arg18.IsWhole) (arg19 : Memref sig .tc .vmem S1024x384 .bf16) (harg19 : arg19.IsWhole) (hc0 : ¬cond0_0 i) (hc1 : cond0_1 i)
    (x0 : Vec F S512x512 .f32) (x1 : Vec F S512x512 .f32) (x2 : Vec F S512x512 .f32) (x3 : Vec F S512x1536 .bf16) (x4 : Vec F S512x1024 .bf16) (x5 : Vec F S512x1024 .f32) (x6 : Vec F S512x1024 .f32) (x7 : Vec F S1x1024 .f32) (x8 : Vec F S1024x3072 .bf16) (x9 : Vec F S1x512 .f32) (x10 : Vec F S1x512 .f32) (x11 : Vec F S256x256 .bf16) (xo13 : Vec F S1x1024 .f32) (xo14 : Vec F S1x512 .f32) (xo15 : Vec F S1x512 .f32) (xs0 : Vec F S1024x3072 .f32)
    (fw0 : HbBuf0 (F := F) c hbM0_0)
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg15 fullShare xo13 ∗ owns (c : Thread nD τ) arg16 fullShare xo14 ∗ owns (c : Thread nD τ) arg17 fullShare xo15 ∗ owns (c : Thread nD τ) arg18 fullShare xs0 ∗ (∃ d, owns (c : Thread nD τ) arg19 fullShare d) ∗ semVal ((c : Thread nD τ), SemLoc.dma 24) 0 ∗ hbPt0 c hbM0_0 fw0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (Pt.dx (⟨x0, x1, x2, x3, x4, x5, x6, x7, x8, x9, x10, x11⟩ : Pt F)) ∗ owns (c : Thread nD τ) arg15 fullShare (Pt.dg (⟨x0, x1, x2, x3, x4, x5, x6, x7, x8, x9, x10, x11⟩ : Pt F) xo13) ∗ owns (c : Thread nD τ) arg16 fullShare (Pt.dqg (⟨x0, x1, x2, x3, x4, x5, x6, x7, x8, x9, x10, x11⟩ : Pt F) xo14) ∗ owns (c : Thread nD τ) arg17 fullShare (Pt.dkg (⟨x0, x1, x2, x3, x4, x5, x6, x7, x8, x9, x10, x11⟩ : Pt F) xo15) ∗ owns (c : Thread nD τ) arg18 fullShare (Pt.dw (⟨x0, x1, x2, x3, x4, x5, x6, x7, x8, x9, x10, x11⟩ : Pt F) xs0) ∗ (∃ d, owns (c : Thread nD τ) arg19 fullShare d) ∗ semVal ((c : Thread nD τ), SemLoc.dma 24) 0 ∗ hbPt0 c hbM0_0 (put c fw0 (Pt.dw (⟨x0, x1, x2, x3, x4, x5, x6, x7, x8, x9, x10, x11⟩ : Pt F) xs0)) ∗ (∃ W', owes (c : Thread nD τ) 0 W')) -∗ K ⟨⟩))
      ⊢ wp frame (wpE (defs₀ (F := F)) Variants.none c none) Set.univ (cc0_inproj_bwd i arg1 harg1 arg2 harg2 arg3 harg3 arg4 harg4 arg5 harg5 arg6 harg6 arg7 harg7 arg8 harg8 arg9 harg9 arg10 harg10 arg11 harg11 arg12 harg12 arg13 harg13 (Memref.whole main_v24_1) (Memref.isWhole_whole _) arg15 harg15 arg16 harg16 arg17 harg17 arg18 harg18 arg19 harg19 cc0_scratch2) K := by
  simp only [cc0_inproj_bwd_eq_skeleton]; unfold cc0_inproj_bwd_skel
  simp only [k0_part3_eq_skeleton, k0_part4_eq_skeleton, k0_part5_eq_skeleton, k0_part6_eq_skeleton, k0_part7_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%fs0, %hfs0, HS0⟩, ⟨%ds1, %fs1, -, HS1⟩, Hq0, Hh0, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf13; obtain rfl := harg16.eq_unread hf14; obtain rfl := harg17.eq_unread hf15; obtain rfl := harg18.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro
    rw [View.read_writes_eq_canon _ _ _ (View.cover_of_tiledL _ S512x1024.size (by sl_kernel_rfl))]
    frame_out; rfl
  isplitl [H13]
  · iexists _; isplitr; swap; · iexact H13
    ipureintro
    rw [View.read_writes_eq_canon _ _ _ (View.cover_of_tiledL _ S1x1024.size (by sl_kernel_rfl))]
    frame_out; rfl
  isplitl [H14]
  · iexists _; isplitr; swap; · iexact H14
    ipureintro
    rw [View.read_writes_eq_canon _ _ _ (View.cover_of_tiledL _ S1x512.size (by sl_kernel_rfl))]
    frame_out; rfl
  isplitl [H15]
  · iexists _; isplitr; swap; · iexact H15
    ipureintro
    rw [View.read_writes_eq_canon _ _ _ (View.cover_of_tiledL _ S1x512.size (by sl_kernel_rfl))]
    frame_out; rfl
  isplitl [HS0]
  · iexists _; isplitr; swap; · iexact HS0
    ipureintro
    rw [View.read_writes_eq_canon _ _ _ (View.cover_of_tiledL _ S1024x3072.size (by sl_kernel_rfl))]
    frame_out; rfl
  isplitl [HS1]
  · iexists _, _; isplitr; swap; · iexact HS1
    ipureintro; rfl
  isplitl [Hq0]; · iexact Hq0
  isplitl [Hh0]
  · have e : ∀ g g' : HbBuf0 (F := F) c hbM0_0, g = g' → (hbPt0 c hbM0_0 g : sProp 𝕄) ⊢ hbPt0 c hbM0_0 g' := fun g g' h => h ▸ Idealize.SL.BI.Entails.refl _
    iapply (e _ _ ?hbm)
    rotate_left
    · iexact Hh0
    · unfold put
      refine congrArg₂ (fun f w => View.write (Elt F) _ f w Finset.univ) ?_ ?_
      rotate_left
      · refine (read_store arg19.view _ _ _ _).trans ?_
        frame_open
        frame_out
        refine congrArg k0_pay3 ?_
        exact View.readCov_fill (Val := Elt F) (e := .f32) (s := S1024x3072) (off := ![0, 0]) arg18.view inb_S1024x3072_S1024x3072_0_0 _ _ _ (by decide)
      refine congrArg₂ (fun f w => View.write (Elt F) _ f w Finset.univ) ?_ ?_
      rotate_left
      · refine (read_store arg19.view _ _ _ _).trans ?_
        frame_open
        frame_out
        refine congrArg k0_pay2 ?_
        exact View.readCov_fill (Val := Elt F) (e := .f32) (s := S1024x3072) (off := ![0, 0]) arg18.view inb_S1024x3072_S1024x3072_0_0 _ _ _ (by decide)
      refine congrArg₂ (fun f w => View.write (Elt F) _ f w Finset.univ) ?_ ?_
      rotate_left
      · refine (read_store arg19.view _ _ _ _).trans ?_
        frame_open
        frame_out
        refine congrArg k0_pay9 ?_
        exact View.readCov_fill (Val := Elt F) (e := .f32) (s := S1024x3072) (off := ![0, 0]) arg18.view inb_S1024x3072_S1024x3072_0_0 _ _ _ (by decide)
      refine congrArg₂ (fun f w => View.write (Elt F) _ f w Finset.univ) ?_ ?_
      rotate_left
      · refine (read_store arg19.view _ _ _ _).trans ?_
        frame_open
        frame_out
        refine congrArg k0_pay8 ?_
        exact View.readCov_fill (Val := Elt F) (e := .f32) (s := S1024x3072) (off := ![0, 0]) arg18.view inb_S1024x3072_S1024x3072_0_0 _ _ _ (by decide)
      refine congrArg₂ (fun f w => View.write (Elt F) _ f w Finset.univ) ?_ ?_
      rotate_left
      · refine (read_store arg19.view _ _ _ _).trans ?_
        frame_open
        frame_out
        refine congrArg k0_pay7 ?_
        exact View.readCov_fill (Val := Elt F) (e := .f32) (s := S1024x3072) (off := ![0, 0]) arg18.view inb_S1024x3072_S1024x3072_0_0 _ _ _ (by decide)
      refine congrArg₂ (fun f w => View.write (Elt F) _ f w Finset.univ) ?_ ?_
      rotate_left
      · refine (read_store arg19.view _ _ _ _).trans ?_
        frame_open
        frame_out
        refine congrArg k0_pay6 ?_
        exact View.readCov_fill (Val := Elt F) (e := .f32) (s := S1024x3072) (off := ![0, 0]) arg18.view inb_S1024x3072_S1024x3072_0_0 _ _ _ (by decide)
      refine congrArg₂ (fun f w => View.write (Elt F) _ f w Finset.univ) ?_ ?_
      rotate_left
      · refine (read_store arg19.view _ _ _ _).trans ?_
        frame_open
        frame_out
        refine congrArg k0_pay5 ?_
        exact View.readCov_fill (Val := Elt F) (e := .f32) (s := S1024x3072) (off := ![0, 0]) arg18.view inb_S1024x3072_S1024x3072_0_0 _ _ _ (by decide)
      refine congrArg₂ (fun f w => View.write (Elt F) _ f w Finset.univ) ?_ ?_
      rotate_left
      · refine (read_store arg19.view _ _ _ _).trans ?_
        frame_open
        frame_out
        refine congrArg k0_pay4 ?_
        exact View.readCov_fill (Val := Elt F) (e := .f32) (s := S1024x3072) (off := ![0, 0]) arg18.view inb_S1024x3072_S1024x3072_0_0 _ _ _ (by decide)
      rfl
  iexists _; iexact HW

end Cert.Kernel4Ideal.Inp

end
-- ==== Proof.InE.lean ====
module

public import proofs.«01_k».proof.Proof.InD
public import Idealize.ShloMosaic.Lib.Pipeline.FrameValue

@[expose] public section

set_option maxRecDepth 16384

noncomputable section

/-! What every point leaves, as functions of its blocks and of what the point before left; and the launch with the array of
the weight's gradient at named contents. -/
namespace Cert.Kernel4Ideal.Inp
open Cert.Kernel4Ideal Cert.Kernel4Ideal.Gen
open Cert.KernelIdeal.Stage (read_store)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (l : Loc nD τ sig) → Buf (Elt F) l) (ρ : Dev nD → PrngReg)

/-- the input blocks at a point -/
def pt (c : Dev nD) (t : Fin cfg0.N) : Pt F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- the contents the point before left -/
def prev (c : Dev nD) (t : Fin cfg0.N) := outsAt0 m c (t.val - 1) (Nat.lt_of_le_of_lt (Nat.sub_le _ _) t.isLt)

/-- what the first point leaves -/
theorem outs_first (c : Dev nD) (t : Fin cfg0.N) (h0 : t.val % 16 = 0) :
    outsAt0 m c t.val t.isLt = ((pt m c t).dx, (pt m c t).dg k0_pay11, (pt m c t).dqg k0_pay12, (pt m c t).dkg k0_pay13, (pt m c t).dw k0_pay10) := by
  rw [outsAt0_A m c t h0 (by omega), out0_A_12_eq, out0_A_13_eq, out0_A_14_eq, out0_A_15_eq, sout0_A_0_eq]
  rfl

/-- what a later point leaves -/
theorem outs_next (c : Dev nD) (t : Fin cfg0.N) (h0 : ¬t.val % 16 = 0) :
    outsAt0 m c t.val t.isLt = ((pt m c t).dx, (pt m c t).dg (prev m c t).2.1, (pt m c t).dqg (prev m c t).2.2.1, (pt m c t).dkg (prev m c t).2.2.2.1, (pt m c t).dw (prev m c t).2.2.2.2) := by
  by_cases h1 : t.val % 16 = 15
  · rw [outsAt0_C m c t h0 h1, out0_C_12_eq, out0_C_13_eq, out0_C_14_eq, out0_C_15_eq, sout0_C_0_eq]
    rfl
  · rw [outsAt0_B m c t h0 h1, out0_B_12_eq, out0_B_13_eq, out0_B_14_eq, out0_B_15_eq, sout0_B_0_eq]
    rfl

/-- the last point -/
def lastPt : Fin cfg0.N := ⟨15, by rw [show cfg0.N = 16 from N_0]; decide⟩

/-- what the array of the weight's gradient holds before each point: it is written at the last one only -/
def hb (c : Dev nD) (n : ℕ) : HbBuf0 (F := F) c hbM0_0 :=
  if n = 16 then put c (V m c main_v24_1) (outsAt0 m c lastPt.val lastPt.isLt).2.2.2.2 else V m c main_v24_1

theorem hb_keep (c : Dev nD) (t : Fin cfg0.N) (h : ¬t.val % 16 = 15) : hb m c (t.val + 1) = hb m c t.val := by
  have hN : t.val < 16 := lt_of_lt_of_eq t.isLt (show cfg0.N = 16 from N_0)
  unfold hb
  rw [if_neg (by omega), if_neg (by omega)]

theorem hb_put (c : Dev nD) (t : Fin cfg0.N) (h : t.val % 16 = 15) :
    hb m c (t.val + 1) = put c (hb m c t.val) (outsAt0 m c t.val t.isLt).2.2.2.2 := by
  have hN : t.val < 16 := lt_of_lt_of_eq t.isLt (show cfg0.N = 16 from N_0)
  obtain rfl : t = lastPt := Fin.ext (show t.val = 15 by omega)
  have e : lastPt.val = 15 := rfl
  unfold hb
  rw [if_pos (by omega), if_neg (by omega)]

/-- the written array listed -/
theorem routed_eq (c : Dev nD) (G : (b : Ref sig .tc) → Buf (Elt F) ((c : Thread nD τ).loc b)) :
    (Pipeline.routed R0 c G : sProp 𝕄) = hbPt0 c hbM0_0 (G main_v24_1) := by
  unfold Pipeline.routed; rw [BI.bigSep_eq_bigSepL_of_eq [main_v24_1] (by decide) (by decide)]; rfl

/-- the launch's invariant with the written array at given contents -/
theorem phi_given_eq (c : Dev nD) (G : (c : Dev nD) → (b : Ref sig .tc) → Buf (Elt F) ((c : Thread nD τ).loc b)) :
    (Pipeline.ΦDRG osem0 spec0 H0 R0 (V m) G c : sProp 𝕄) = iprop(iprop((∃ d, owns (c : Thread nD τ) scM0_0 fullShare d) ∗ (∃ d, owns (c : Thread nD τ) scM0_1 fullShare d)) ∗ (∃ r, prngReg c r) ∗ iprop(semVal ((c : Thread nD τ), SemLoc.dma 24) 0) ∗ iprop(emp) ∗ hbPt0 c hbM0_0 (G c main_v24_1)) := by
  rw [Pipeline.ΦDRG_eq, scopedRest0_eq, ownSems00_eq, hbmPts0_eq, routed_eq]; simp only [scM0_0, scM0_1, owns_whole]; try rfl

/-- the invariant before each point -/
def PhiN (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.2.2) ∗ (∃ d, owns (c : Thread nD τ) scM0_1 fullShare d)) ∗ (∃ r, prngReg c r) ∗ iprop(semVal ((c : Thread nD τ), SemLoc.dma 24) 0) ∗ iprop(emp) ∗ hbPt0 c hbM0_0 (hb m c (n + 1)))

theorem PhiN_succ (c : Dev nD) (n : ℕ) (hn : n < cfg0.N) : PhiN m c (n + 1) hn = iprop(iprop(owns (c : Thread nD τ) scM0_0 fullShare ((outsAt0 m c n hn).2.2.2.2) ∗ (∃ d, owns (c : Thread nD τ) scM0_1 fullShare d)) ∗ (∃ r, prngReg c r) ∗ iprop(semVal ((c : Thread nD τ), SemLoc.dma 24) 0) ∗ iprop(emp) ∗ hbPt0 c hbM0_0 (hb m c (n + 1))) := rfl

theorem PhiN_pos (c : Dev nD) (t : Fin cfg0.N) (hz : t.val ≠ 0) : PhiN m c t.val (Nat.le_of_lt t.isLt) = iprop(iprop(owns (c : Thread nD τ) scM0_0 fullShare ((prev m c t).2.2.2.2) ∗ (∃ d, owns (c : Thread nD τ) scM0_1 fullShare d)) ∗ (∃ r, prngReg c r) ∗ iprop(semVal ((c : Thread nD τ), SemLoc.dma 24) 0) ∗ iprop(emp) ∗ hbPt0 c hbM0_0 (hb m c t.val)) := by
  obtain ⟨n, hn⟩ := t
  cases n with
  | zero => exact absurd rfl hz
  | succ n => rfl

/-- the invariant with the carried scratch's contents forgotten -/
theorem PhiN_forget (c : Dev nD) (n : ℕ) (hn : n ≤ cfg0.N) : PhiN m c n hn ⊢ iprop(iprop((∃ d, owns (c : Thread nD τ) scM0_0 fullShare d) ∗ (∃ d, owns (c : Thread nD τ) scM0_1 fullShare d)) ∗ (∃ r, prngReg c r) ∗ iprop(semVal ((c : Thread nD τ), SemLoc.dma 24) 0) ∗ iprop(emp) ∗ hbPt0 c hbM0_0 (hb m c n)) := by
  cases n with
  | zero =>
    rw [show PhiN m c 0 hn = Pipeline.ΦDRG osem0 spec0 H0 R0 (V m) (V m) c from rfl, phi_given_eq]
    exact Idealize.SL.BI.Entails.refl _
  | succ n =>
    rw [PhiN_succ]
    iintro ⟨⟨HS0, HS1⟩, Hg, Hq0, He, Hh⟩
    isplitl [HS0 HS1]
    · isplitl [HS0]
      · iexists _; iexact HS0
      iexact HS1
    isplitl [Hg]; · iexact Hg
    isplitl [Hq0]; · iexact Hq0
    isplitl [He]; · iexact He
    iexact Hh

/-- the pipeline's proof data with that invariant -/
def datsN (p : Fin 1) (c : Dev nD) : Dat τ (Elt F) Unit ℕ (Pipeline.UD sig nD τ) ℕ cfg0 c where
  A := (dats m p c).A
  after := (dats m p c).after
  Φ t := PhiN m c t.val (Nat.le_of_lt_succ t.isLt)
  q _ := fullShare
  owed _ := 0

theorem before_eq (c : Dev nD) (w : Fin cfg0.W) (t : Fin cfg0.N) (d) : (datsN m 0 c).before w t d = (dats m 0 c).before w t d := rfl

/-- what the pipeline leaves in a window's array does not depend on the invariant -/
theorem arrAt_eq (c : Dev nD) (w : Fin cfg0.W) : ∀ n, (datsN m 0 c).arrAt w n = (dats m 0 c).arrAt w n
  | 0 => rfl
  | n + 1 => by
    unfold Dat.arrAt
    rw [arrAt_eq c w n]
    rfl

/-- what the body starts with -/
def preN (c : Dev nD) (t : Fin cfg0.N) : sProp 𝕄 :=
  iprop((datsN m 0 c).Φ t.castSucc ∗ (datsN m 0 c).owesAt () t.castSucc
    ∗ (∃ d, owns (c : Thread nD τ) (ms0_0 t) fullShare ((datsN m 0 c).before 0 t d))
    ∗ (∃ d, owns (c : Thread nD τ) (ms0_1 t) fullShare ((datsN m 0 c).before 1 t d))
    ∗ (∃ d, owns (c : Thread nD τ) (ms0_2 t) fullShare ((datsN m 0 c).before 2 t d))
    ∗ (∃ d, owns (c : Thread nD τ) (ms0_3 t) fullShare ((datsN m 0 c).before 3 t d))
    ∗ (∃ d, owns (c : Thread nD τ) (ms0_4 t) fullShare ((datsN m 0 c).before 4 t d))
    ∗ (∃ d, owns (c : Thread nD τ) (ms0_5 t) fullShare ((datsN m 0 c).before 5 t d))
    ∗ (∃ d, owns (c : Thread nD τ) (ms0_6 t) fullShare ((datsN m 0 c).before 6 t d))
    ∗ (∃ d, owns (c : Thread nD τ) (ms0_7 t) fullShare ((datsN m 0 c).before 7 t d))
    ∗ (∃ d, owns (c : Thread nD τ) (ms0_8 t) fullShare ((datsN m 0 c).before 8 t d))
    ∗ (∃ d, owns (c : Thread nD τ) (ms0_9 t) fullShare ((datsN m 0 c).before 9 t d))
    ∗ (∃ d, owns (c : Thread nD τ) (ms0_10 t) fullShare ((datsN m 0 c).before 10 t d))
    ∗ (∃ d, owns (c : Thread nD τ) (ms0_11 t) fullShare ((datsN m 0 c).before 11 t d))
    ∗ (∃ d, owns (c : Thread nD τ) (ms0_12 t) fullShare ((datsN m 0 c).before 12 t d))
    ∗ (∃ d, owns (c : Thread nD τ) (ms0_13 t) fullShare ((datsN m 0 c).before 13 t d))
    ∗ (∃ d, owns (c : Thread nD τ) (ms0_14 t) fullShare ((datsN m 0 c).before 14 t d))
    ∗ (∃ d, owns (c : Thread nD τ) (ms0_15 t) fullShare ((datsN m 0 c).before 15 t d)))

/-- what the body returns -/
def postN (c : Dev nD) (t : Fin cfg0.N) : sProp 𝕄 :=
  iprop((datsN m 0 c).Φ t.succ ∗ (datsN m 0 c).owesAt () t.succ
    ∗ owns (c : Thread nD τ) (ms0_0 t) fullShare ((datsN m 0 c).after 0 t)
    ∗ owns (c : Thread nD τ) (ms0_1 t) fullShare ((datsN m 0 c).after 1 t)
    ∗ owns (c : Thread nD τ) (ms0_2 t) fullShare ((datsN m 0 c).after 2 t)
    ∗ owns (c : Thread nD τ) (ms0_3 t) fullShare ((datsN m 0 c).after 3 t)
    ∗ owns (c : Thread nD τ) (ms0_4 t) fullShare ((datsN m 0 c).after 4 t)
    ∗ owns (c : Thread nD τ) (ms0_5 t) fullShare ((datsN m 0 c).after 5 t)
    ∗ owns (c : Thread nD τ) (ms0_6 t) fullShare ((datsN m 0 c).after 6 t)
    ∗ owns (c : Thread nD τ) (ms0_7 t) fullShare ((datsN m 0 c).after 7 t)
    ∗ owns (c : Thread nD τ) (ms0_8 t) fullShare ((datsN m 0 c).after 8 t)
    ∗ owns (c : Thread nD τ) (ms0_9 t) fullShare ((datsN m 0 c).after 9 t)
    ∗ owns (c : Thread nD τ) (ms0_10 t) fullShare ((datsN m 0 c).after 10 t)
    ∗ owns (c : Thread nD τ) (ms0_11 t) fullShare ((datsN m 0 c).after 11 t)
    ∗ owns (c : Thread nD τ) (ms0_12 t) fullShare ((datsN m 0 c).after 12 t)
    ∗ owns (c : Thread nD τ) (ms0_13 t) fullShare ((datsN m 0 c).after 13 t)
    ∗ owns (c : Thread nD τ) (ms0_14 t) fullShare ((datsN m 0 c).after 14 t)
    ∗ owns (c : Thread nD τ) (ms0_15 t) fullShare ((datsN m 0 c).after 15 t))

set_option maxHeartbeats 4000000 in
/-- the body at any point, from the invariant before it to the invariant after it -/
theorem body_point (c : Dev nD) (t : Fin cfg0.N) :
    preN m c t ⊢ wp frame (wpE (defs₀ (F := F)) Variants.none c none) Set.univ (bodyAt0 t) (fun _ => postN m c t) := by
  unfold preN postN bodyAt0
  simp only [before_eq, before0_0, before0_1, before0_2, before0_3, before0_4, before0_5, before0_6, before0_7, before0_8, before0_9, before0_10, before0_11]
  rw [show (datsN m 0 c).Φ t.castSucc = PhiN m c t.val (Nat.le_of_lt t.isLt) from rfl, show (datsN m 0 c).Φ t.succ = PhiN m c (t.val + 1) t.isLt from rfl, PhiN_succ]
  rw [show (datsN m 0 c).after = (dats m 0 c).after from rfl, after0_0, after0_1, after0_2, after0_3, after0_4, after0_5, after0_6, after0_7, after0_8, after0_9, after0_10, after0_11, after0_12, after0_13, after0_14, after0_15]
  unfold Dat.owesAt Pipeline.owesWithin
  rw [show (datsN m 0 c).owed t.castSucc = 0 from rfl, show (datsN m 0 c).owed t.succ = 0 from rfl]
  by_cases h0 : t.val % 16 = 0
  · have h1 : ¬t.val % 16 = 15 := by omega
    rw [hb_keep m c t h1]
    refine (Idealize.SL.BI.BIBase.Entails.trans (Idealize.SL.BI.Laws.sep_mono_left (PhiN_forget m c t.val (Nat.le_of_lt t.isLt))) ?_)
    rw [outs_first m c t h0]
    (try dsimp only)
    iintro ⟨⟨⟨HS0, HS1⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [Hq0]; · iexact Hq0
    isplitl [HW]; · iexact HW
    iintro ⟨H0, H1, H2, H3, H4, H5, H6, H7, H8, H9, H10, H11, H12, H13, H14, H15, HS0, HS1, Hq0, ⟨%W', HW'⟩⟩
    isplitl [HS0 HS1 Hg Hq0 Hh0]
    · isplitl [HS0 HS1]
      · isplitl [HS0]; · iexact HS0
        iexact HS1
      isplitl [Hg]; · iexact Hg
      isplitl [Hq0]; · iexact Hq0
      isplitr; · iempintro
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · by_cases h1 : t.val % 16 = 15
    · skip
      rw [hb_put m c t h1]
      rw [PhiN_pos m c t (by omega)]
      simp only [before_eq, before0_13_C m c t h0 h1, before0_14_C m c t h0 h1, before0_15_C m c t h0 h1]
      rw [outs_next m c t h0]
      (try dsimp only)
      iintro ⟨⟨⟨HS0, HS1⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prev m c t).2.1 (prev m c t).2.2.1 (prev m c t).2.2.2.1 (prev m c t).2.2.2.2 (hb m c t.val) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexact H13
      isplitl [H14]; · iexact H14
      isplitl [H15]; · iexact H15
      isplitl [HS0]; · iexact HS0
      isplitl [HS1]; · iexact HS1
      isplitl [Hq0]; · iexact Hq0
      isplitl [Hh0]; · iexact Hh0
      isplitl [HW]; · iexact HW
      iintro ⟨H0, H1, H2, H3, H4, H5, H6, H7, H8, H9, H10, H11, H12, H13, H14, H15, HS0, HS1, Hq0, Hh0, ⟨%W', HW'⟩⟩
      isplitl [HS0 HS1 Hg Hq0 Hh0]
      · isplitl [HS0 HS1]
        · isplitl [HS0]; · iexact HS0
          iexact HS1
        isplitl [Hg]; · iexact Hg
        isplitl [Hq0]; · iexact Hq0
        isplitr; · iempintro
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · skip
      rw [hb_keep m c t h1]
      rw [PhiN_pos m c t (by omega)]
      simp only [before_eq, before0_13_B m c t h0 h1, before0_14_B m c t h0 h1, before0_15_B m c t h0 h1]
      rw [outs_next m c t h0]
      (try dsimp only)
      iintro ⟨⟨⟨HS0, HS1⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prev m c t).2.1 (prev m c t).2.2.1 (prev m c t).2.2.2.1 (prev m c t).2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexact H13
      isplitl [H14]; · iexact H14
      isplitl [H15]; · iexact H15
      isplitl [HS0]; · iexact HS0
      isplitl [HS1]; · iexact HS1
      isplitl [Hq0]; · iexact Hq0
      isplitl [HW]; · iexact HW
      iintro ⟨H0, H1, H2, H3, H4, H5, H6, H7, H8, H9, H10, H11, H12, H13, H14, H15, HS0, HS1, Hq0, ⟨%W', HW'⟩⟩
      isplitl [HS0 HS1 Hg Hq0 Hh0]
      · isplitl [HS0 HS1]
        · isplitl [HS0]; · iexact HS0
          iexact HS1
        isplitl [Hg]; · iexact Hg
        isplitl [Hq0]; · iexact Hq0
        isplitr; · iempintro
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

/-- the library's obligation -/
theorem body_obligationN (c : Dev nD) : BodyObligation (datsN (F := F) m 0 c) (defs₀ (F := F)) Variants.none () Set.univ := fun t => by
  rw [bigSep_W0, bigSep_W0, defs₀_row]
  exact triple_restated (body_point m c t) rfl .rfl fun _ => .rfl

/-- the unscoped buffers after the last point: the array of the weight's gradient at what that point wrote -/
def Gd (c : Dev nD) : (b : Ref sig .tc) → Buf (Elt F) ((c : Thread nD τ).loc b) :=
  Function.update (V m c) main_v24_1 (hb m c 16)

theorem Gd_1 (c : Dev nD) : Gd m c main_v24_1 = hb m c 16 := by
  unfold Gd
  rw [Function.update_self]

theorem hinN (c : Dev nD) : Pipeline.ΦDRG osem0 spec0 H0 R0 (V m) (V m) c ⊢ (datsN m 0 c).Φ 0 := Idealize.SL.BI.Entails.refl _

set_option maxHeartbeats 2000000 in
theorem houtN (c : Dev nD) : (datsN m 0 c).Φ (Fin.last cfg0.N) ⊢ Pipeline.ΦDRG osem0 spec0 H0 R0 (V m) (Gd m) c := by
  rw [phi_given_eq, Gd_1, show (datsN m 0 c).Φ (Fin.last cfg0.N) = PhiN m c cfg0.N (Nat.le_refl _) from rfl]
  have h := PhiN_forget m c cfg0.N (Nat.le_refl _)
  rw [show hb m c cfg0.N = hb m c 16 from congrArg (hb m c) N_0] at h
  exact h

set_option backward.isDefEq.respectTransparency.types false in
/-- the whole run, with the written array at named contents -/
theorem run_named : θ_run defs (onTc (τ := τ) (main (F := F))) (s₀ m ρ) (fun r => (Pipeline.FramePostRG cfgs (datsN m) 0 R0 (V m) (Gd m)) r ∧ r.2.sem = fun _ => 0) :=
  Pipeline.θ_run_frame_dmaRG (Q' := _) cfgs (datsN m) (0 : Fin 1) launch0 osem0 defs₀ Variants.none ownSemFacts0 H0 R0 H0_sub R0_sub m ρ main
    (hbody := fun c => (body_obligationN m c).loose) (hshare := fun c => (datsN m 0 c).share_full fun _ => rfl)
    (howed := fun _ _ => rfl) (V := V m) (hmain := hmain m Variants.none) (hA := A_eq m) (G := Gd m)
    (hin := hinN m) (hout := houtN m)

/-- the run's results by name -/
theorem run_results : θ_run defs (onTc (τ := τ) (main (F := F))) ⟨m, fun _ => 0, ρ⟩ fun r => ∀ c : Dev nD,
      r.2.mem ((c : Thread nD τ).loc main_v24_0) = (dats m 0 c).arrAt 12 cfg0.N
      ∧ r.2.mem ((c : Thread nD τ).loc main_v24_1) = hb m c 16
      ∧ r.2.mem ((c : Thread nD τ).loc main_v24_2) = (dats m 0 c).arrAt 13 cfg0.N
      ∧ r.2.mem ((c : Thread nD τ).loc main_v24_3) = (dats m 0 c).arrAt 14 cfg0.N
      ∧ r.2.mem ((c : Thread nD τ).loc main_v24_4) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => by
    have h' : Pipeline.FramePostR cfgs (dats m) 0 R0 (V m) r :=
      fun c => ⟨fun w => ((h.1.1 c).1 w).trans (arrAt_eq m c w _), (h.1.1 c).2⟩
    exact ⟨Value.post12 m r h' c, (h.1.2 c main_v24_1 (by decide)).trans (Gd_1 m c), Value.post13 m r h' c, Value.post14 m r h' c, Value.post15 m r h' c,
      Value.kept_main_arg0 m r h' c, Value.kept_main_arg1 m r h' c, Value.kept_main_arg2 m r h' c, Value.kept_main_arg3 m r h' c, Value.kept_main_arg4 m r h' c, Value.kept_main_arg5 m r h' c, Value.kept_main_arg6 m r h' c, Value.kept_main_arg7 m r h' c, Value.kept_main_arg8 m r h' c, Value.kept_main_arg9 m r h' c⟩)
    (run_named m ρ)

end Cert.Kernel4Ideal.Inp

end
-- ==== Proof.InF.lean ====
module

public import proofs.«01_k».proof.Proof.InE

@[expose] public section

set_option maxRecDepth 16384

noncomputable section

/-! What a point of the input projection's backward pass leaves, entry by entry, when its blocks are those of the arrays. -/
namespace Cert.Kernel4Ideal.Inp
open Cert.Kernel4Ideal Cert.Kernel4Ideal.Gen
open Idealize.ShloMosaic Idealize.ShloMosaic.TcCoe Idealize.SL.Sem
open Cert.KernelIdeal.Grad (rd rd_of_lt rd_of_ge)
open Cert.ReferenceIdeal.Grad (IsReal IsReal.mul IsReal.sum real_rd)
open Cert.Kernel3Ideal.Ple (cD)

/-- the columns of a row against the table, each half of them in two parts: the sum over the head -/
theorem seg (v : Fin 512 → EReal) (hv : ∀ i, IsReal (v i)) (B : Fin 256 → Fin 256 → EReal)
    (hB : ∀ i j, B i j = if i.val / 64 = j.val / 64 then 1 else 0) (j : Fin 512) :
    (if hj : j.val < 256 then
      (∑ i : Fin 256, v ⟨i.val, by omega⟩ * B i ⟨j.val, hj⟩)
        + (∑ i : Fin 256, (v ⟨i.val, by omega⟩ - v ⟨i.val, by omega⟩) * B i ⟨j.val, hj⟩)
    else
      (∑ i : Fin 256, v ⟨256 + i.val, by omega⟩ * B i ⟨j.val - 256, by omega⟩)
        + (∑ i : Fin 256, (v ⟨256 + i.val, by omega⟩ - v ⟨256 + i.val, by omega⟩) * B i ⟨j.val - 256, by omega⟩))
    = ∑ c : Fin 64, v (hc j c) := by
  split
  case isTrue hj => exact seg_sum (fun i => v ⟨i.val, by omega⟩) (fun _ => hv _) B hB ⟨j.val, hj⟩
  case isFalse hj =>
    refine (seg_sum (fun i => v ⟨256 + i.val, by omega⟩) (fun _ => hv _) B hB ⟨j.val - 256, by omega⟩).trans ?_
    refine Finset.sum_congr rfl fun c _ => congrArg v (Fin.ext ?_)
    show 256 + (64 * ((j.val - 256) / 64) + c.val) = 64 * (j.val / 64) + c.val
    omega

/-- the blocks of point `p` are block `b` of the rows of the arrays -/
structure Has (A : Ins) (p : Pt Ideal) (b : ℕ) : Prop where
  dq : ∀ r j, p.dq (ix2 r j) = rq A.dq (512 * b + r.val) j
  dk : ∀ r j, p.dk (ix2 r j) = rq A.dk (512 * b + r.val) j
  dv : ∀ r j, p.dv (ix2 r j) = rq A.dv (512 * b + r.val) j
  dzc : ∀ r j, p.dzc (ix2 r j) = rc A.dzc (512 * b + r.val) j
  zqk : ∀ r (j : Fin 1024), p.zqk (ix2 r j) = A.z (512 * b + r.val) ⟨1536 + j.val, by omega⟩
  x : ∀ r d, p.x (ix2 r d) = rd A.x (512 * b + r.val) d
  dx1 : ∀ r d, p.dx1 (ix2 r d) = rd A.dx1 (512 * b + r.val) d
  g : ∀ d, p.g (ix2 0 d) = A.g (ix2 0 d)
  w : ∀ k f, p.w (ix2 k f) = A.w (ix2 k f)
  qg : ∀ j, p.qg (ix2 0 j) = A.qg (ix2 0 j)
  kg : ∀ j, p.kg (ix2 0 j) = A.kg (ix2 0 j)
  bd : ∀ i j : Fin 256, p.bd (ix2 i j) = if i.val / 64 = j.val / 64 then 1 else 0

namespace Has
variable {A : Ins} {p : Pt Ideal} {b : ℕ} (K : Has A p b)
include K

theorem zq (r j : Fin 512) : p.zq (ix2 r j) = A.zq (512 * b + r.val) j := by
  have e : p.zq (ix2 r j) = p.zqk (ix2 r (⟨j.val, by omega⟩ : Fin 1024)) := by
    unfold Pt.zq
    exact View.ld_unit_apply_of _ _ _ _ _ _ (by intro a; fin_cases a <;> simp)
  rw [e]
  exact K.zqk _ _

theorem zk (r j : Fin 512) : p.zk (ix2 r j) = A.zk (512 * b + r.val) j := by
  have e : p.zk (ix2 r j) = p.zqk (ix2 r (⟨512 + j.val, by omega⟩ : Fin 1024)) := by
    unfold Pt.zk
    exact View.ld_unit_apply_of _ _ _ _ _ _ (by intro a; fin_cases a <;> simp)
  rw [e]
  refine (K.zqk _ _).trans (congrArg _ (Fin.ext ?_))
  show 1536 + (512 + j.val) = 2048 + j.val
  omega

theorem qf (r j : Fin 512) : k0_pay15 p.zq (ix2 r j) = A.zq (512 * b + r.val) j := by
  rw [← K.zq]
  pointwise [k0_pay15]

theorem kf (r j : Fin 512) : k0_pay25 p.zk (ix2 r j) = A.zk (512 * b + r.val) j := by
  rw [← K.zk]
  pointwise [k0_pay25]

variable (T : Tame A)
include T

theorem vq (r j : Fin 512) : p.vq (ix2 r j) = (∑ c : Fin 64, A.zq (512 * b + r.val) (hc j c) * A.zq (512 * b + r.val) (hc j c)) * cS := by
  have hz : ∀ j, IsReal (k0_pay15 p.zq (ix2 r j)) := fun j => by rw [K.qf]; exact T.z _ _
  have e := seg (fun j => k0_pay15 p.zq (ix2 r j) * k0_pay15 p.zq (ix2 r j)) (fun j => (hz j).mul (hz j)) (fun i j => p.bd (ix2 i j)) K.bd j
  have e2 : (∑ c : Fin 64, k0_pay15 p.zq (ix2 r (hc j c)) * k0_pay15 p.zq (ix2 r (hc j c))) = ∑ c : Fin 64, A.zq (512 * b + r.val) (hc j c) * A.zq (512 * b + r.val) (hc j c) := by
    simp only [K.qf]
  unfold Pt.vq
  rw [← e2]
  pointwise [k0_pay16]
  exact congrArg (fun x => x * cS) e

theorem root_q (r j : Fin 512) : k0_pay17 p.vq (ix2 r j) = hr (A.zq (512 * b + r.val)) j := by
  unfold hr hv
  rw [← K.vq T]
  pointwise [k0_pay17]
  rfl

theorem nq (r j : Fin 512) : k0_pay18 (k0_pay15 p.zq) p.vq (ix2 r j) = hn (A.zq (512 * b + r.val)) j := by
  unfold hn
  rw [← K.root_q T, ← K.qf]
  pointwise [k0_pay18]

omit T in
theorem sq (r j : Fin 512) : k0_pay20 p.dq p.qg (ix2 r j) = rq A.dq (512 * b + r.val) j * A.qg (ix2 0 j) := by
  pointwise [k0_pay20]
  rw [K.dq, K.qg]

theorem dqg (a : Vec Ideal S1x512 .f32) (j : Fin 512) : p.dqg a (ix2 0 j) = a (ix2 0 j)
    + ∑ r : Fin 512, rq A.dq (512 * b + r.val) j * hn (A.zq (512 * b + r.val)) j := by
  unfold Pt.dqg
  pointwise [k0_pay19]
  simp only [K.nq T, K.dq]

/-- the sums over a head -/
theorem head_q (r j : Fin 512) : (∑ c : Fin 64, k0_pay20 p.dq p.qg (ix2 r (hc j c)) * k0_pay18 (k0_pay15 p.zq) p.vq (ix2 r (hc j c)))
    = ∑ c : Fin 64, rq A.dq (512 * b + r.val) (hc j c) * A.qg (ix2 0 (hc j c)) * hn (A.zq (512 * b + r.val)) (hc j c) := by
  simp only [K.sq, K.nq T]

theorem tq (r j : Fin 512) : IsReal (k0_pay20 p.dq p.qg (ix2 r j) * k0_pay18 (k0_pay15 p.zq) p.vq (ix2 r j)) := by
  rw [K.sq, K.nq T]
  exact ((real_rq _ T.dq _ _).mul (T.qg _)).mul (real_hn (fun _ => T.z _ _) _)

theorem vk (r j : Fin 512) : p.vk (ix2 r j) = hv (A.zk (512 * b + r.val)) j := by
  have hz : ∀ j, IsReal (k0_pay25 p.zk (ix2 r j)) := fun j => by rw [K.kf]; exact T.z _ _
  have e := seg (fun j => k0_pay25 p.zk (ix2 r j) * k0_pay25 p.zk (ix2 r j)) (fun j => (hz j).mul (hz j)) (fun i j => p.bd (ix2 i j)) K.bd j
  have e2 : (∑ c : Fin 64, k0_pay25 p.zk (ix2 r (hc j c)) * k0_pay25 p.zk (ix2 r (hc j c))) = ∑ c : Fin 64, A.zk (512 * b + r.val) (hc j c) * A.zk (512 * b + r.val) (hc j c) := by
    simp only [K.kf]
  unfold Pt.vk hv
  rw [← e2]
  pointwise [k0_pay26]
  exact congrArg (fun x => x * cS + cE) e

theorem root_k (r j : Fin 512) : k0_pay27 p.vk (ix2 r j) = hr (A.zk (512 * b + r.val)) j := by
  unfold hr
  rw [← K.vk T]
  pointwise [k0_pay27]

theorem nk (r j : Fin 512) : k0_pay28 (k0_pay25 p.zk) p.vk (ix2 r j) = hn (A.zk (512 * b + r.val)) j := by
  unfold hn
  rw [← K.root_k T, ← K.kf]
  pointwise [k0_pay28]

omit T in
theorem sk (r j : Fin 512) : k0_pay30 p.dk p.kg (ix2 r j) = rq A.dk (512 * b + r.val) j * A.kg (ix2 0 j) := by
  pointwise [k0_pay30]
  rw [K.dk, K.kg]

theorem dkg (a : Vec Ideal S1x512 .f32) (j : Fin 512) : p.dkg a (ix2 0 j) = a (ix2 0 j)
    + ∑ r : Fin 512, rq A.dk (512 * b + r.val) j * hn (A.zk (512 * b + r.val)) j := by
  unfold Pt.dkg
  pointwise [k0_pay29]
  simp only [K.nk T, K.dk]

/-- the sums over a head -/
theorem head_k (r j : Fin 512) : (∑ c : Fin 64, k0_pay30 p.dk p.kg (ix2 r (hc j c)) * k0_pay28 (k0_pay25 p.zk) p.vk (ix2 r (hc j c)))
    = ∑ c : Fin 64, rq A.dk (512 * b + r.val) (hc j c) * A.kg (ix2 0 (hc j c)) * hn (A.zk (512 * b + r.val)) (hc j c) := by
  simp only [K.sk, K.nk T]

theorem tk (r j : Fin 512) : IsReal (k0_pay30 p.dk p.kg (ix2 r j) * k0_pay28 (k0_pay25 p.zk) p.vk (ix2 r j)) := by
  rw [K.sk, K.nk T]
  exact ((real_rq _ T.dk _ _).mul (T.kg _)).mul (real_hn (fun _ => T.z _ _) _)

theorem gq (r j : Fin 512) : p.dzq (ix2 r j) = A.gq (512 * b + r.val) j := by
  have e := seg (fun j => k0_pay20 p.dq p.qg (ix2 r j) * k0_pay18 (k0_pay15 p.zq) p.vq (ix2 r j)) (K.tq T r)
    (fun i j => p.bd (ix2 i j)) K.bd j
  unfold Ins.gq hg
  rw [← K.head_q T, ← e, ← K.root_q T, ← K.nq T, ← K.sq]
  unfold Pt.dzq
  pointwise [k0_pay24]
  pointwise [k0_pay22, k0_pay23, k0_pay21]
  rfl

theorem head_sum (r j : Fin 512) : p.sk (ix2 r j)
    = ∑ c : Fin 64, rq A.dk (512 * b + r.val) (hc j c) * A.kg (ix2 0 (hc j c)) * hn (A.zk (512 * b + r.val)) (hc j c) := by
  have e := seg (fun j => k0_pay30 p.dk p.kg (ix2 r j) * k0_pay28 (k0_pay25 p.zk) p.vk (ix2 r j)) (K.tk T r)
    (fun i j => p.bd (ix2 i j)) K.bd j
  rw [← K.head_k T]
  unfold Pt.sk
  pointwise [k0_pay31]
  exact e

theorem gk (r j : Fin 512) :
    k0_pay27 p.vk (ix2 r j) * (k0_pay30 p.dk p.kg (ix2 r j) - k0_pay28 (k0_pay25 p.zk) p.vk (ix2 r j) * (p.sk (ix2 r j) * cS))
    = A.gk (512 * b + r.val) j := by
  rw [K.head_sum T, K.root_k T, K.nk T, K.sk]
  rfl

theorem dz (r : Fin 512) (f : Fin 3072) : p.dz (ix2 r f) = A.dz (512 * b + r.val) f := by
  unfold Pt.dz Ins.dz
  simp only [← K.dzc, ← K.gq T, ← K.gk T, ← K.dv]
  pointwise [k0_pay33, k0_pay14, k0_pay32]
  by_cases h1 : f.val < 1536
  · rw [dif_pos h1, dif_pos h1]
  rw [dif_neg h1, dif_neg h1]
  by_cases h2 : f.val < 2048
  · rw [dif_pos h2, dif_pos (show f.val - 1536 < 512 by omega)]
  rw [dif_neg h2, dif_neg (show ¬f.val - 1536 < 512 by omega)]
  have e1 : f.val - 1536 - 512 = f.val - 2048 := by omega
  by_cases h3 : f.val < 2560
  · rw [dif_pos h3, dif_pos (show f.val - 1536 - 512 < 512 by omega)]
    simp only [e1]
    rfl
  rw [dif_neg h3, dif_neg (show ¬f.val - 1536 - 512 < 512 by omega)]
  have e2 : f.val - 1536 - 512 - 512 = f.val - 2560 := by omega
  simp only [e2]

omit T in
theorem rs (r : Fin 512) : k0_pay34 p.x (ix2 r 0) = A.rs (512 * b + r.val) := by
  unfold Ins.rs Ins.ms
  pointwise [k0_pay34]
  simp only [K.x]
  rfl

omit T in
theorem xh (r : Fin 512) (d : Fin 1024) : k0_pay35 p.x (ix2 r d) = A.xh (512 * b + r.val) d := by
  unfold Ins.xh
  rw [← K.rs, ← K.x]
  pointwise [k0_pay35]

theorem dh (r : Fin 512) (d : Fin 1024) : p.dh (ix2 r d) = A.dh (512 * b + r.val) d := by
  have e := K.dz T r
  unfold Pt.dz at e
  unfold Pt.dh Ins.dh
  pointwise [k0_pay37]
  simp only [e, K.w]

theorem dx (r : Fin 512) (d : Fin 1024) : p.dx (ix2 r d) = A.dx (512 * b + r.val) d := by
  unfold Pt.dx Ins.dx Ins.gd
  pointwise [k0_pay1]
  simp only [K.dh T, K.xh, K.rs, K.dx1, K.g]
  rfl

theorem dw (a : Vec Ideal S1024x3072 .f32) (k : Fin 1024) (f : Fin 3072) : p.dw a (ix2 k f) = a (ix2 k f)
    + ∑ r : Fin 512, A.h (512 * b + r.val) k * A.dz (512 * b + r.val) f := by
  have e := fun r => K.dz T r f
  unfold Pt.dz at e
  unfold Pt.dw Ins.h
  pointwise [k0_pay36]
  simp only [e, K.xh, K.g]

theorem dg (a : Vec Ideal S1x1024 .f32) (d : Fin 1024) : p.dg a (ix2 0 d) = a (ix2 0 d)
    + ∑ r : Fin 512, A.dh (512 * b + r.val) d * A.xh (512 * b + r.val) d := by
  have e := fun r => K.dh T r d
  unfold Pt.dh at e
  unfold Pt.dg
  pointwise [k0_pay38]
  simp only [e, K.xh]

end Has
end Cert.Kernel4Ideal.Inp
end
-- ==== Proof.InG.lean ====
module

public import proofs.«01_k».proof.Proof.InF

@[expose] public section

set_option maxRecDepth 16384

noncomputable section

/-! The blocks of the points of the input projection's backward pass are those of the ten arrays, its sums run over the rows
seen so far, and the five result arrays are the gradients. -/
namespace Cert.Kernel4Ideal.Inp
open Cert.Kernel4Ideal Cert.Kernel4Ideal.Gen
open Idealize.ShloMosaic Idealize.ShloMosaic.TcCoe Idealize.SL.Sem
open Cert.KernelIdeal.Grad (rd rd_of_lt rd_of_ge)
open Cert.Kernel3Ideal.Ple (cD)

theorem unsq (h : S1024x384.numel = S1x1024x384.numel) (w : Vec Ideal S1024x384 .bf16) (a : Fin 1) (y : Fin 1024) (x : Fin 384) :
    w ((Shape.reshapeEquiv h).symm (ix3 a y x)) = w (ix2 y x) := by
  have e : w ((Shape.reshapeEquiv h).symm (ix3 a y x)) = shapeCast S1x1024x384 w h.symm (ix3 a y x) := rfl
  rw [e]
  pointwise

/-- one block of columns written, at an entry -/
theorem slot (f : Vec Ideal S8x1024x384 .bf16) (w : Vec Ideal S1024x384 .bf16) (k : ℕ)
    (h : ∀ a : Fin 3, ![k, 0, 0] a + S1x1024x384.size a ≤ S8x1024x384.size a) (K : Fin 8) (y : Fin 1024) (x : Fin 384) :
    View.write (Elt Ideal) (((Memref.whole main_v24_1).slice (Rect.unit (s := S8x1024x384) ![k, 0, 0] S1x1024x384.size h) (fun _ => rfl)).squeeze S1024x384 squeezes_S1x1024x384_S1024x384).view
      f w Finset.univ (ix3 K y x) = if K.val = k then w (ix2 y x) else f (ix3 K y x) := by
  have hy := y.isLt
  have hx := x.isLt
  refine (congrFun (View.write_reshape_univ _ _ _ _) (ix3 K y x)).trans ?_
  refine (congrFun (View.write_whole_slice_unit main_v24_1 ![k, 0, 0] S1x1024x384.size h _ _) (ix3 K y x)).trans ?_
  unfold updateSlice
  by_cases e : K.val = k
  · rw [if_pos e, dif_pos]
    · refine Eq.trans (congrArg (fun i => w ((Shape.reshapeEquiv _).symm i)) ?_) (unsq _ w 0 y x)
      funext a
      refine Fin.ext ?_
      fin_cases a
      · show K.val - k = 0
        omega
      · rfl
      · rfl
    · intro a
      fin_cases a
      · show k ≤ K.val ∧ K.val < k + 1
        omega
      · show 0 ≤ y.val ∧ y.val < 0 + 1024
        omega
      · show 0 ≤ x.val ∧ x.val < 0 + 384
        omega
  · rw [if_neg e, dif_neg]
    intro hin
    have h0 : k ≤ K.val ∧ K.val < k + 1 := hin 0
    omega

theorem put_at (c : Dev nD) (f : HbBuf0 (F := Ideal) c hbM0_0) (a : Vec Ideal S1024x3072 .f32) (K : Fin 8) (y : Fin 1024) (x : Fin 384) :
    put c f a (ix3 K y x) = a (ix2 y ⟨384 * K.val + x.val, by omega⟩) := by
  have hK := K.isLt
  unfold put
  refine (slot _ _ 7 _ K y x).trans ?_
  by_cases e7 : K.val = 7
  · rw [if_pos e7]
    have e : k0_pay3 (F := Ideal) (View.ld a (Rect.unit ![0, 2688] S1024x384.size inb_S1024x3072_S1024x384_0_2688)) (ix2 y x)
        = View.ld a (Rect.unit ![0, 2688] S1024x384.size inb_S1024x3072_S1024x384_0_2688) (ix2 y x) := by
      pointwise [k0_pay3]
    rw [e]
    have e' : View.ld a (Rect.unit ![0, 2688] S1024x384.size inb_S1024x3072_S1024x384_0_2688) (ix2 y x)
        = a (ix2 y (⟨2688 + x.val, by omega⟩ : Fin 3072)) :=
      View.ld_unit_apply_of _ _ _ _ _ _ (by intro a; fin_cases a <;> simp)
    rw [e']
    exact congrArg (fun q => a (ix2 y q)) (Fin.ext (show 2688 + x.val = 384 * K.val + x.val by omega))
  rw [if_neg e7]
  refine (slot _ _ 6 _ K y x).trans ?_
  by_cases e6 : K.val = 6
  · rw [if_pos e6]
    have e : k0_pay2 (F := Ideal) (View.ld a (Rect.unit ![0, 2304] S1024x384.size inb_S1024x3072_S1024x384_0_2304)) (ix2 y x)
        = View.ld a (Rect.unit ![0, 2304] S1024x384.size inb_S1024x3072_S1024x384_0_2304) (ix2 y x) := by
      pointwise [k0_pay2]
    rw [e]
    have e' : View.ld a (Rect.unit ![0, 2304] S1024x384.size inb_S1024x3072_S1024x384_0_2304) (ix2 y x)
        = a (ix2 y (⟨2304 + x.val, by omega⟩ : Fin 3072)) :=
      View.ld_unit_apply_of _ _ _ _ _ _ (by intro a; fin_cases a <;> simp)
    rw [e']
    exact congrArg (fun q => a (ix2 y q)) (Fin.ext (show 2304 + x.val = 384 * K.val + x.val by omega))
  rw [if_neg e6]
  refine (slot _ _ 5 _ K y x).trans ?_
  by_cases e5 : K.val = 5
  · rw [if_pos e5]
    have e : k0_pay9 (F := Ideal) (View.ld a (Rect.unit ![0, 1920] S1024x384.size inb_S1024x3072_S1024x384_0_1920)) (ix2 y x)
        = View.ld a (Rect.unit ![0, 1920] S1024x384.size inb_S1024x3072_S1024x384_0_1920) (ix2 y x) := by
      pointwise [k0_pay9]
    rw [e]
    have e' : View.ld a (Rect.unit ![0, 1920] S1024x384.size inb_S1024x3072_S1024x384_0_1920) (ix2 y x)
        = a (ix2 y (⟨1920 + x.val, by omega⟩ : Fin 3072)) :=
      View.ld_unit_apply_of _ _ _ _ _ _ (by intro a; fin_cases a <;> simp)
    rw [e']
    exact congrArg (fun q => a (ix2 y q)) (Fin.ext (show 1920 + x.val = 384 * K.val + x.val by omega))
  rw [if_neg e5]
  refine (slot _ _ 4 _ K y x).trans ?_
  by_cases e4 : K.val = 4
  · rw [if_pos e4]
    have e : k0_pay8 (F := Ideal) (View.ld a (Rect.unit ![0, 1536] S1024x384.size inb_S1024x3072_S1024x384_0_1536)) (ix2 y x)
        = View.ld a (Rect.unit ![0, 1536] S1024x384.size inb_S1024x3072_S1024x384_0_1536) (ix2 y x) := by
      pointwise [k0_pay8]
    rw [e]
    have e' : View.ld a (Rect.unit ![0, 1536] S1024x384.size inb_S1024x3072_S1024x384_0_1536) (ix2 y x)
        = a (ix2 y (⟨1536 + x.val, by omega⟩ : Fin 3072)) :=
      View.ld_unit_apply_of _ _ _ _ _ _ (by intro a; fin_cases a <;> simp)
    rw [e']
    exact congrArg (fun q => a (ix2 y q)) (Fin.ext (show 1536 + x.val = 384 * K.val + x.val by omega))
  rw [if_neg e4]
  refine (slot _ _ 3 _ K y x).trans ?_
  by_cases e3 : K.val = 3
  · rw [if_pos e3]
    have e : k0_pay7 (F := Ideal) (View.ld a (Rect.unit ![0, 1152] S1024x384.size inb_S1024x3072_S1024x384_0_1152)) (ix2 y x)
        = View.ld a (Rect.unit ![0, 1152] S1024x384.size inb_S1024x3072_S1024x384_0_1152) (ix2 y x) := by
      pointwise [k0_pay7]
    rw [e]
    have e' : View.ld a (Rect.unit ![0, 1152] S1024x384.size inb_S1024x3072_S1024x384_0_1152) (ix2 y x)
        = a (ix2 y (⟨1152 + x.val, by omega⟩ : Fin 3072)) :=
      View.ld_unit_apply_of _ _ _ _ _ _ (by intro a; fin_cases a <;> simp)
    rw [e']
    exact congrArg (fun q => a (ix2 y q)) (Fin.ext (show 1152 + x.val = 384 * K.val + x.val by omega))
  rw [if_neg e3]
  refine (slot _ _ 2 _ K y x).trans ?_
  by_cases e2 : K.val = 2
  · rw [if_pos e2]
    have e : k0_pay6 (F := Ideal) (View.ld a (Rect.unit ![0, 768] S1024x384.size inb_S1024x3072_S1024x384_0_768)) (ix2 y x)
        = View.ld a (Rect.unit ![0, 768] S1024x384.size inb_S1024x3072_S1024x384_0_768) (ix2 y x) := by
      pointwise [k0_pay6]
    rw [e]
    have e' : View.ld a (Rect.unit ![0, 768] S1024x384.size inb_S1024x3072_S1024x384_0_768) (ix2 y x)
        = a (ix2 y (⟨768 + x.val, by omega⟩ : Fin 3072)) :=
      View.ld_unit_apply_of _ _ _ _ _ _ (by intro a; fin_cases a <;> simp)
    rw [e']
    exact congrArg (fun q => a (ix2 y q)) (Fin.ext (show 768 + x.val = 384 * K.val + x.val by omega))
  rw [if_neg e2]
  refine (slot _ _ 1 _ K y x).trans ?_
  by_cases e1 : K.val = 1
  · rw [if_pos e1]
    have e : k0_pay5 (F := Ideal) (View.ld a (Rect.unit ![0, 384] S1024x384.size inb_S1024x3072_S1024x384_0_384)) (ix2 y x)
        = View.ld a (Rect.unit ![0, 384] S1024x384.size inb_S1024x3072_S1024x384_0_384) (ix2 y x) := by
      pointwise [k0_pay5]
    rw [e]
    have e' : View.ld a (Rect.unit ![0, 384] S1024x384.size inb_S1024x3072_S1024x384_0_384) (ix2 y x)
        = a (ix2 y (⟨384 + x.val, by omega⟩ : Fin 3072)) :=
      View.ld_unit_apply_of _ _ _ _ _ _ (by intro a; fin_cases a <;> simp)
    rw [e']
    exact congrArg (fun q => a (ix2 y q)) (Fin.ext (show 384 + x.val = 384 * K.val + x.val by omega))
  rw [if_neg e1]
  refine (slot _ _ 0 _ K y x).trans ?_
  by_cases e0 : K.val = 0
  · rw [if_pos e0]
    have e : k0_pay4 (F := Ideal) (View.ld a (Rect.unit ![0, 0] S1024x384.size inb_S1024x3072_S1024x384_0_0)) (ix2 y x)
        = View.ld a (Rect.unit ![0, 0] S1024x384.size inb_S1024x3072_S1024x384_0_0) (ix2 y x) := by
      pointwise [k0_pay4]
    rw [e]
    have e' : View.ld a (Rect.unit ![0, 0] S1024x384.size inb_S1024x3072_S1024x384_0_0) (ix2 y x)
        = a (ix2 y (⟨0 + x.val, by omega⟩ : Fin 3072)) :=
      View.ld_unit_apply_of _ _ _ _ _ _ (by intro a; fin_cases a <;> simp)
    rw [e']
    exact congrArg (fun q => a (ix2 y q)) (Fin.ext (show 0 + x.val = 384 * K.val + x.val by omega))
  rw [if_neg e0]
  omega

section
/-- the floor quotients the host computes, of an array by a number -/
def fq (x : IVec S256x256 32) (c : IVec S_ 32) : IVec S256x256 32 :=
  select (andi (cmpi .ne (signi x) (broadcastInDim S256x256 ![] bcast_S_S256x256 (signi c)))
      (cmpi .ne (Host.remsi x (broadcastInDim S256x256 ![] bcast_S_S256x256 c))
        (broadcastInDim S256x256 ![] bcast_S_S256x256 (constantI S_ 32 0#32))))
    (subi (Host.divsi x (broadcastInDim S256x256 ![] bcast_S_S256x256 c))
      (broadcastInDim S256x256 ![] bcast_S_S256x256 (constantI S_ 32 1#32)))
    (Host.divsi x (broadcastInDim S256x256 ![] bcast_S_S256x256 c))

variable (W : Valuation τ sig (Elt Ideal))

theorem host_q : StableHlo.after hostOps0_1 W main_v1 = fq (W main_v0) (W main_c) := by
  entry_read
  rfl

theorem host_r : StableHlo.after hostOps0_3 W main_v3 = fq (W main_v2) (W main_c_0) := by
  entry_read
  rfl

theorem host_0 : StableHlo.after hostOps0 W main_v0 = iotaInDim S256x256 32 0 := by
  entry_read
  rfl

theorem host_c : StableHlo.after hostOps0 W main_c = constantI S_ 32 64#32 := by
  entry_read
  rfl

theorem host_2 : StableHlo.after hostOps0_2 W main_v2 = iotaInDim S256x256 32 1 := by
  entry_read
  rfl

theorem host_c2 : StableHlo.after hostOps0_2 W main_c_0 = constantI S_ 32 64#32 := by
  entry_read
  rfl

theorem keep_2 : StableHlo.after hostOps0_2 W main_v1 = W main_v1 := by
  entry_read
  rfl

theorem keep_3 : StableHlo.after hostOps0_3 W main_v1 = W main_v1 := by
  entry_read
  rfl

theorem keep_arg0 : StableHlo.after hostOps0_3 (StableHlo.after hostOps0_2 (StableHlo.after hostOps0_1 (StableHlo.after hostOps0 W))) main_arg0 = W main_arg0 := by
  rw [show ∀ U : Valuation τ sig (Elt Ideal), StableHlo.after hostOps0_3 U main_arg0 = U main_arg0 from fun U => by entry_read; rfl,
    show ∀ U : Valuation τ sig (Elt Ideal), StableHlo.after hostOps0_2 U main_arg0 = U main_arg0 from fun U => by entry_read; rfl,
    show ∀ U : Valuation τ sig (Elt Ideal), StableHlo.after hostOps0_1 U main_arg0 = U main_arg0 from fun U => by entry_read; rfl,
    show ∀ U : Valuation τ sig (Elt Ideal), StableHlo.after hostOps0 U main_arg0 = U main_arg0 from fun U => by entry_read; rfl]

theorem host_eq : StableHlo.after hostOps0_4 W main_v6
    = truncf (F := Ideal) .bf16 (uitofp .f32 (cmpi .eq (W main_v1 : IVec S256x256 32) (W main_v3 : IVec S256x256 32))) bitsLt_bf16_f32 := by
  entry_read
  rfl

theorem keep_arg1 : StableHlo.after hostOps0_3 (StableHlo.after hostOps0_2 (StableHlo.after hostOps0_1 (StableHlo.after hostOps0 W))) main_arg1 = W main_arg1 := by
  rw [show ∀ U : Valuation τ sig (Elt Ideal), StableHlo.after hostOps0_3 U main_arg1 = U main_arg1 from fun U => by entry_read; rfl,
    show ∀ U : Valuation τ sig (Elt Ideal), StableHlo.after hostOps0_2 U main_arg1 = U main_arg1 from fun U => by entry_read; rfl,
    show ∀ U : Valuation τ sig (Elt Ideal), StableHlo.after hostOps0_1 U main_arg1 = U main_arg1 from fun U => by entry_read; rfl,
    show ∀ U : Valuation τ sig (Elt Ideal), StableHlo.after hostOps0 U main_arg1 = U main_arg1 from fun U => by entry_read; rfl]

theorem keep_arg2 : StableHlo.after hostOps0_3 (StableHlo.after hostOps0_2 (StableHlo.after hostOps0_1 (StableHlo.after hostOps0 W))) main_arg2 = W main_arg2 := by
  rw [show ∀ U : Valuation τ sig (Elt Ideal), StableHlo.after hostOps0_3 U main_arg2 = U main_arg2 from fun U => by entry_read; rfl,
    show ∀ U : Valuation τ sig (Elt Ideal), StableHlo.after hostOps0_2 U main_arg2 = U main_arg2 from fun U => by entry_read; rfl,
    show ∀ U : Valuation τ sig (Elt Ideal), StableHlo.after hostOps0_1 U main_arg2 = U main_arg2 from fun U => by entry_read; rfl,
    show ∀ U : Valuation τ sig (Elt Ideal), StableHlo.after hostOps0 U main_arg2 = U main_arg2 from fun U => by entry_read; rfl]

theorem host_z (x : Vec Ideal S8192x1024 .f32) (g : Vec Ideal S1x1024 .f32) (w : Vec Ideal S1024x3072 .f32)
    (hx : W main_arg0 = x) (hg : W main_arg1 = g) (hw : W main_arg2 = w) (r : Fin 8192) (j : Fin 1024) :
    (StableHlo.after hostOps0_4 W main_v22 : Vec Ideal S8192x1024 .bf16) (ix2 r j)
      = (∑ k : Fin 1024, x (ix2 r k) * Ideal.rsqrt (Ideal.div (∑ d : Fin 1024, x (ix2 r d) * x (ix2 r d)) (Ideal.ofBits .f32 0x44800000#32) + Ideal.ofBits .f32 0x358637BD#32)
          * g (ix2 0 k) * w (ix2 k ⟨1536 + j.val, by omega⟩) : EReal) := by
  subst hx hg hw
  entry_read
  pointwise
end

/-- the floor quotient of a number below 256 by 64 -/
theorem quot : ∀ i : Fin 256, Scalar.select
        (IntOp.andi
          (IntOp.cmpi CmpIPredicate.ne
            (if BitVec.ofNat 32 i.val = 0 then 0 else if (BitVec.ofNat 32 i.val).msb = true then -1 else 1)
            (if 64#32 = 0 then 0 else if (64#32).msb = true then -1 else (1 : BitVec 32)))
          (IntOp.cmpi CmpIPredicate.ne (IntOp.remsi ArithUnit.host (BitVec.ofNat 32 i.val) 64#32) 0#32))
        (IntOp.subi (IntOp.divsi ArithUnit.host (BitVec.ofNat 32 i.val) 64#32) 1#32)
        (IntOp.divsi ArithUnit.host (BitVec.ofNat 32 i.val) 64#32) =
      BitVec.ofNat 32 (i.val / 64) := by
  decide +kernel

theorem fq0 (i j : Fin 256) : fq (iotaInDim S256x256 32 0) (constantI S_ 32 64#32) (ix2 i j) = BitVec.ofNat 32 (i.val / 64) := by
  unfold fq
  pointwise
  exact quot i

theorem fq1 (i j : Fin 256) : fq (iotaInDim S256x256 32 1) (constantI S_ 32 64#32) (ix2 i j) = BitVec.ofNat 32 (j.val / 64) := by
  unfold fq
  pointwise
  exact quot j

/-- whether two such quotients agree, as a number -/
theorem same (i j : Fin 256) : FloatOps.uitofp (F := Ideal) FTy.f32 (IntOp.cmpi CmpIPredicate.eq (BitVec.ofNat 32 (i.val / 64)) (BitVec.ofNat 32 (j.val / 64)))
    = if i.val / 64 = j.val / 64 then (1 : EReal) else 0 := by
  have e : IntOp.cmpi CmpIPredicate.eq (BitVec.ofNat 32 (i.val / 64)) (BitVec.ofNat 32 (j.val / 64)) = if i.val / 64 = j.val / 64 then 1#1 else 0#1 := by
    have hi := i.isLt
    have hj := j.isLt
    by_cases h : i.val / 64 = j.val / 64
    · rw [if_pos h, h]; simp [IntOp.cmpi]
    · rw [if_neg h]
      have hn : BitVec.ofNat 32 (i.val / 64) ≠ BitVec.ofNat 32 (j.val / 64) := fun q => h (by
        have := congrArg BitVec.toNat q
        simp only [BitVec.toNat_ofNat] at this
        omega)
      unfold IntOp.cmpi
      simp only [beq_eq_false_iff_ne.mpr hn]
      rfl
  rw [e]
  by_cases h : i.val / 64 = j.val / 64
  · rw [if_pos h, if_pos h]
    show (((1#1 : BitVec 1).toNat : ℝ) : EReal) = 1
    norm_num
  · rw [if_neg h, if_neg h]
    show (((0#1 : BitVec 1).toNat : ℝ) : EReal) = 0
    norm_num

variable (m : (l : Loc nD τ sig) → Buf (Elt Ideal) l) (c : Dev nD)

theorem V_split (b : Ref sig .tc) : V m c b = StableHlo.after hostOps0_4 (StableHlo.after hostOps0_3 (StableHlo.after hostOps0_2 (StableHlo.after hostOps0_1 (StableHlo.after hostOps0 (fun b => m (c, b)))))) b := by
  simp only [V, List.flatten_cons, List.flatten_nil, List.append_nil, StableHlo.after_append]

theorem V_z (x : Vec Ideal S8192x1024 .f32) (g : Vec Ideal S1x1024 .f32) (w : Vec Ideal S1024x3072 .f32)
    (hx : m ((c : Thread nD τ).loc main_arg0) = x) (hg : m ((c : Thread nD τ).loc main_arg1) = g) (hw : m ((c : Thread nD τ).loc main_arg2) = w)
    (r : Fin 8192) (j : Fin 1024) :
    (V m c main_v22 : Vec Ideal S8192x1024 .bf16) (ix2 r j)
      = (∑ k : Fin 1024, x (ix2 r k) * Ideal.rsqrt (Ideal.div (∑ d : Fin 1024, x (ix2 r d) * x (ix2 r d)) (Ideal.ofBits .f32 0x44800000#32) + Ideal.ofBits .f32 0x358637BD#32)
          * g (ix2 0 k) * w (ix2 k ⟨1536 + j.val, by omega⟩) : EReal) := by
  rw [V_split]
  exact host_z _ x g w ((keep_arg0 _).trans hx) ((keep_arg1 _).trans hg) ((keep_arg2 _).trans hw) r j

theorem V_bd (i j : Fin 256) : (V m c main_v6 : Vec Ideal S256x256 .bf16) (ix2 i j) = if i.val / 64 = j.val / 64 then (1 : EReal) else 0 := by
  rw [V_split, host_eq, keep_3, keep_2, host_q, host_0, host_c, host_r, host_2, host_c2]
  pointwise
  rw [fq0, fq1]
  exact same i j

/-- the ten arrays in the launch memory -/
def ins : Ins where
  x := m ((c : Thread nD τ).loc main_arg0)
  g := m ((c : Thread nD τ).loc main_arg1)
  w := m ((c : Thread nD τ).loc main_arg2)
  qg := m ((c : Thread nD τ).loc main_arg3)
  kg := m ((c : Thread nD τ).loc main_arg4)
  dx1 := m ((c : Thread nD τ).loc main_arg5)
  dzc := m ((c : Thread nD τ).loc main_arg6)
  dq := m ((c : Thread nD τ).loc main_arg7)
  dk := m ((c : Thread nD τ).loc main_arg8)
  dv := m ((c : Thread nD τ).loc main_arg9)

/-- the index maps of the windows, decided over the points -/
theorem idx : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val, 0]
    ∧ win0_13.index t = ![0, 0]
    ∧ win0_14.index t = ![0, 0]
    ∧ win0_15.index t = ![0, 0] :=
  (by decide +kernel : ∀ t : Fin grid0.N, _)

variable (t : Fin cfg0.N)

theorem at_dq (r : Fin 512) (j : Fin 512) : iblk m c 0 t (ix2 r j) = rq (ins m c).dq (512 * t.val + r.val) j := by
  have hr := r.isLt
  have ht : t.val < 16 := t.isLt
  rw [rq_of_lt _ _ _ (by omega), ins]
  dsimp only
  blk_point [iblk, V, idx t]

theorem at_dk (r : Fin 512) (j : Fin 512) : iblk m c 1 t (ix2 r j) = rq (ins m c).dk (512 * t.val + r.val) j := by
  have hr := r.isLt
  have ht : t.val < 16 := t.isLt
  rw [rq_of_lt _ _ _ (by omega), ins]
  dsimp only
  blk_point [iblk, V, idx t]

theorem at_dv (r : Fin 512) (j : Fin 512) : iblk m c 2 t (ix2 r j) = rq (ins m c).dv (512 * t.val + r.val) j := by
  have hr := r.isLt
  have ht : t.val < 16 := t.isLt
  rw [rq_of_lt _ _ _ (by omega), ins]
  dsimp only
  blk_point [iblk, V, idx t]

theorem at_dzc (r : Fin 512) (j : Fin 1536) : iblk m c 3 t (ix2 r j) = rc (ins m c).dzc (512 * t.val + r.val) j := by
  have hr := r.isLt
  have ht : t.val < 16 := t.isLt
  rw [rc_of_lt _ _ _ (by omega), ins]
  dsimp only
  blk_simp [iblk]
  entry_read
  pointwise
  blk_point [idx t]

theorem at_x (r : Fin 512) (d : Fin 1024) : iblk m c 5 t (ix2 r d) = rd (ins m c).x (512 * t.val + r.val) d := by
  have hr := r.isLt
  have ht : t.val < 16 := t.isLt
  rw [rd_of_lt _ _ _ (by omega), ins]
  dsimp only
  blk_point [iblk, V, idx t]

theorem at_dx1 (r : Fin 512) (d : Fin 1024) : iblk m c 6 t (ix2 r d) = rd (ins m c).dx1 (512 * t.val + r.val) d := by
  have hr := r.isLt
  have ht : t.val < 16 := t.isLt
  rw [rd_of_lt _ _ _ (by omega), ins]
  dsimp only
  blk_point [iblk, V, idx t]

theorem at_g (d : Fin 1024) : iblk m c 7 t (ix2 0 d) = (ins m c).g (ix2 0 d) := by
  rw [ins]
  dsimp only
  blk_point [iblk, V, idx t]

theorem at_qg (d : Fin 512) : iblk m c 9 t (ix2 0 d) = (ins m c).qg (ix2 0 d) := by
  rw [ins]
  dsimp only
  blk_point [iblk, V, idx t]

theorem at_kg (d : Fin 512) : iblk m c 10 t (ix2 0 d) = (ins m c).kg (ix2 0 d) := by
  rw [ins]
  dsimp only
  blk_point [iblk, V, idx t]

theorem at_w (k : Fin 1024) (f : Fin 3072) : iblk m c 8 t (ix2 k f) = (ins m c).w (ix2 k f) := by
  rw [ins]
  dsimp only
  blk_simp [iblk]
  entry_read
  pointwise
  blk_point [idx t]

theorem at_zqk (r : Fin 512) (j : Fin 1024) : iblk m c 4 t (ix2 r j) = (ins m c).z (512 * t.val + r.val) ⟨1536 + j.val, by omega⟩ := by
  have hr := r.isLt
  have ht : t.val < 16 := t.isLt
  have e := V_z m c _ _ _ rfl rfl rfl ⟨512 * t.val + r.val, by omega⟩ j
  unfold Ins.z Ins.h Ins.xh Ins.rs Ins.ms
  simp only [rd_of_lt _ _ _ (show 512 * t.val + r.val < 8192 by omega), ins]
  refine Eq.trans ?_ e
  clear e
  blk_simp [iblk]
  generalize V m c main_v22 = Z
  blk_point [idx t]

theorem at_bd (i j : Fin 256) : iblk m c 11 t (ix2 i j) = if i.val / 64 = j.val / 64 then (1 : EReal) else 0 := by
  refine Eq.trans ?_ (V_bd m c i j)
  blk_simp [iblk]
  generalize V m c main_v6 = Z
  blk_point [idx t]

end Cert.Kernel4Ideal.Inp
end
-- ==== Proof.InH.lean ====
module

public import proofs.«01_k».proof.Proof.InG

@[expose] public section

set_option maxRecDepth 16384

noncomputable section

/-! The sums of the input projection's backward pass run over the rows seen so far, and the five result arrays are the gradients. -/
namespace Cert.Kernel4Ideal.Inp
open Cert.Kernel4Ideal Cert.Kernel4Ideal.Gen
open Idealize.ShloMosaic Idealize.ShloMosaic.TcCoe Idealize.SL.Sem
open Cert.KernelIdeal.Grad (rd rd_of_lt rd_of_ge)

/-- a sum that starts at zero at the first point and adds its point's rows at every point is, after a point, the sum of the
rows seen so far -/
theorem upto (term : ℕ → EReal) (v : (n : ℕ) → n < cfg0.N → EReal)
    (first : ∀ (n : ℕ) (hn : n < cfg0.N), n % 16 = 0 → v n hn = 0 + ∑ r : Fin 512, term (512 * n + r.val))
    (next : ∀ (n : ℕ) (hn : n < cfg0.N), ¬n % 16 = 0 →
      v n hn = v (n - 1) (Nat.lt_of_le_of_lt (Nat.sub_le _ _) hn) + ∑ r : Fin 512, term (512 * n + r.val)) :
    ∀ (n : ℕ) (hn : n < cfg0.N), v n hn = ∑ r ∈ Finset.range (512 * (n + 1)), term r := by
  have ext : ∀ b : ℕ, (∑ r ∈ Finset.range (512 * b), term r) + ∑ r : Fin 512, term (512 * b + r.val)
      = ∑ r ∈ Finset.range (512 * (b + 1)), term r := fun b => by
    rw [Nat.mul_add, Finset.sum_range_add, Finset.sum_range (fun r => term (512 * b + r))]
  intro n
  induction n with
  | zero =>
    intro hn
    rw [first 0 hn rfl, ← ext 0, Nat.mul_zero, Finset.range_zero, Finset.sum_empty]
  | succ n ih =>
    intro hn
    have hN : n + 1 < 16 := hn
    rw [next _ hn (by omega), ← ext (n + 1)]
    exact congrArg (· + _) (ih (Nat.lt_of_succ_lt hn))

/-- … so after the last point it is the sum over all the rows. -/
theorem upto_last (term : ℕ → EReal) (n : ℕ) (hn : n < cfg0.N) (h : n % 16 = 15) :
    (∑ r ∈ Finset.range (512 * (n + 1)), term r) = ∑ r : Fin 8192, term r.val := by
  have hN : n < 16 := hn
  have e : n = 15 := by omega
  rw [e, show 512 * (15 + 1) = 8192 from rfl, Finset.sum_range]

theorem pay10_at (k : Fin 1024) (f : Fin 3072) : k0_pay10 (F := Ideal) (ix2 k f) = 0 := by pointwise [k0_pay10]
theorem pay11_at (d : Fin 1024) : k0_pay11 (F := Ideal) (ix2 0 d) = 0 := by pointwise [k0_pay11]
theorem pay12_at (d : Fin 512) : k0_pay12 (F := Ideal) (ix2 0 d) = 0 := by pointwise [k0_pay12]
theorem pay13_at (d : Fin 512) : k0_pay13 (F := Ideal) (ix2 0 d) = 0 := by pointwise [k0_pay13]

variable (m : (l : Loc nD τ sig) → Buf (Elt Ideal) l) (c : Dev nD)

set_option maxHeartbeats 2000000 in
/-- the blocks of a point are the arrays' -/
theorem has (t : Fin cfg0.N) : Has (ins m c) (pt m c t) t.val := by
  constructor
  · exact fun r j => at_dq m c t r j
  · exact fun r j => at_dk m c t r j
  · exact fun r j => at_dv m c t r j
  · exact fun r j => at_dzc m c t r j
  · exact fun r j => at_zqk m c t r j
  · exact fun r j => at_x m c t r j
  · exact fun r j => at_dx1 m c t r j
  · exact fun d => at_g m c t d
  · exact fun k f => at_w m c t k f
  · exact fun j => at_qg m c t j
  · exact fun j => at_kg m c t j
  · exact fun i j => at_bd m c t i j

variable (T : Tame (ins m c)) (t : Fin cfg0.N)
include T

theorem dx_at (r : Fin 512) (d : Fin 1024) : (outsAt0 m c t.val t.isLt).1 (ix2 r d) = (ins m c).dx (512 * t.val + r.val) d := by
  by_cases h0 : t.val % 16 = 0
  · have e := congrArg (fun p => p.1 (ix2 r d)) (outs_first m c t h0)
    exact e.trans ((has m c t).dx T r d)
  · have e := congrArg (fun p => p.1 (ix2 r d)) (outs_next m c t h0)
    exact e.trans ((has m c t).dx T r d)

theorem dg_at (d : Fin 1024) : (outsAt0 m c t.val t.isLt).2.1 (ix2 0 d)
    = ∑ r ∈ Finset.range (512 * (t.val + 1)), (ins m c).dh r d * (ins m c).xh r d := by
  refine upto (fun r => (ins m c).dh r d * (ins m c).xh r d) (fun n hn => (outsAt0 m c n hn).2.1 (ix2 0 d)) ?_ ?_ t.val t.isLt
  · intro n hn h
    have e := congrArg (fun p => p.2.1 (ix2 0 d)) (outs_first m c ⟨n, hn⟩ h)
    exact e.trans (((has m c ⟨n, hn⟩).dg T _ d).trans (congrArg (· + _) (pay11_at d)))
  · intro n hn h
    have e := congrArg (fun p => p.2.1 (ix2 0 d)) (outs_next m c ⟨n, hn⟩ h)
    exact e.trans ((has m c ⟨n, hn⟩).dg T _ d)

theorem dw_at (k : Fin 1024) (f : Fin 3072) : (outsAt0 m c t.val t.isLt).2.2.2.2 (ix2 k f)
    = ∑ r ∈ Finset.range (512 * (t.val + 1)), (ins m c).h r k * (ins m c).dz r f := by
  refine upto (fun r => (ins m c).h r k * (ins m c).dz r f) (fun n hn => (outsAt0 m c n hn).2.2.2.2 (ix2 k f)) ?_ ?_ t.val t.isLt
  · intro n hn h
    have e := congrArg (fun p => p.2.2.2.2 (ix2 k f)) (outs_first m c ⟨n, hn⟩ h)
    exact e.trans (((has m c ⟨n, hn⟩).dw T _ k f).trans (congrArg (· + _) (pay10_at k f)))
  · intro n hn h
    have e := congrArg (fun p => p.2.2.2.2 (ix2 k f)) (outs_next m c ⟨n, hn⟩ h)
    exact e.trans ((has m c ⟨n, hn⟩).dw T _ k f)

theorem dqg_at (j : Fin 512) : (outsAt0 m c t.val t.isLt).2.2.1 (ix2 0 j)
    = ∑ r ∈ Finset.range (512 * (t.val + 1)), rq (ins m c).dq r j * hn ((ins m c).zq r) j := by
  refine upto (fun r => rq (ins m c).dq r j * hn ((ins m c).zq r) j) (fun n hn => (outsAt0 m c n hn).2.2.1 (ix2 0 j)) ?_ ?_ t.val t.isLt
  · intro n hn h
    have e := congrArg (fun p => p.2.2.1 (ix2 0 j)) (outs_first m c ⟨n, hn⟩ h)
    exact e.trans (((has m c ⟨n, hn⟩).dqg T _ j).trans (congrArg (· + _) (pay12_at j)))
  · intro n hn h
    have e := congrArg (fun p => p.2.2.1 (ix2 0 j)) (outs_next m c ⟨n, hn⟩ h)
    exact e.trans ((has m c ⟨n, hn⟩).dqg T _ j)

theorem dkg_at (j : Fin 512) : (outsAt0 m c t.val t.isLt).2.2.2.1 (ix2 0 j)
    = ∑ r ∈ Finset.range (512 * (t.val + 1)), rq (ins m c).dk r j * hn ((ins m c).zk r) j := by
  refine upto (fun r => rq (ins m c).dk r j * hn ((ins m c).zk r) j) (fun n hn => (outsAt0 m c n hn).2.2.2.1 (ix2 0 j)) ?_ ?_ t.val t.isLt
  · intro n hn h
    have e := congrArg (fun p => p.2.2.2.1 (ix2 0 j)) (outs_first m c ⟨n, hn⟩ h)
    exact e.trans (((has m c ⟨n, hn⟩).dkg T _ j).trans (congrArg (· + _) (pay13_at j)))
  · intro n hn h
    have e := congrArg (fun p => p.2.2.2.1 (ix2 0 j)) (outs_next m c ⟨n, hn⟩ h)
    exact e.trans ((has m c ⟨n, hn⟩).dkg T _ j)

theorem final_dx : (dats m 0 c).arrAt 12 cfg0.N = (ins m c).DX := by
  refine (dats m 0 c).arrAt_eq_of_covers 12 _ (by decide +kernel) fun t _ y => ?_
  blk_simp
  rw [after0_12]
  idx_vars y
  have h0 := y0.isLt
  have ht : t.val < 16 := t.isLt
  have e : ((View.whole main_v24_0).slice (win0_12.rect t)).emb (ix2 y0 y1) = ix2 ⟨512 * t.val + y0.val, by omega⟩ y1 := by
    blk_ext [idx t]
  rw [e]
  exact dx_at m c T t y0 y1

theorem final_dg : (dats m 0 c).arrAt 13 cfg0.N = (ins m c).DG := by
  refine (dats m 0 c).arrAt_eq_of_covers 13 _ (by decide +kernel) fun t hf y => ?_
  have hl := (flush0_13 t).mp hf
  blk_simp
  rw [after0_13]
  idx_vars y
  obtain rfl : y0 = 0 := Subsingleton.elim _ _
  have e : ((View.whole main_v24_2).slice (win0_13.rect t)).emb (ix2 0 y1) = ix2 0 y1 := by
    blk_ext [idx t]
  rw [e]
  exact (dg_at m c T t y1).trans (upto_last _ _ t.isLt hl)

theorem final_dqg : (dats m 0 c).arrAt 14 cfg0.N = (ins m c).DQG := by
  refine (dats m 0 c).arrAt_eq_of_covers 14 _ (by decide +kernel) fun t hf y => ?_
  have hl := (flush0_14 t).mp hf
  blk_simp
  rw [after0_14]
  idx_vars y
  obtain rfl : y0 = 0 := Subsingleton.elim _ _
  have e : ((View.whole main_v24_3).slice (win0_14.rect t)).emb (ix2 0 y1) = ix2 0 y1 := by
    blk_ext [idx t]
  rw [e]
  exact (dqg_at m c T t y1).trans (upto_last _ _ t.isLt hl)

theorem final_dkg : (dats m 0 c).arrAt 15 cfg0.N = (ins m c).DKG := by
  refine (dats m 0 c).arrAt_eq_of_covers 15 _ (by decide +kernel) fun t hf y => ?_
  have hl := (flush0_15 t).mp hf
  blk_simp
  rw [after0_15]
  idx_vars y
  obtain rfl : y0 = 0 := Subsingleton.elim _ _
  have e : ((View.whole main_v24_4).slice (win0_15.rect t)).emb (ix2 0 y1) = ix2 0 y1 := by
    blk_ext [idx t]
  rw [e]
  exact (dkg_at m c T t y1).trans (upto_last _ _ t.isLt hl)

theorem final_dw : hb m c 16 = (ins m c).DW := by
  unfold hb
  rw [if_pos rfl]
  funext y
  idx_vars y
  refine (put_at c _ _ y0 y1 y2).trans ?_
  exact (dw_at m c T lastPt _ _).trans (upto_last _ _ lastPt.isLt rfl)

end Cert.Kernel4Ideal.Inp
end
-- ==== Proof.InR.lean ====
module

public import proofs.«01_k».proof.Proof.InH
public import proofs.«01_k».proof.Proof.Gen.Reference4Ideal.Read
public import proofs.«01_k».proof.Pre_finite4

@[expose] public section

set_option maxRecDepth 16384

noncomputable section

/-! The projection reference's results are the gradients of the projection. Those that pass through a norm are so when
the inputs are real: the norm's gradient is then the same real number in the two orders. -/
namespace Cert.Reference4Ideal.Inp
open Cert.Reference4Ideal Cert.Reference4Ideal.Gen Cert.Reference4Ideal.Read
open Cert.KernelIdeal.Grad (rd rd_of_lt)
open Cert.ReferenceIdeal.Grad (rd_at IsReal isReal_of_cmp)
open Cert.Kernel3Ideal.Ple (cD)
open Cert.Kernel4Ideal.Inp
open Idealize.ShloMosaic Idealize.ShloMosaic.TcCoe Idealize.SL.Sem

/-- column `c` of head `a` -/
def col (a : Fin 8) (c : Fin 64) : Fin 512 := ⟨64 * a.val + c.val, by omega⟩

theorem hc_col (a : Fin 8) (c c' : Fin 64) : hc (col a c) c' = col a c' := by
  unfold hc col
  ext
  dsimp only
  omega

theorem col_div_mod (j : Fin 512) : col ⟨j.val / 64, by omega⟩ ⟨j.val % 64, by omega⟩ = j := by
  unfold col
  ext
  dsimp only
  omega

theorem div_cC (x : EReal) : Ideal.div x cC = x * cS := by
  rw [cC_eq, cS_eq, Ideal.div_coe (by norm_num)]

variable (A : Ins)

theorem msR (r : Fin 8192) : val_main_v6 (F := Ideal) A.x (ix2 r 0) = A.ms r.val := by
  unfold Ins.ms
  simp only [rd_at]
  pointwise [val_main_v6, val_main_v5, val_main_cst_1, val_main_v4, val_main_v3, val_main_cst_0, val_main_v2, val_main_v1, val_main_cst, val_main_v0]
  rfl

theorem rsR (r : Fin 8192) : val_main_v7 (F := Ideal) A.x (ix2 r 0) = A.rs r.val := by
  unfold Ins.rs
  rw [← msR]
  pointwise [val_main_v7]

theorem nR (r : Fin 8192) : val_main_v10 (F := Ideal) A.x (ix2 r 0)
    = Ideal.ofBits FTy.f32 0xBF000000#32 * Ideal.div (A.rs r.val) (A.ms r.val) := by
  pointwise [val_main_v10, val_main_v9, val_main_cst_2, val_main_v8]
  rw [rsR, msR]

theorem xhR (r : Fin 8192) (d : Fin 1024) : val_main_v12 (F := Ideal) A.x (ix2 r d) = A.xh r.val d := by
  unfold Ins.xh
  pointwise [val_main_v12, val_main_v11]
  rw [rsR, rd_at]

theorem hR (r : Fin 8192) (d : Fin 1024) : val_main_v14 (F := Ideal) A.x A.g (ix2 r d) = A.h r.val d := by
  unfold Ins.h
  pointwise [val_main_v14, val_main_v13]
  rw [xhR]

theorem zR (r : Fin 8192) (f : Fin 3072) : val_main_v15 (F := Ideal) A.x A.g A.w (ix2 r f) = A.z r.val f := by
  unfold Ins.z
  pointwise [val_main_v15]
  simp only [hR]

/-! ### The queries -/

theorem qzR (r : Fin 8192) (a : Fin 8) (c : Fin 64) :
    val_main_v20 (F := Ideal) A.x A.g A.w (ix3 r a c) = A.zq r.val (col a c) := by
  unfold Ins.zq
  rw [← zR, val_main_v20_apply, val_main_v17_apply]
  refine congrArg (val_main_v15 (F := Ideal) A.x A.g A.w) ?_
  have hr := r.isLt
  have ha := a.isLt
  have hc := c.isLt
  funext b
  match b with
  | ⟨0, _⟩ =>
    refine Fin.ext ?_
    show ((r.val * 8 + a.val) * 64 + c.val) / 512 = r.val
    omega
  | ⟨1, _⟩ =>
    refine Fin.ext ?_
    show 1536 + ((r.val * 8 + a.val) * 64 + c.val) % 512 = 1536 + (64 * a.val + c.val)
    omega

theorem qdR (r : Fin 8192) (a : Fin 8) (c : Fin 64) :
    val_main_v78 (F := Ideal) A.dq (ix3 r a c) = rq A.dq r.val (col a c) := by
  rw [rq_at, val_main_v78_apply]
  refine congrArg A.dq ?_
  have hr := r.isLt
  have ha := a.isLt
  have hc := c.isLt
  funext b
  match b with
  | ⟨0, _⟩ =>
    refine Fin.ext ?_
    show ((r.val * 8 + a.val) * 64 + c.val) / 512 = r.val
    omega
  | ⟨1, _⟩ =>
    refine Fin.ext ?_
    show ((r.val * 8 + a.val) * 64 + c.val) % 512 = 64 * a.val + c.val
    omega

theorem qsR (a : Fin 8) (c : Fin 64) : val_main_v21 (F := Ideal) A.qg (ix3 0 a c) = A.qg (ix2 0 (col a c)) := by
  rw [val_main_v21_apply]
  refine congrArg A.qg ?_
  have ha := a.isLt
  have hc := c.isLt
  funext b
  match b with
  | ⟨0, _⟩ =>
    refine Fin.ext ?_
    show (0 : ℕ) = 0
    rfl
  | ⟨1, _⟩ =>
    refine Fin.ext ?_
    show ((0 * 8 + a.val) * 64 + c.val) % 512 = 64 * a.val + c.val
    omega

theorem qvR (r : Fin 8192) (a : Fin 8) (c : Fin 64) :
    val_main_v28 (F := Ideal) A.x A.g A.w (ix3 r a 0) = hv (A.zq r.val) (col a c) := by
  unfold hv
  simp only [hc_col, ← div_cC]
  pointwise [val_main_v28, val_main_v27, val_main_cst_5, val_main_v26, val_main_v25, val_main_cst_4, val_main_v24, val_main_v23, val_main_cst_3, val_main_v22]
  simp only [qzR]
  rfl

theorem qrR (r : Fin 8192) (a : Fin 8) (c : Fin 64) :
    val_main_v29 (F := Ideal) A.x A.g A.w (ix3 r a 0) = hr (A.zq r.val) (col a c) := by
  unfold hr
  rw [← qvR]
  pointwise [val_main_v29]

theorem qnR (r : Fin 8192) (a : Fin 8) (c : Fin 64) : val_main_v32 (F := Ideal) A.x A.g A.w (ix3 r a 0)
    = Ideal.ofBits FTy.f32 0xBF000000#32 * Ideal.div (hr (A.zq r.val) (col a c)) (hv (A.zq r.val) (col a c)) := by
  pointwise [val_main_v32, val_main_v31, val_main_cst_6, val_main_v30]
  rw [qrR A r a c, qvR A r a c]

theorem qhR (r : Fin 8192) (a : Fin 8) (c : Fin 64) :
    val_main_v34 (F := Ideal) A.x A.g A.w (ix3 r a c) = hn (A.zq r.val) (col a c) := by
  unfold hn
  pointwise [val_main_v34, val_main_v33]
  rw [qzR, qrR A r a c]

theorem qdsR (r : Fin 8192) (a : Fin 8) (c : Fin 64) :
    val_main_v83 (F := Ideal) A.qg A.dq (ix3 r a c) = rq A.dq r.val (col a c) * A.qg (ix2 0 (col a c)) := by
  pointwise [val_main_v83, val_main_v82]
  rw [qdR, qsR]

theorem quR (r : Fin 8192) (a : Fin 8) (c : Fin 64) : val_main_v92 (F := Ideal) A.x A.g A.w A.qg A.dq (ix2 r a)
    = Ideal.div ((∑ c' : Fin 64, A.zq r.val (hc (col a c) c') * (rq A.dq r.val (hc (col a c) c') * A.qg (ix2 0 (hc (col a c) c'))))
        * (Ideal.ofBits FTy.f32 0xBF000000#32 * Ideal.div (hr (A.zq r.val) (col a c)) (hv (A.zq r.val) (col a c)))) cC := by
  simp only [hc_col]
  pointwise [val_main_v92, val_main_cst_18, val_main_v91, val_main_v90, val_main_cst_17, val_main_v89, val_main_v86, val_main_v85, val_main_cst_16, val_main_v84]
  simp only [Fin.sum_univ_one, qnR A r a c, qzR, qdsR]
  rfl

theorem qgR3 (T : Tame A) (r : Fin 8192) (a : Fin 8) (c : Fin 64) :
    val_main_v97 (F := Ideal) A.x A.g A.w A.qg A.dq (ix3 r a c) = A.gq r.val (col a c) := by
  unfold Ins.gq
  have hz : ∀ j, IsReal (A.zq r.val j) := fun _ => T.z _ _
  rw [← head_grad hz (real_rq _ T.dq _) (fun _ => T.qg _)]
  pointwise [val_main_v97, val_main_v96, val_main_v95, val_main_v94, val_main_v93, val_main_v88, val_main_v87]
  rw [quR A r a c, qzR, qdsR, qrR A r a c]

theorem qgR (T : Tame A) (r : Fin 8192) (j : Fin 512) :
    val_main_v99 (F := Ideal) A.x A.g A.w A.qg A.dq (ix2 r j) = A.gq r.val j := by
  rw [← col_div_mod j, ← qgR3 A T, val_main_v99_apply]
  refine congrArg (val_main_v97 (F := Ideal) A.x A.g A.w A.qg A.dq) ?_
  rw [col_div_mod]
  have hr := r.isLt
  have hj := j.isLt
  funext b
  match b with
  | ⟨0, _⟩ =>
    refine Fin.ext ?_
    show (r.val * 512 + j.val) / 512 = r.val
    omega
  | ⟨1, _⟩ =>
    refine Fin.ext ?_
    show (r.val * 512 + j.val) / 64 % 8 = j.val / 64
    omega
  | ⟨2, _⟩ =>
    refine Fin.ext ?_
    show (r.val * 512 + j.val) % 64 = j.val % 64
    omega

theorem qgsR (a : Fin 8) (c : Fin 64) : val_main_v80 (F := Ideal) A.x A.g A.w A.dq (ix2 a c)
    = ∑ r : Fin 8192, rq A.dq r.val (col a c) * hn (A.zq r.val) (col a c) := by
  pointwise [val_main_v80, val_main_cst_15, val_main_v79]
  simp only [qhR, qdR]
  exact Finset.sum_congr rfl fun r _ => mul_comm _ _

theorem res_dqg : val_main_v98 (F := Ideal) A.x A.g A.w A.dq = A.DQG := by
  funext i
  idx_vars i
  show _ = ∑ r : Fin 8192, rq A.dq r.val i1 * hn (A.zq r.val) i1
  rw [← col_div_mod i1, ← qgsR, val_main_v98_apply, val_main_v81_apply, col_div_mod]
  refine congrArg (val_main_v80 (F := Ideal) A.x A.g A.w A.dq) ?_
  obtain rfl : i0 = 0 := Subsingleton.elim _ _
  have h1 := i1.isLt
  funext b
  match b with
  | ⟨0, _⟩ =>
    refine Fin.ext ?_
    show ((0 * 8 + (0 * 512 + i1.val) / 64 % 8) * 64 + (0 * 512 + i1.val) % 64) / 64 = i1.val / 64
    omega
  | ⟨1, _⟩ =>
    refine Fin.ext ?_
    show ((0 * 8 + (0 * 512 + i1.val) / 64 % 8) * 64 + (0 * 512 + i1.val) % 64) % 64 = i1.val % 64
    omega

/-! ### The keys -/

theorem kzR (r : Fin 8192) (a : Fin 8) (c : Fin 64) :
    val_main_v38 (F := Ideal) A.x A.g A.w (ix3 r a c) = A.zk r.val (col a c) := by
  unfold Ins.zk
  rw [← zR, val_main_v38_apply, val_main_v18_apply]
  refine congrArg (val_main_v15 (F := Ideal) A.x A.g A.w) ?_
  have hr := r.isLt
  have ha := a.isLt
  have hc := c.isLt
  funext b
  match b with
  | ⟨0, _⟩ =>
    refine Fin.ext ?_
    show ((r.val * 8 + a.val) * 64 + c.val) / 512 = r.val
    omega
  | ⟨1, _⟩ =>
    refine Fin.ext ?_
    show 2048 + ((r.val * 8 + a.val) * 64 + c.val) % 512 = 2048 + (64 * a.val + c.val)
    omega

theorem kdR (r : Fin 8192) (a : Fin 8) (c : Fin 64) :
    val_main_v56 (F := Ideal) A.dk (ix3 r a c) = rq A.dk r.val (col a c) := by
  rw [rq_at, val_main_v56_apply]
  refine congrArg A.dk ?_
  have hr := r.isLt
  have ha := a.isLt
  have hc := c.isLt
  funext b
  match b with
  | ⟨0, _⟩ =>
    refine Fin.ext ?_
    show ((r.val * 8 + a.val) * 64 + c.val) / 512 = r.val
    omega
  | ⟨1, _⟩ =>
    refine Fin.ext ?_
    show ((r.val * 8 + a.val) * 64 + c.val) % 512 = 64 * a.val + c.val
    omega

theorem ksR (a : Fin 8) (c : Fin 64) : val_main_v39 (F := Ideal) A.kg (ix3 0 a c) = A.kg (ix2 0 (col a c)) := by
  rw [val_main_v39_apply]
  refine congrArg A.kg ?_
  have ha := a.isLt
  have hc := c.isLt
  funext b
  match b with
  | ⟨0, _⟩ =>
    refine Fin.ext ?_
    show (0 : ℕ) = 0
    rfl
  | ⟨1, _⟩ =>
    refine Fin.ext ?_
    show ((0 * 8 + a.val) * 64 + c.val) % 512 = 64 * a.val + c.val
    omega

theorem kvR (r : Fin 8192) (a : Fin 8) (c : Fin 64) :
    val_main_v46 (F := Ideal) A.x A.g A.w (ix3 r a 0) = hv (A.zk r.val) (col a c) := by
  unfold hv
  simp only [hc_col, ← div_cC]
  pointwise [val_main_v46, val_main_v45, val_main_cst_9, val_main_v44, val_main_v43, val_main_cst_8, val_main_v42, val_main_v41, val_main_cst_7, val_main_v40]
  simp only [kzR]
  rfl

theorem krR (r : Fin 8192) (a : Fin 8) (c : Fin 64) :
    val_main_v47 (F := Ideal) A.x A.g A.w (ix3 r a 0) = hr (A.zk r.val) (col a c) := by
  unfold hr
  rw [← kvR]
  pointwise [val_main_v47]

theorem knR (r : Fin 8192) (a : Fin 8) (c : Fin 64) : val_main_v50 (F := Ideal) A.x A.g A.w (ix3 r a 0)
    = Ideal.ofBits FTy.f32 0xBF000000#32 * Ideal.div (hr (A.zk r.val) (col a c)) (hv (A.zk r.val) (col a c)) := by
  pointwise [val_main_v50, val_main_v49, val_main_cst_10, val_main_v48]
  rw [krR A r a c, kvR A r a c]

theorem khR (r : Fin 8192) (a : Fin 8) (c : Fin 64) :
    val_main_v52 (F := Ideal) A.x A.g A.w (ix3 r a c) = hn (A.zk r.val) (col a c) := by
  unfold hn
  pointwise [val_main_v52, val_main_v51]
  rw [kzR, krR A r a c]

theorem kdsR (r : Fin 8192) (a : Fin 8) (c : Fin 64) :
    val_main_v61 (F := Ideal) A.kg A.dk (ix3 r a c) = rq A.dk r.val (col a c) * A.kg (ix2 0 (col a c)) := by
  pointwise [val_main_v61, val_main_v60]
  rw [kdR, ksR]

theorem kuR (r : Fin 8192) (a : Fin 8) (c : Fin 64) : val_main_v70 (F := Ideal) A.x A.g A.w A.kg A.dk (ix2 r a)
    = Ideal.div ((∑ c' : Fin 64, A.zk r.val (hc (col a c) c') * (rq A.dk r.val (hc (col a c) c') * A.kg (ix2 0 (hc (col a c) c'))))
        * (Ideal.ofBits FTy.f32 0xBF000000#32 * Ideal.div (hr (A.zk r.val) (col a c)) (hv (A.zk r.val) (col a c)))) cC := by
  simp only [hc_col]
  pointwise [val_main_v70, val_main_cst_14, val_main_v69, val_main_v68, val_main_cst_13, val_main_v67, val_main_v64, val_main_v63, val_main_cst_12, val_main_v62]
  simp only [Fin.sum_univ_one, knR A r a c, kzR, kdsR]
  rfl

theorem kgR3 (T : Tame A) (r : Fin 8192) (a : Fin 8) (c : Fin 64) :
    val_main_v75 (F := Ideal) A.x A.g A.w A.kg A.dk (ix3 r a c) = A.gk r.val (col a c) := by
  unfold Ins.gk
  have hz : ∀ j, IsReal (A.zk r.val j) := fun _ => T.z _ _
  rw [← head_grad hz (real_rq _ T.dk _) (fun _ => T.kg _)]
  pointwise [val_main_v75, val_main_v74, val_main_v73, val_main_v72, val_main_v71, val_main_v66, val_main_v65]
  rw [kuR A r a c, kzR, kdsR, krR A r a c]

theorem kgR (T : Tame A) (r : Fin 8192) (j : Fin 512) :
    val_main_v77 (F := Ideal) A.x A.g A.w A.kg A.dk (ix2 r j) = A.gk r.val j := by
  rw [← col_div_mod j, ← kgR3 A T, val_main_v77_apply]
  refine congrArg (val_main_v75 (F := Ideal) A.x A.g A.w A.kg A.dk) ?_
  rw [col_div_mod]
  have hr := r.isLt
  have hj := j.isLt
  funext b
  match b with
  | ⟨0, _⟩ =>
    refine Fin.ext ?_
    show (r.val * 512 + j.val) / 512 = r.val
    omega
  | ⟨1, _⟩ =>
    refine Fin.ext ?_
    show (r.val * 512 + j.val) / 64 % 8 = j.val / 64
    omega
  | ⟨2, _⟩ =>
    refine Fin.ext ?_
    show (r.val * 512 + j.val) % 64 = j.val % 64
    omega

theorem kgsR (a : Fin 8) (c : Fin 64) : val_main_v58 (F := Ideal) A.x A.g A.w A.dk (ix2 a c)
    = ∑ r : Fin 8192, rq A.dk r.val (col a c) * hn (A.zk r.val) (col a c) := by
  pointwise [val_main_v58, val_main_cst_11, val_main_v57]
  simp only [khR, kdR]
  exact Finset.sum_congr rfl fun r _ => mul_comm _ _

theorem res_dkg : val_main_v76 (F := Ideal) A.x A.g A.w A.dk = A.DKG := by
  funext i
  idx_vars i
  show _ = ∑ r : Fin 8192, rq A.dk r.val i1 * hn (A.zk r.val) i1
  rw [← col_div_mod i1, ← kgsR, val_main_v76_apply, val_main_v59_apply, col_div_mod]
  refine congrArg (val_main_v58 (F := Ideal) A.x A.g A.w A.dk) ?_
  obtain rfl : i0 = 0 := Subsingleton.elim _ _
  have h1 := i1.isLt
  funext b
  match b with
  | ⟨0, _⟩ =>
    refine Fin.ext ?_
    show ((0 * 8 + (0 * 512 + i1.val) / 64 % 8) * 64 + (0 * 512 + i1.val) % 64) / 64 = i1.val / 64
    omega
  | ⟨1, _⟩ =>
    refine Fin.ext ?_
    show ((0 * 8 + (0 * 512 + i1.val) / 64 % 8) * 64 + (0 * 512 + i1.val) % 64) % 64 = i1.val % 64
    omega

/-! ### The projection -/

theorem dzR (T : Tame A) (r : Fin 8192) (f : Fin 3072) :
    val_main_v100 (F := Ideal) A.x A.g A.w A.qg A.kg A.dzc A.dq A.dk A.dv (ix2 r f) = A.dz r.val f := by
  unfold val_main_v100
  refine (cat4 (R := 8192) _ _ _ _ _ r f).trans ?_
  unfold Ins.dz
  simp only [qgR A T, kgR A T, rc_at, rq_at]

theorem dhR (T : Tame A) (r : Fin 8192) (d : Fin 1024) :
    val_main_v103 (F := Ideal) A.x A.g A.w A.qg A.kg A.dzc A.dq A.dk A.dv (ix2 r d) = A.dh r.val d := by
  unfold Ins.dh
  pointwise [val_main_v103]
  simp only [dzR A T]

theorem gdR (T : Tame A) (r : Fin 8192) (d : Fin 1024) :
    val_main_v108 (F := Ideal) A.x A.g A.w A.qg A.kg A.dzc A.dq A.dk A.dv (ix2 r d) = A.gd r.val d := by
  unfold Ins.gd
  pointwise [val_main_v108, val_main_v107]
  rw [dhR A T]

theorem uR (T : Tame A) (r : Fin 8192) : val_main_v117 (F := Ideal) A.x A.g A.w A.qg A.kg A.dzc A.dq A.dk A.dv (ix2 r 0)
    = Ideal.div ((∑ k, rd A.x r.val k * A.gd r.val k) * (Ideal.ofBits FTy.f32 0xBF000000#32 * Ideal.div (A.rs r.val) (A.ms r.val))) cD := by
  simp only [rd_at]
  pointwise [val_main_v117, val_main_v116, val_main_cst_21, val_main_v115, val_main_v111, val_main_v110, val_main_cst_20, val_main_v109]
  simp only [nR, gdR A T]
  rfl

theorem dxR (T : Tame A) (r : Fin 8192) (d : Fin 1024) :
    val_main_v123 (F := Ideal) A.x A.g A.w A.qg A.kg A.dx1 A.dzc A.dq A.dk A.dv (ix2 r d) = A.dx r.val d := by
  rw [← T.dx]
  pointwise [val_main_v123, val_main_v122, val_main_v121, val_main_v120, val_main_v119, val_main_v118, val_main_cst_22, val_main_v114, val_main_v113, val_main_v112]
  simp only [Fin.sum_univ_one, uR A T, gdR A T, rsR, rd_at]

theorem res_dx (T : Tame A) : val_main_v123 (F := Ideal) A.x A.g A.w A.qg A.kg A.dx1 A.dzc A.dq A.dk A.dv = A.DX := by
  funext i
  idx_vars i
  exact dxR A T i0 i1

theorem dwR (T : Tame A) (k : Fin 1024) (f : Fin 3072) :
    val_main_v102 (F := Ideal) A.x A.g A.w A.qg A.kg A.dzc A.dq A.dk A.dv (ix2 k f) = A.dw k f := by
  unfold Ins.dw
  pointwise [val_main_v102, val_main_v101]
  simp only [dzR A T, hR]
  exact Finset.sum_congr rfl fun r _ => mul_comm _ _

theorem res_dw (T : Tame A) : val_main_v126 (F := Ideal) A.x A.g A.w A.qg A.kg A.dzc A.dq A.dk A.dv = A.DW := by
  funext i
  idx_vars i
  have h0 := i0.isLt
  have h1 := i1.isLt
  have h2 := i2.isLt
  show _ = A.dw i1 ⟨384 * i0.val + i2.val, by omega⟩
  rw [← dwR A T, val_main_v126_apply, val_main_v125_apply, val_main_v124_apply]
  refine congrArg (val_main_v102 (F := Ideal) A.x A.g A.w A.qg A.kg A.dzc A.dq A.dk A.dv) ?_
  funext b
  match b with
  | ⟨0, _⟩ =>
    refine Fin.ext ?_
    show ((i1.val * 8 + i0.val) * 384 + i2.val) / 3072 = i1.val
    omega
  | ⟨1, _⟩ =>
    refine Fin.ext ?_
    show ((i1.val * 8 + i0.val) * 384 + i2.val) % 3072 = 384 * i0.val + i2.val
    omega

theorem res_dg (T : Tame A) : val_main_v106 (F := Ideal) A.x A.g A.w A.qg A.kg A.dzc A.dq A.dk A.dv = A.DG := by
  funext i
  idx_vars i
  obtain rfl : i0 = 0 := Subsingleton.elim _ _
  show _ = ∑ r : Fin 8192, A.dh r.val i1 * A.xh r.val i1
  pointwise [val_main_v106, val_main_v105, val_main_cst_19, val_main_v104]
  simp only [dhR A T, xhR]
  exact Finset.sum_congr rfl fun r _ => mul_comm _ _

/-! ### The precondition -/

/-- the side conditions the precondition's operations take -/
theorem pre_facts : Cert.Pre_finite4.Facts := ⟨by decide, by decide, by decide, by decide, by decide, by decide⟩

attribute [local instance] pre_facts

theorem tame_of_pre
    (h0 : (Cert.Pre_finite4.fn (F := Ideal) A.x A.g A.w A.qg A.kg A.dx1 A.dzc A.dq A.dk A.dv).1 = (fun _ => 1#1))
    (h1 : (Cert.Pre_finite4.fn (F := Ideal) A.x A.g A.w A.qg A.kg A.dx1 A.dzc A.dq A.dk A.dv).2.1 = (fun _ => 1#1))
    (h2 : (Cert.Pre_finite4.fn (F := Ideal) A.x A.g A.w A.qg A.kg A.dx1 A.dzc A.dq A.dk A.dv).2.2.1 = (fun _ => 1#1))
    (h3 : (Cert.Pre_finite4.fn (F := Ideal) A.x A.g A.w A.qg A.kg A.dx1 A.dzc A.dq A.dk A.dv).2.2.2.1 = (fun _ => 1#1))
    (h4 : (Cert.Pre_finite4.fn (F := Ideal) A.x A.g A.w A.qg A.kg A.dx1 A.dzc A.dq A.dk A.dv).2.2.2.2.1 = (fun _ => 1#1))
    (h5 : (Cert.Pre_finite4.fn (F := Ideal) A.x A.g A.w A.qg A.kg A.dx1 A.dzc A.dq A.dk A.dv).2.2.2.2.2.1 = (fun _ => 1#1))
    (h6 : (Cert.Pre_finite4.fn (F := Ideal) A.x A.g A.w A.qg A.kg A.dx1 A.dzc A.dq A.dk A.dv).2.2.2.2.2.2.1 = (fun _ => 1#1))
    (h7 : (Cert.Pre_finite4.fn (F := Ideal) A.x A.g A.w A.qg A.kg A.dx1 A.dzc A.dq A.dk A.dv).2.2.2.2.2.2.2.1 = (fun _ => 1#1))
    (h8 : (Cert.Pre_finite4.fn (F := Ideal) A.x A.g A.w A.qg A.kg A.dx1 A.dzc A.dq A.dk A.dv).2.2.2.2.2.2.2.2 = (fun _ => 1#1)) : Tame A := by
  refine ⟨fun i => isReal_of_cmp _ ?_, fun i => isReal_of_cmp _ ?_, fun i => isReal_of_cmp _ ?_, fun i => isReal_of_cmp _ ?_,
    fun i => isReal_of_cmp _ ?_, fun i => isReal_of_cmp _ ?_, fun i => isReal_of_cmp _ ?_, fun i => isReal_of_cmp _ ?_,
    fun i => isReal_of_cmp _ ?_⟩
  · refine Eq.trans ?_ (congrFun h0 i)
    idx_vars i
    pointwise [Cert.Pre_finite4.fn, Cert.Pre_finite4.fn_part1]
  · refine Eq.trans ?_ (congrFun h1 i)
    idx_vars i
    pointwise [Cert.Pre_finite4.fn, Cert.Pre_finite4.fn_part1]
  · refine Eq.trans ?_ (congrFun h2 i)
    idx_vars i
    pointwise [Cert.Pre_finite4.fn, Cert.Pre_finite4.fn_part1]
  · refine Eq.trans ?_ (congrFun h3 i)
    idx_vars i
    pointwise [Cert.Pre_finite4.fn, Cert.Pre_finite4.fn_part1]
  · refine Eq.trans ?_ (congrFun h4 i)
    idx_vars i
    pointwise [Cert.Pre_finite4.fn, Cert.Pre_finite4.fn_part1]
  · refine Eq.trans ?_ (congrFun h5 i)
    idx_vars i
    pointwise [Cert.Pre_finite4.fn, Cert.Pre_finite4.fn_part1]
  · refine Eq.trans ?_ (congrFun h6 i)
    idx_vars i
    pointwise [Cert.Pre_finite4.fn, Cert.Pre_finite4.fn_part1]
  · refine Eq.trans ?_ (congrFun h7 i)
    idx_vars i
    pointwise [Cert.Pre_finite4.fn, Cert.Pre_finite4.fn_part1]
  · refine Eq.trans ?_ (congrFun h8 i)
    idx_vars i
    pointwise [Cert.Pre_finite4.fn, Cert.Pre_finite4.fn_part1]

end Cert.Reference4Ideal.Inp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.InR
public import Idealize.ShloMosaic.Adequacy
public import Idealize.ShloMosaic.Init

@[expose] public section

noncomputable section

namespace Cert.Proof

open Idealize.ShloMosaic Idealize.SL.Sem Cert.Kernel

/-- The reference's frame: the generated run leaves its arguments alone, and it declares no semaphore. -/
theorem frame_ri : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

open Idealize.ShloMosaic.StableHlo (launchContents)
open Cert.KernelIdeal.Grad (args Args final_dh final_w0 final_w1 final_w2 final_dw final_db)
open Cert.ReferenceIdeal.Grad (tame_of_pre res_dh res_dd res_du res_dg res_dw res_db)
open Cert.ReferenceIdeal.Read (val_main_v191_eq val_main_v192_eq val_main_v194_eq val_main_v196_eq val_main_v69_eq val_main_v40_eq)

/-- the seven arrays in the reference's launch memory -/
def refArgs (m' : (l : Loc Cert.ReferenceIdeal.nD Cert.ReferenceIdeal.τ Cert.ReferenceIdeal.sig) → Buf (Elt Ideal) l) (c : Dev Cert.ReferenceIdeal.nD) : Args where
  h := m' ((c.tc : Thread Cert.ReferenceIdeal.nD Cert.ReferenceIdeal.τ).loc Cert.ReferenceIdeal.main_arg0)
  wg := m' ((c.tc : Thread Cert.ReferenceIdeal.nD Cert.ReferenceIdeal.τ).loc Cert.ReferenceIdeal.main_arg1)
  wu := m' ((c.tc : Thread Cert.ReferenceIdeal.nD Cert.ReferenceIdeal.τ).loc Cert.ReferenceIdeal.main_arg2)
  wd := m' ((c.tc : Thread Cert.ReferenceIdeal.nD Cert.ReferenceIdeal.τ).loc Cert.ReferenceIdeal.main_arg3)
  cw := m' ((c.tc : Thread Cert.ReferenceIdeal.nD Cert.ReferenceIdeal.τ).loc Cert.ReferenceIdeal.main_arg4)
  cb := m' ((c.tc : Thread Cert.ReferenceIdeal.nD Cert.ReferenceIdeal.τ).loc Cert.ReferenceIdeal.main_arg5)
  dy := m' ((c.tc : Thread Cert.ReferenceIdeal.nD Cert.ReferenceIdeal.τ).loc Cert.ReferenceIdeal.main_arg6)

/-- The value claim: both programs end with the six gradients of `Args`. -/
theorem value : Cert.algebraic_KernelIdeal_ReferenceIdeal_pre_finite (hKernelIdeal := Cert.KernelIdeal.Gen.facts)
    (hReferenceIdeal := Cert.ReferenceIdeal.Gen.facts) (hPre_finite := Cert.ReferenceIdeal.Grad.pre_facts) := by
  intro m g m' g' hpre hag
  have same : ∀ c, refArgs m' c = args m c := fun c => by
    obtain ⟨e0, e1, e2, e3, e4, e5, e6⟩ := hag c
    unfold refArgs args
    exact Args.mk.injEq .. |>.mpr ⟨e0, e1, e2, e3, e4, e5, e6⟩
  have tm : ∀ c, Cert.ReferenceIdeal.Grad.Args.Tame (refArgs m' c) := fun c => by
    rw [same c]
    exact tame_of_pre (args m c) (hpre c).1 (hpre c).2.1 (hpre c).2.2.1 (hpre c).2.2.2
  refine ⟨fun c => (args m c).DH, fun c => (args m c).DD, fun c => (args m c).DU, fun c => (args m c).DG,
    fun c => (args m c).DW, fun c => (args m c).DB, ?_, ?_⟩
  · exact (θ_run _ _ _).mono (fun r h c => ⟨(h c).1.trans (final_dh m c), (h c).2.1.trans (final_w0 m c),
      (h c).2.2.1.trans (final_w1 m c), (h c).2.2.2.1.trans (final_w2 m c), (h c).2.2.2.2.1.trans (final_dw m c),
      (h c).2.2.2.2.2.1.trans (final_db m c), (h c).2.2.2.2.2.2⟩) (Cert.KernelIdeal.Named.run_results m g)
  · refine (θ_run _ _ _).mono (fun r h c => ?_) (Cert.ReferenceIdeal.Value.run (F := Ideal) m' g')
    exact ⟨(h c).1.trans ((val_main_v191_eq (launchContents m' c)).trans ((res_dh (refArgs m' c) (tm c)).trans (congrArg Args.DH (same c)))),
      (h c).2.1.trans ((val_main_v192_eq (launchContents m' c)).trans ((res_dd (refArgs m' c)).trans (congrArg Args.DD (same c)))),
      (h c).2.2.1.trans ((val_main_v194_eq (launchContents m' c)).trans ((res_du (refArgs m' c)).trans (congrArg Args.DU (same c)))),
      (h c).2.2.2.1.trans ((val_main_v196_eq (launchContents m' c)).trans ((res_dg (refArgs m' c) (tm c)).trans (congrArg Args.DG (same c)))),
      (h c).2.2.2.2.1.trans ((val_main_v69_eq (launchContents m' c)).trans ((res_dw (refArgs m' c) (tm c)).trans (congrArg Args.DW (same c)))),
      (h c).2.2.2.2.2.1.trans ((val_main_v40_eq (launchContents m' c)).trans ((res_db (refArgs m' c) (tm c)).trans (congrArg Args.DB (same c)))),
      (h c).2.2.2.2.2.2⟩

/-- The forward reference's frame: the generated run leaves its arguments alone, and it declares no semaphore. -/
theorem frame_ri2 : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

open Cert.Kernel2Ideal.Fwd (Ins ins final_gp final_up final_h final_x2)
open Cert.Reference2Ideal.Fwd (res_gp res_up res_h res_x2)
open Cert.Reference2Ideal.Read (val_main_v43_eq val_main_v45_eq val_main_v46_eq val_main_v41_eq)

/-- the seven arrays in the forward reference's launch memory -/
def refIns (m' : (l : Loc Cert.Reference2Ideal.nD Cert.Reference2Ideal.τ Cert.Reference2Ideal.sig) → Buf (Elt Ideal) l) (c : Dev Cert.Reference2Ideal.nD) : Ins where
  x := m' ((c.tc : Thread Cert.Reference2Ideal.nD Cert.Reference2Ideal.τ).loc Cert.Reference2Ideal.main_arg0)
  g := m' ((c.tc : Thread Cert.Reference2Ideal.nD Cert.Reference2Ideal.τ).loc Cert.Reference2Ideal.main_arg1)
  wg := m' ((c.tc : Thread Cert.Reference2Ideal.nD Cert.Reference2Ideal.τ).loc Cert.Reference2Ideal.main_arg2)
  wu := m' ((c.tc : Thread Cert.Reference2Ideal.nD Cert.Reference2Ideal.τ).loc Cert.Reference2Ideal.main_arg3)
  wd := m' ((c.tc : Thread Cert.Reference2Ideal.nD Cert.Reference2Ideal.τ).loc Cert.Reference2Ideal.main_arg4)
  cw := m' ((c.tc : Thread Cert.Reference2Ideal.nD Cert.Reference2Ideal.τ).loc Cert.Reference2Ideal.main_arg5)
  cb := m' ((c.tc : Thread Cert.Reference2Ideal.nD Cert.Reference2Ideal.τ).loc Cert.Reference2Ideal.main_arg6)

/-- The forward value claim: both programs end with the four arrays of `Ins`. -/
theorem value2 : Cert.algebraic_Kernel2Ideal_Reference2Ideal (hKernel2Ideal := Cert.Kernel2Ideal.Gen.facts)
    (hReference2Ideal := Cert.Reference2Ideal.Gen.facts) := by
  intro m g m' g' _ hag
  have same : ∀ c, refIns m' c = ins m c := fun c => by
    obtain ⟨e0, e1, e2, e3, e4, e5, e6⟩ := hag c
    unfold refIns ins
    exact Ins.mk.injEq .. |>.mpr ⟨e0, e1, e2, e3, e4, e5, e6⟩
  refine ⟨fun c => (ins m c).GP, fun c => (ins m c).UP, fun c => (ins m c).H, fun c => (ins m c).X2, ?_, ?_⟩
  · exact (θ_run _ _ _).mono (fun r h c => ⟨(h c).1.trans (final_gp m c), (h c).2.1.trans (final_up m c),
      (h c).2.2.1.trans (final_h m c), (h c).2.2.2.1.trans (final_x2 m c), (h c).2.2.2.2⟩) (Cert.Kernel2Ideal.Value.run_blocks m g)
  · refine (θ_run _ _ _).mono (fun r h c => ?_) (Cert.Reference2Ideal.Value.run (F := Ideal) m' g')
    exact ⟨(h c).1.trans ((val_main_v43_eq _ _ _).trans ((res_gp (refIns m' c)).trans (congrArg Ins.GP (same c)))),
      (h c).2.1.trans ((val_main_v45_eq _ _ _).trans ((res_up (refIns m' c)).trans (congrArg Ins.UP (same c)))),
      (h c).2.2.1.trans ((val_main_v46_eq _ _).trans ((res_h (refIns m' c)).trans (congrArg Ins.H (same c)))),
      (h c).2.2.2.1.trans ((val_main_v41_eq m' c).trans ((res_x2 (refIns m' c)).trans (congrArg Ins.X2 (same c)))),
      (h c).2.2.2.2⟩

/-- The gated-embedding reference's frame: the generated run leaves its arguments alone, and it declares no semaphore. -/
theorem frame_ri3 : Cert.quiescent_Reference3Ideal := fun m ρ _ =>
  (θ_run Cert.Reference3Ideal.defs _ _).mono (fun r h => ⟨fun c => (h c).2.2.2.2.2.2,
      Idealize.ShloMosaic.sem_eq_zero_of_no_sems (by decide) r.2⟩)
    (Cert.Reference3Ideal.Value.run (F := Ideal) m ρ)

/-- the six arrays in the gated-embedding reference's launch memory -/
def refIns3 (m' : (l : Loc Cert.Reference3Ideal.nD Cert.Reference3Ideal.τ Cert.Reference3Ideal.sig) → Buf (Elt Ideal) l) (c : Dev Cert.Reference3Ideal.nD) : Cert.Kernel3Ideal.Ple.Ins where
  x := m' ((c.tc : Thread Cert.Reference3Ideal.nD Cert.Reference3Ideal.τ).loc Cert.Reference3Ideal.main_arg0)
  e := m' ((c.tc : Thread Cert.Reference3Ideal.nD Cert.Reference3Ideal.τ).loc Cert.Reference3Ideal.main_arg1)
  t := m' ((c.tc : Thread Cert.Reference3Ideal.nD Cert.Reference3Ideal.τ).loc Cert.Reference3Ideal.main_arg2)
  g := m' ((c.tc : Thread Cert.Reference3Ideal.nD Cert.Reference3Ideal.τ).loc Cert.Reference3Ideal.main_arg3)
  wg := m' ((c.tc : Thread Cert.Reference3Ideal.nD Cert.Reference3Ideal.τ).loc Cert.Reference3Ideal.main_arg4)
  wp := m' ((c.tc : Thread Cert.Reference3Ideal.nD Cert.Reference3Ideal.τ).loc Cert.Reference3Ideal.main_arg5)

/-- The gated-embedding value claim: both programs end with the loss, the gradient of the rows and those of the three weights. -/
theorem value3 : Cert.algebraic_Kernel3Ideal_Reference3Ideal_pre_finite3 (hKernel3Ideal := Cert.Kernel3Ideal.Gen.facts)
    (hReference3Ideal := Cert.Reference3Ideal.Gen.facts) (hPre_finite3 := Cert.Reference3Ideal.Ple.pre_facts) := by
  intro m g m' g' hpre hag
  have same : ∀ c, refIns3 m' c = Cert.Kernel3Ideal.Ple.ins m c := fun c => by
    obtain ⟨e0, e1, e2, e3, e4, e5⟩ := hag c
    unfold refIns3 Cert.Kernel3Ideal.Ple.ins
    exact Cert.Kernel3Ideal.Ple.Ins.mk.injEq .. |>.mpr ⟨e0, e1, e2, e3, e4, e5⟩
  have tm : ∀ c, Cert.Reference3Ideal.Ple.Tame (refIns3 m' c) := fun c => by
    rw [same c]
    exact Cert.Reference3Ideal.Ple.tame_of_pre (Cert.Kernel3Ideal.Ple.ins m c) (hpre c).1 (hpre c).2.1 (hpre c).2.2.1
      (hpre c).2.2.2.1 (hpre c).2.2.2.2.1 (hpre c).2.2.2.2.2
  refine ⟨fun c => (Cert.Kernel3Ideal.Ple.ins m c).DX, fun c => (Cert.Kernel3Ideal.Ple.ins m c).DXB, fun c => (Cert.Kernel3Ideal.Ple.ins m c).LOSS, fun c => (Cert.Kernel3Ideal.Ple.ins m c).DW, fun c => (Cert.Kernel3Ideal.Ple.ins m c).DWP, fun c => (Cert.Kernel3Ideal.Ple.ins m c).DG, ?_, ?_⟩
  · exact (θ_run _ _ _).mono (fun r h c => ⟨(h c).1.trans (Cert.Kernel3Ideal.Ple.final_dx m c), (h c).2.1.trans (Cert.Kernel3Ideal.Ple.final_dxb m c), (h c).2.2.1.trans (Cert.Kernel3Ideal.Ple.final_loss m c), (h c).2.2.2.1.trans (Cert.Kernel3Ideal.Ple.final_dw m c), (h c).2.2.2.2.1.trans (Cert.Kernel3Ideal.Ple.final_dwp m c), (h c).2.2.2.2.2.1.trans (Cert.Kernel3Ideal.Ple.final_dg m c), (h c).2.2.2.2.2.2⟩) (Cert.Kernel3Ideal.Value.run_blocks m g)
  · refine (θ_run _ _ _).mono (fun r h c => ?_) (Cert.Reference3Ideal.Value.run (F := Ideal) m' g')
    exact ⟨(h c).1.trans ((Cert.Reference3Ideal.Read.val_main_v70_eq m' c).trans ((Cert.Reference3Ideal.Ple.res_dx (refIns3 m' c) (tm c)).trans (congrArg Cert.Kernel3Ideal.Ple.Ins.DX (same c)))),
      (h c).2.1.trans ((Cert.Reference3Ideal.Read.val_main_v71_eq m' c).trans ((Cert.Reference3Ideal.Ple.res_dxb (refIns3 m' c) (tm c)).trans (congrArg Cert.Kernel3Ideal.Ple.Ins.DXB (same c)))),
      (h c).2.2.1.trans ((Cert.Reference3Ideal.Read.val_main_v72_eq _ _ _ _ _ _).trans ((Cert.Reference3Ideal.Ple.res_loss (refIns3 m' c)).trans (congrArg Cert.Kernel3Ideal.Ple.Ins.LOSS (same c)))),
      (h c).2.2.2.1.trans ((Cert.Reference3Ideal.Read.val_main_v73_eq m' c).trans ((Cert.Reference3Ideal.Ple.res_dw (refIns3 m' c)).trans (congrArg Cert.Kernel3Ideal.Ple.Ins.DW (same c)))),
      (h c).2.2.2.2.1.trans ((Cert.Reference3Ideal.Read.val_main_v46_eq _ _ _ _ _ _).trans ((Cert.Reference3Ideal.Ple.res_dwp (refIns3 m' c)).trans (congrArg Cert.Kernel3Ideal.Ple.Ins.DWP (same c)))),
      (h c).2.2.2.2.2.1.trans ((Cert.Reference3Ideal.Read.val_main_v53_eq m' c).trans ((Cert.Reference3Ideal.Ple.res_dg (refIns3 m' c)).trans (congrArg Cert.Kernel3Ideal.Ple.Ins.DG (same c)))),
      (h c).2.2.2.2.2.2⟩

/-- The input projection reference's frame: the generated run leaves its arguments alone, and it declares no semaphore. -/
theorem frame_ri4 : Cert.quiescent_Reference4Ideal := fun m ρ _ =>
  (θ_run Cert.Reference4Ideal.defs _ _).mono (fun r h => ⟨fun c => (h c).2.2.2.2.2,
      Idealize.ShloMosaic.sem_eq_zero_of_no_sems (by decide) r.2⟩)
    (Cert.Reference4Ideal.Value.run (F := Ideal) m ρ)

/-- the ten arrays in the input projection reference's launch memory -/
def refIns4 (m' : (l : Loc Cert.Reference4Ideal.nD Cert.Reference4Ideal.τ Cert.Reference4Ideal.sig) → Buf (Elt Ideal) l) (c : Dev Cert.Reference4Ideal.nD) : Cert.Kernel4Ideal.Inp.Ins where
  x := m' ((c.tc : Thread Cert.Reference4Ideal.nD Cert.Reference4Ideal.τ).loc Cert.Reference4Ideal.main_arg0)
  g := m' ((c.tc : Thread Cert.Reference4Ideal.nD Cert.Reference4Ideal.τ).loc Cert.Reference4Ideal.main_arg1)
  w := m' ((c.tc : Thread Cert.Reference4Ideal.nD Cert.Reference4Ideal.τ).loc Cert.Reference4Ideal.main_arg2)
  qg := m' ((c.tc : Thread Cert.Reference4Ideal.nD Cert.Reference4Ideal.τ).loc Cert.Reference4Ideal.main_arg3)
  kg := m' ((c.tc : Thread Cert.Reference4Ideal.nD Cert.Reference4Ideal.τ).loc Cert.Reference4Ideal.main_arg4)
  dx1 := m' ((c.tc : Thread Cert.Reference4Ideal.nD Cert.Reference4Ideal.τ).loc Cert.Reference4Ideal.main_arg5)
  dzc := m' ((c.tc : Thread Cert.Reference4Ideal.nD Cert.Reference4Ideal.τ).loc Cert.Reference4Ideal.main_arg6)
  dq := m' ((c.tc : Thread Cert.Reference4Ideal.nD Cert.Reference4Ideal.τ).loc Cert.Reference4Ideal.main_arg7)
  dk := m' ((c.tc : Thread Cert.Reference4Ideal.nD Cert.Reference4Ideal.τ).loc Cert.Reference4Ideal.main_arg8)
  dv := m' ((c.tc : Thread Cert.Reference4Ideal.nD Cert.Reference4Ideal.τ).loc Cert.Reference4Ideal.main_arg9)

/-- The input projection's value claim: both programs end with the gradients of the rows, of the weight and of the three scales. -/
theorem value4 : Cert.algebraic_Kernel4Ideal_Reference4Ideal_pre_finite4 (hKernel4Ideal := Cert.Kernel4Ideal.Gen.facts)
    (hReference4Ideal := Cert.Reference4Ideal.Gen.facts) (hPre_finite4 := Cert.Reference4Ideal.Inp.pre_facts) := by
  intro m g m' g' hpre hag
  have same : ∀ c, refIns4 m' c = Cert.Kernel4Ideal.Inp.ins m c := fun c => by
    obtain ⟨e0, e1, e2, e3, e4, e5, e6, e7, e8, e9⟩ := hag c
    unfold refIns4 Cert.Kernel4Ideal.Inp.ins
    exact Cert.Kernel4Ideal.Inp.Ins.mk.injEq .. |>.mpr ⟨e0, e1, e2, e3, e4, e5, e6, e7, e8, e9⟩
  have tk : ∀ c, Cert.Kernel4Ideal.Inp.Tame (Cert.Kernel4Ideal.Inp.ins m c) := fun c =>
    Cert.Reference4Ideal.Inp.tame_of_pre (Cert.Kernel4Ideal.Inp.ins m c) (hpre c).1 (hpre c).2.1 (hpre c).2.2.1 (hpre c).2.2.2.1 (hpre c).2.2.2.2.1 (hpre c).2.2.2.2.2.1 (hpre c).2.2.2.2.2.2.1 (hpre c).2.2.2.2.2.2.2.1 (hpre c).2.2.2.2.2.2.2.2
  have tm : ∀ c, Cert.Kernel4Ideal.Inp.Tame (refIns4 m' c) := fun c => by
    rw [same c]
    exact tk c
  refine ⟨fun c => (Cert.Kernel4Ideal.Inp.ins m c).DX, fun c => (Cert.Kernel4Ideal.Inp.ins m c).DW, fun c => (Cert.Kernel4Ideal.Inp.ins m c).DG, fun c => (Cert.Kernel4Ideal.Inp.ins m c).DQG, fun c => (Cert.Kernel4Ideal.Inp.ins m c).DKG, ?_, ?_⟩
  · exact (θ_run _ _ _).mono (fun r h c => ⟨((h c).1.trans (Cert.Kernel4Ideal.Inp.final_dx m c (tk c))), ((h c).2.1.trans (Cert.Kernel4Ideal.Inp.final_dw m c (tk c))), ((h c).2.2.1.trans (Cert.Kernel4Ideal.Inp.final_dg m c (tk c))), ((h c).2.2.2.1.trans (Cert.Kernel4Ideal.Inp.final_dqg m c (tk c))), ((h c).2.2.2.2.1.trans (Cert.Kernel4Ideal.Inp.final_dkg m c (tk c))), (h c).2.2.2.2.2⟩) (Cert.Kernel4Ideal.Inp.run_results m g)
  · refine (θ_run _ _ _).mono (fun r h c => ?_) (Cert.Reference4Ideal.Value.run (F := Ideal) m' g')
    exact ⟨(h c).1.trans ((Cert.Reference4Ideal.Read.val_main_v123_eq _).trans ((Cert.Reference4Ideal.Inp.res_dx (refIns4 m' c) (tm c)).trans (congrArg Cert.Kernel4Ideal.Inp.Ins.DX (same c)))),
      (h c).2.1.trans ((Cert.Reference4Ideal.Read.val_main_v126_eq _).trans ((Cert.Reference4Ideal.Inp.res_dw (refIns4 m' c) (tm c)).trans (congrArg Cert.Kernel4Ideal.Inp.Ins.DW (same c)))),
      (h c).2.2.1.trans ((Cert.Reference4Ideal.Read.val_main_v106_eq _).trans ((Cert.Reference4Ideal.Inp.res_dg (refIns4 m' c) (tm c)).trans (congrArg Cert.Kernel4Ideal.Inp.Ins.DG (same c)))),
      (h c).2.2.2.1.trans ((Cert.Reference4Ideal.Read.val_main_v98_eq _).trans ((Cert.Reference4Ideal.Inp.res_dqg (refIns4 m' c)).trans (congrArg Cert.Kernel4Ideal.Inp.Ins.DQG (same c)))),
      (h c).2.2.2.2.1.trans ((Cert.Reference4Ideal.Read.val_main_v76_eq _).trans ((Cert.Reference4Ideal.Inp.res_dkg (refIns4 m' c)).trans (congrArg Cert.Kernel4Ideal.Inp.Ins.DKG (same c)))),
      (h c).2.2.2.2.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.ReferenceIdeal.Grad.pre_facts, Cert.Reference3Ideal.Ple.pre_facts, Cert.Reference4Ideal.Inp.pre_facts,
  fun m ρ _ => Cert.Kernel.Gen.frame m ρ, fun m ρ _ => Cert.KernelIdeal.Gen.frame m ρ,
  fun m ρ _ => Cert.KernelIdeal.Gen.frame m ρ, frame_ri, fun m ρ _ => frame_ri m ρ trivial,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ,
  fun m ρ _ => Cert.Kernel3Ideal.Gen.frame m ρ, frame_ri3, fun m ρ _ => frame_ri3 m ρ trivial,
  fun m ρ _ => Cert.Kernel4.Gen.frame m ρ, fun m ρ _ => Cert.Kernel4Ideal.Gen.frame m ρ,
  fun m ρ _ => Cert.Kernel4Ideal.Gen.frame m ρ, frame_ri4, fun m ρ _ => frame_ri4 m ρ trivial,
  trivial, value, trivial, value2, trivial, value3, trivial, value4⟩

end Cert.Proof

end
